-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelMain (m : (ℓ : Loc Cert.KernelMain.nD Cert.KernelMain.τ Cert.KernelMain.sig) → Buf (Elt Bits) ℓ) : Prop :=
  True

def Pre_KernelMainIdeal (m : (ℓ : Loc Cert.KernelMainIdeal.nD Cert.KernelMainIdeal.τ Cert.KernelMainIdeal.sig) → Buf (Elt Ideal) ℓ) : Prop :=
  True

def Pre_ReferenceMainIdeal (m : (ℓ : Loc Cert.ReferenceMainIdeal.nD Cert.ReferenceMainIdeal.τ Cert.ReferenceMainIdeal.sig) → Buf (Elt Ideal) ℓ) : Prop :=
  True

def Pre_KernelSmall (m : (ℓ : Loc Cert.KernelSmall.nD Cert.KernelSmall.τ Cert.KernelSmall.sig) → Buf (Elt Bits) ℓ) : Prop :=
  True

def Pre_KernelSmallIdeal (m : (ℓ : Loc Cert.KernelSmallIdeal.nD Cert.KernelSmallIdeal.τ Cert.KernelSmallIdeal.sig) → Buf (Elt Ideal) ℓ) : Prop :=
  True

def Pre_ReferenceSmallIdeal (m : (ℓ : Loc Cert.ReferenceSmallIdeal.nD Cert.ReferenceSmallIdeal.τ Cert.ReferenceSmallIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelKeyvalue (m : (ℓ : Loc Cert.KernelKeyvalue.nD Cert.KernelKeyvalue.τ Cert.KernelKeyvalue.sig) → Buf (Elt Bits) ℓ) : Prop :=
  True

def Pre_KernelKeyvalueIdeal (m : (ℓ : Loc Cert.KernelKeyvalueIdeal.nD Cert.KernelKeyvalueIdeal.τ Cert.KernelKeyvalueIdeal.sig) → Buf (Elt Ideal) ℓ) : Prop :=
  True

def Pre_ReferenceKeyvalueIdeal (m : (ℓ : Loc Cert.ReferenceKeyvalueIdeal.nD Cert.ReferenceKeyvalueIdeal.τ Cert.ReferenceKeyvalueIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelFinish (m : (ℓ : Loc Cert.KernelFinish.nD Cert.KernelFinish.τ Cert.KernelFinish.sig) → Buf (Elt Bits) ℓ) : Prop :=
  True

def Pre_KernelFinishIdeal (m : (ℓ : Loc Cert.KernelFinishIdeal.nD Cert.KernelFinishIdeal.τ Cert.KernelFinishIdeal.sig) → Buf (Elt Ideal) ℓ) : Prop :=
  True

def Pre_ReferenceFinishIdeal (m : (ℓ : Loc Cert.ReferenceFinishIdeal.nD Cert.ReferenceFinishIdeal.τ Cert.ReferenceFinishIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelMain [hKernelMain : Cert.KernelMain.Facts] : Prop :=
  ∀ (m : (ℓ : Loc Cert.KernelMain.nD Cert.KernelMain.τ Cert.KernelMain.sig) → Buf (Elt Bits) ℓ) (g : Dev Cert.KernelMain.nD → PrngReg), Pre_KernelMain m →
    θ_run (Cert.KernelMain.defs (F := Bits)) (onTc (τ := Cert.KernelMain.τ) (Cert.KernelMain.main (F := Bits))) ⟨m, fun _ => 0, g⟩ (fun r => (∀ c : Dev Cert.KernelMain.nD,
      r.2.mem ((c.tc : Thread Cert.KernelMain.nD Cert.KernelMain.τ).loc Cert.KernelMain.main_arg0) = m ((c.tc : Thread Cert.KernelMain.nD Cert.KernelMain.τ).loc Cert.KernelMain.main_arg0)
      ∧ r.2.mem ((c.tc : Thread Cert.KernelMain.nD Cert.KernelMain.τ).loc Cert.KernelMain.main_arg1) = m ((c.tc : Thread Cert.KernelMain.nD Cert.KernelMain.τ).loc Cert.KernelMain.main_arg1))
      ∧ r.2.sem = fun _ => 0)

def quiescent_KernelMainIdeal [hKernelMainIdeal : Cert.KernelMainIdeal.Facts] : Prop :=
  ∀ (m : (ℓ : Loc Cert.KernelMainIdeal.nD Cert.KernelMainIdeal.τ Cert.KernelMainIdeal.sig) → Buf (Elt Ideal) ℓ) (g : Dev Cert.KernelMainIdeal.nD → PrngReg), Pre_KernelMainIdeal m →
    θ_run (Cert.KernelMainIdeal.defs (F := Ideal)) (onTc (τ := Cert.KernelMainIdeal.τ) (Cert.KernelMainIdeal.main (F := Ideal))) ⟨m, fun _ => 0, g⟩ (fun r => (∀ c : Dev Cert.KernelMainIdeal.nD,
      r.2.mem ((c.tc : Thread Cert.KernelMainIdeal.nD Cert.KernelMainIdeal.τ).loc Cert.KernelMainIdeal.main_arg0) = m ((c.tc : Thread Cert.KernelMainIdeal.nD Cert.KernelMainIdeal.τ).loc Cert.KernelMainIdeal.main_arg0)
      ∧ r.2.mem ((c.tc : Thread Cert.KernelMainIdeal.nD Cert.KernelMainIdeal.τ).loc Cert.KernelMainIdeal.main_arg1) = m ((c.tc : Thread Cert.KernelMainIdeal.nD Cert.KernelMainIdeal.τ).loc Cert.KernelMainIdeal.main_arg1))
      ∧ r.2.sem = fun _ => 0)

def quiescent_ReferenceMainIdeal [hReferenceMainIdeal : Cert.ReferenceMainIdeal.Facts] : Prop :=
  ∀ (m : (ℓ : Loc Cert.ReferenceMainIdeal.nD Cert.ReferenceMainIdeal.τ Cert.ReferenceMainIdeal.sig) → Buf (Elt Ideal) ℓ) (g : Dev Cert.ReferenceMainIdeal.nD → PrngReg), Pre_ReferenceMainIdeal m →
    θ_run (Cert.ReferenceMainIdeal.defs (F := Ideal)) (onTc (τ := Cert.ReferenceMainIdeal.τ) (Cert.ReferenceMainIdeal.main (F := Ideal))) ⟨m, fun _ => 0, g⟩ (fun r => (∀ c : Dev Cert.ReferenceMainIdeal.nD,
      r.2.mem ((c.tc : Thread Cert.ReferenceMainIdeal.nD Cert.ReferenceMainIdeal.τ).loc Cert.ReferenceMainIdeal.main_arg0) = m ((c.tc : Thread Cert.ReferenceMainIdeal.nD Cert.ReferenceMainIdeal.τ).loc Cert.ReferenceMainIdeal.main_arg0)
      ∧ r.2.mem ((c.tc : Thread Cert.ReferenceMainIdeal.nD Cert.ReferenceMainIdeal.τ).loc Cert.ReferenceMainIdeal.main_arg1) = m ((c.tc : Thread Cert.ReferenceMainIdeal.nD Cert.ReferenceMainIdeal.τ).loc Cert.ReferenceMainIdeal.main_arg1))
      ∧ r.2.sem = fun _ => 0)

def quiescent_KernelSmall [hKernelSmall : Cert.KernelSmall.Facts] : Prop :=
  ∀ (m : (ℓ : Loc Cert.KernelSmall.nD Cert.KernelSmall.τ Cert.KernelSmall.sig) → Buf (Elt Bits) ℓ) (g : Dev Cert.KernelSmall.nD → PrngReg), Pre_KernelSmall m →
    θ_run (Cert.KernelSmall.defs (F := Bits)) (onTc (τ := Cert.KernelSmall.τ) (Cert.KernelSmall.main (F := Bits))) ⟨m, fun _ => 0, g⟩ (fun r => (∀ c : Dev Cert.KernelSmall.nD,
      r.2.mem ((c.tc : Thread Cert.KernelSmall.nD Cert.KernelSmall.τ).loc Cert.KernelSmall.main_arg0) = m ((c.tc : Thread Cert.KernelSmall.nD Cert.KernelSmall.τ).loc Cert.KernelSmall.main_arg0)
      ∧ r.2.mem ((c.tc : Thread Cert.KernelSmall.nD Cert.KernelSmall.τ).loc Cert.KernelSmall.main_arg1) = m ((c.tc : Thread Cert.KernelSmall.nD Cert.KernelSmall.τ).loc Cert.KernelSmall.main_arg1))
      ∧ r.2.sem = fun _ => 0)

def quiescent_KernelSmallIdeal [hKernelSmallIdeal : Cert.KernelSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1))
      ∧ r.2.sem = fun _ => 0)

def quiescent_ReferenceSmallIdeal [hReferenceSmallIdeal : Cert.ReferenceSmallIdeal.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1)
      ∧ r.2.mem ((c.tc : Thread Cert.KernelQuery.nD Cert.KernelQuery.τ).loc Cert.KernelQuery.main_arg2) = m ((c.tc : Thread Cert.KernelQuery.nD Cert.KernelQuery.τ).loc Cert.KernelQuery.main_arg2))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
      ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1)
      ∧ r.2.mem ((c.tc : Thread Cert.ReferenceQueryIdeal.nD Cert.ReferenceQueryIdeal.τ).loc Cert.ReferenceQueryIdeal.main_arg2) = m ((c.tc : Thread Cert.ReferenceQueryIdeal.nD Cert.ReferenceQueryIdeal.τ).loc Cert.ReferenceQueryIdeal.main_arg2))
      ∧ r.2.sem = fun _ => 0)

def quiescent_KernelKeyvalue [hKernelKeyvalue : Cert.KernelKeyvalue.Facts] : Prop :=
  ∀ (m : (ℓ : Loc Cert.KernelKeyvalue.nD Cert.KernelKeyvalue.τ Cert.KernelKeyvalue.sig) → Buf (Elt Bits) ℓ) (g : Dev Cert.KernelKeyvalue.nD → PrngReg), Pre_KernelKeyvalue m →
    θ_run (Cert.KernelKeyvalue.defs (F := Bits)) (onTc (τ := Cert.KernelKeyvalue.τ) (Cert.KernelKeyvalue.main (F := Bits))) ⟨m, fun _ => 0, g⟩ (fun r => (∀ c : Dev Cert.KernelKeyvalue.nD,
      r.2.mem ((c.tc : Thread Cert.KernelKeyvalue.nD Cert.KernelKeyvalue.τ).loc Cert.KernelKeyvalue.main_arg0) = m ((c.tc : Thread Cert.KernelKeyvalue.nD Cert.KernelKeyvalue.τ).loc Cert.KernelKeyvalue.main_arg0)
      ∧ r.2.mem ((c.tc : Thread Cert.KernelKeyvalue.nD Cert.KernelKeyvalue.τ).loc Cert.KernelKeyvalue.main_arg1) = m ((c.tc : Thread Cert.KernelKeyvalue.nD Cert.KernelKeyvalue.τ).loc Cert.KernelKeyvalue.main_arg1)
      ∧ r.2.mem ((c.tc : Thread Cert.KernelKeyvalue.nD Cert.KernelKeyvalue.τ).loc Cert.KernelKeyvalue.main_arg2) = m ((c.tc : Thread Cert.KernelKeyvalue.nD Cert.KernelKeyvalue.τ).loc Cert.KernelKeyvalue.main_arg2))
      ∧ r.2.sem = fun _ => 0)

def quiescent_KernelKeyvalueIdeal [hKernelKeyvalueIdeal : Cert.KernelKeyvalueIdeal.Facts] : Prop :=
  ∀ (m : (ℓ : Loc Cert.KernelKeyvalueIdeal.nD Cert.KernelKeyvalueIdeal.τ Cert.KernelKeyvalueIdeal.sig) → Buf (Elt Ideal) ℓ) (g : Dev Cert.KernelKeyvalueIdeal.nD → PrngReg), Pre_KernelKeyvalueIdeal m →
    θ_run (Cert.KernelKeyvalueIdeal.defs (F := Ideal)) (onTc (τ := Cert.KernelKeyvalueIdeal.τ) (Cert.KernelKeyvalueIdeal.main (F := Ideal))) ⟨m, fun _ => 0, g⟩ (fun r => (∀ c : Dev Cert.KernelKeyvalueIdeal.nD,
      r.2.mem ((c.tc : Thread Cert.KernelKeyvalueIdeal.nD Cert.KernelKeyvalueIdeal.τ).loc Cert.KernelKeyvalueIdeal.main_arg0) = m ((c.tc : Thread Cert.KernelKeyvalueIdeal.nD Cert.KernelKeyvalueIdeal.τ).loc Cert.KernelKeyvalueIdeal.main_arg0)
      ∧ r.2.mem ((c.tc : Thread Cert.KernelKeyvalueIdeal.nD Cert.KernelKeyvalueIdeal.τ).loc Cert.KernelKeyvalueIdeal.main_arg1) = m ((c.tc : Thread Cert.KernelKeyvalueIdeal.nD Cert.KernelKeyvalueIdeal.τ).loc Cert.KernelKeyvalueIdeal.main_arg1)
      ∧ r.2.mem ((c.tc : Thread Cert.KernelKeyvalueIdeal.nD Cert.KernelKeyvalueIdeal.τ).loc Cert.KernelKeyvalueIdeal.main_arg2) = m ((c.tc : Thread Cert.KernelKeyvalueIdeal.nD Cert.KernelKeyvalueIdeal.τ).loc Cert.KernelKeyvalueIdeal.main_arg2))
      ∧ r.2.sem = fun _ => 0)

def quiescent_ReferenceKeyvalueIdeal [hReferenceKeyvalueIdeal : Cert.ReferenceKeyvalueIdeal.Facts] : Prop :=
  ∀ (m : (ℓ : Loc Cert.ReferenceKeyvalueIdeal.nD Cert.ReferenceKeyvalueIdeal.τ Cert.ReferenceKeyvalueIdeal.sig) → Buf (Elt Ideal) ℓ) (g : Dev Cert.ReferenceKeyvalueIdeal.nD → PrngReg), Pre_ReferenceKeyvalueIdeal m →
    θ_run (Cert.ReferenceKeyvalueIdeal.defs (F := Ideal)) (onTc (τ := Cert.ReferenceKeyvalueIdeal.τ) (Cert.ReferenceKeyvalueIdeal.main (F := Ideal))) ⟨m, fun _ => 0, g⟩ (fun r => (∀ c : Dev Cert.ReferenceKeyvalueIdeal.nD,
      r.2.mem ((c.tc : Thread Cert.ReferenceKeyvalueIdeal.nD Cert.ReferenceKeyvalueIdeal.τ).loc Cert.ReferenceKeyvalueIdeal.main_arg0) = m ((c.tc : Thread Cert.ReferenceKeyvalueIdeal.nD Cert.ReferenceKeyvalueIdeal.τ).loc Cert.ReferenceKeyvalueIdeal.main_arg0)
      ∧ r.2.mem ((c.tc : Thread Cert.ReferenceKeyvalueIdeal.nD Cert.ReferenceKeyvalueIdeal.τ).loc Cert.ReferenceKeyvalueIdeal.main_arg1) = m ((c.tc : Thread Cert.ReferenceKeyvalueIdeal.nD Cert.ReferenceKeyvalueIdeal.τ).loc Cert.ReferenceKeyvalueIdeal.main_arg1)
      ∧ r.2.mem ((c.tc : Thread Cert.ReferenceKeyvalueIdeal.nD Cert.ReferenceKeyvalueIdeal.τ).loc Cert.ReferenceKeyvalueIdeal.main_arg2) = m ((c.tc : Thread Cert.ReferenceKeyvalueIdeal.nD Cert.ReferenceKeyvalueIdeal.τ).loc Cert.ReferenceKeyvalueIdeal.main_arg2))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelFinish [hKernelFinish : Cert.KernelFinish.Facts] : Prop :=
  ∀ (m : (ℓ : Loc Cert.KernelFinish.nD Cert.KernelFinish.τ Cert.KernelFinish.sig) → Buf (Elt Bits) ℓ) (g : Dev Cert.KernelFinish.nD → PrngReg), Pre_KernelFinish m →
    θ_run (Cert.KernelFinish.defs (F := Bits)) (onTc (τ := Cert.KernelFinish.τ) (Cert.KernelFinish.main (F := Bits))) ⟨m, fun _ => 0, g⟩ (fun r => (∀ c : Dev Cert.KernelFinish.nD,
      r.2.mem ((c.tc : Thread Cert.KernelFinish.nD Cert.KernelFinish.τ).loc Cert.KernelFinish.main_arg0) = m ((c.tc : Thread Cert.KernelFinish.nD Cert.KernelFinish.τ).loc Cert.KernelFinish.main_arg0)
      ∧ r.2.mem ((c.tc : Thread Cert.KernelFinish.nD Cert.KernelFinish.τ).loc Cert.KernelFinish.main_arg1) = m ((c.tc : Thread Cert.KernelFinish.nD Cert.KernelFinish.τ).loc Cert.KernelFinish.main_arg1)
      ∧ r.2.mem ((c.tc : Thread Cert.KernelFinish.nD Cert.KernelFinish.τ).loc Cert.KernelFinish.main_arg2) = m ((c.tc : Thread Cert.KernelFinish.nD Cert.KernelFinish.τ).loc Cert.KernelFinish.main_arg2)
      ∧ r.2.mem ((c.tc : Thread Cert.KernelFinish.nD Cert.KernelFinish.τ).loc Cert.KernelFinish.main_arg3) = m ((c.tc : Thread Cert.KernelFinish.nD Cert.KernelFinish.τ).loc Cert.KernelFinish.main_arg3)
      ∧ r.2.mem ((c.tc : Thread Cert.KernelFinish.nD Cert.KernelFinish.τ).loc Cert.KernelFinish.main_arg4) = m ((c.tc : Thread Cert.KernelFinish.nD Cert.KernelFinish.τ).loc Cert.KernelFinish.main_arg4)
      ∧ r.2.mem ((c.tc : Thread Cert.KernelFinish.nD Cert.KernelFinish.τ).loc Cert.KernelFinish.main_arg5) = m ((c.tc : Thread Cert.KernelFinish.nD Cert.KernelFinish.τ).loc Cert.KernelFinish.main_arg5))
      ∧ r.2.sem = fun _ => 0)

def quiescent_KernelFinishIdeal [hKernelFinishIdeal : Cert.KernelFinishIdeal.Facts] : Prop :=
  ∀ (m : (ℓ : Loc Cert.KernelFinishIdeal.nD Cert.KernelFinishIdeal.τ Cert.KernelFinishIdeal.sig) → Buf (Elt Ideal) ℓ) (g : Dev Cert.KernelFinishIdeal.nD → PrngReg), Pre_KernelFinishIdeal m →
    θ_run (Cert.KernelFinishIdeal.defs (F := Ideal)) (onTc (τ := Cert.KernelFinishIdeal.τ) (Cert.KernelFinishIdeal.main (F := Ideal))) ⟨m, fun _ => 0, g⟩ (fun r => (∀ c : Dev Cert.KernelFinishIdeal.nD,
      r.2.mem ((c.tc : Thread Cert.KernelFinishIdeal.nD Cert.KernelFinishIdeal.τ).loc Cert.KernelFinishIdeal.main_arg0) = m ((c.tc : Thread Cert.KernelFinishIdeal.nD Cert.KernelFinishIdeal.τ).loc Cert.KernelFinishIdeal.main_arg0)
      ∧ r.2.mem ((c.tc : Thread Cert.KernelFinishIdeal.nD Cert.KernelFinishIdeal.τ).loc Cert.KernelFinishIdeal.main_arg1) = m ((c.tc : Thread Cert.KernelFinishIdeal.nD Cert.KernelFinishIdeal.τ).loc Cert.KernelFinishIdeal.main_arg1)
      ∧ r.2.mem ((c.tc : Thread Cert.KernelFinishIdeal.nD Cert.KernelFinishIdeal.τ).loc Cert.KernelFinishIdeal.main_arg2) = m ((c.tc : Thread Cert.KernelFinishIdeal.nD Cert.KernelFinishIdeal.τ).loc Cert.KernelFinishIdeal.main_arg2)
      ∧ r.2.mem ((c.tc : Thread Cert.KernelFinishIdeal.nD Cert.KernelFinishIdeal.τ).loc Cert.KernelFinishIdeal.main_arg3) = m ((c.tc : Thread Cert.KernelFinishIdeal.nD Cert.KernelFinishIdeal.τ).loc Cert.KernelFinishIdeal.main_arg3)
      ∧ r.2.mem ((c.tc : Thread Cert.KernelFinishIdeal.nD Cert.KernelFinishIdeal.τ).loc Cert.KernelFinishIdeal.main_arg4) = m ((c.tc : Thread Cert.KernelFinishIdeal.nD Cert.KernelFinishIdeal.τ).loc Cert.KernelFinishIdeal.main_arg4)
      ∧ r.2.mem ((c.tc : Thread Cert.KernelFinishIdeal.nD Cert.KernelFinishIdeal.τ).loc Cert.KernelFinishIdeal.main_arg5) = m ((c.tc : Thread Cert.KernelFinishIdeal.nD Cert.KernelFinishIdeal.τ).loc Cert.KernelFinishIdeal.main_arg5))
      ∧ r.2.sem = fun _ => 0)

def quiescent_ReferenceFinishIdeal [hReferenceFinishIdeal : Cert.ReferenceFinishIdeal.Facts] : Prop :=
  ∀ (m : (ℓ : Loc Cert.ReferenceFinishIdeal.nD Cert.ReferenceFinishIdeal.τ Cert.ReferenceFinishIdeal.sig) → Buf (Elt Ideal) ℓ) (g : Dev Cert.ReferenceFinishIdeal.nD → PrngReg), Pre_ReferenceFinishIdeal m →
    θ_run (Cert.ReferenceFinishIdeal.defs (F := Ideal)) (onTc (τ := Cert.ReferenceFinishIdeal.τ) (Cert.ReferenceFinishIdeal.main (F := Ideal))) ⟨m, fun _ => 0, g⟩ (fun r => (∀ c : Dev Cert.ReferenceFinishIdeal.nD,
      r.2.mem ((c.tc : Thread Cert.ReferenceFinishIdeal.nD Cert.ReferenceFinishIdeal.τ).loc Cert.ReferenceFinishIdeal.main_arg0) = m ((c.tc : Thread Cert.ReferenceFinishIdeal.nD Cert.ReferenceFinishIdeal.τ).loc Cert.ReferenceFinishIdeal.main_arg0)
      ∧ r.2.mem ((c.tc : Thread Cert.ReferenceFinishIdeal.nD Cert.ReferenceFinishIdeal.τ).loc Cert.ReferenceFinishIdeal.main_arg1) = m ((c.tc : Thread Cert.ReferenceFinishIdeal.nD Cert.ReferenceFinishIdeal.τ).loc Cert.ReferenceFinishIdeal.main_arg1)
      ∧ r.2.mem ((c.tc : Thread Cert.ReferenceFinishIdeal.nD Cert.ReferenceFinishIdeal.τ).loc Cert.ReferenceFinishIdeal.main_arg2) = m ((c.tc : Thread Cert.ReferenceFinishIdeal.nD Cert.ReferenceFinishIdeal.τ).loc Cert.ReferenceFinishIdeal.main_arg2)
      ∧ r.2.mem ((c.tc : Thread Cert.ReferenceFinishIdeal.nD Cert.ReferenceFinishIdeal.τ).loc Cert.ReferenceFinishIdeal.main_arg3) = m ((c.tc : Thread Cert.ReferenceFinishIdeal.nD Cert.ReferenceFinishIdeal.τ).loc Cert.ReferenceFinishIdeal.main_arg3)
      ∧ r.2.mem ((c.tc : Thread Cert.ReferenceFinishIdeal.nD Cert.ReferenceFinishIdeal.τ).loc Cert.ReferenceFinishIdeal.main_arg4) = m ((c.tc : Thread Cert.ReferenceFinishIdeal.nD Cert.ReferenceFinishIdeal.τ).loc Cert.ReferenceFinishIdeal.main_arg4)
      ∧ r.2.mem ((c.tc : Thread Cert.ReferenceFinishIdeal.nD Cert.ReferenceFinishIdeal.τ).loc Cert.ReferenceFinishIdeal.main_arg5) = m ((c.tc : Thread Cert.ReferenceFinishIdeal.nD Cert.ReferenceFinishIdeal.τ).loc Cert.ReferenceFinishIdeal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelDown_KernelDownIdeal : Prop :=
  IdealRules.named_const.Statement Cert.KernelDownIdeal.κ "alpha" .f32 0x3FD744FD#32 ((Real.sqrt (Real.sqrt 8) : ℝ) : EReal)

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v6_0)) (v1 : (c : Dev Cert.KernelDownIdeal.nD) → Buf (Elt Ideal) ((c.tc : Thread Cert.KernelDownIdeal.nD Cert.KernelDownIdeal.τ).loc Cert.KernelDownIdeal.main_v6_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v6_0) = v0 c
          ∧ r.2.mem ((c.tc : Thread Cert.KernelDownIdeal.nD Cert.KernelDownIdeal.τ).loc Cert.KernelDownIdeal.main_v6_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v30) = v0 c
          ∧ r.2.mem ((c.tc : Thread Cert.ReferenceDownIdeal.nD Cert.ReferenceDownIdeal.τ).loc Cert.ReferenceDownIdeal.main_v31) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelMain_KernelMainIdeal : Prop :=
  True

def algebraic_KernelMainIdeal_ReferenceMainIdeal [hKernelMainIdeal : Cert.KernelMainIdeal.Facts] [hReferenceMainIdeal : Cert.ReferenceMainIdeal.Facts] : Prop :=
  ∀ (m : (ℓ : Loc Cert.KernelMainIdeal.nD Cert.KernelMainIdeal.τ Cert.KernelMainIdeal.sig) → Buf (Elt Ideal) ℓ) (g : Dev Cert.KernelMainIdeal.nD → PrngReg)
    (m' : (ℓ : Loc Cert.ReferenceMainIdeal.nD Cert.ReferenceMainIdeal.τ Cert.ReferenceMainIdeal.sig) → Buf (Elt Ideal) ℓ) (g' : Dev Cert.ReferenceMainIdeal.nD → PrngReg), Pre_KernelMainIdeal m →
    (∀ c : Dev Cert.KernelMainIdeal.nD,
      m' ((c.tc : Thread Cert.ReferenceMainIdeal.nD Cert.ReferenceMainIdeal.τ).loc Cert.ReferenceMainIdeal.main_arg0) = m ((c.tc : Thread Cert.KernelMainIdeal.nD Cert.KernelMainIdeal.τ).loc Cert.KernelMainIdeal.main_arg0)
      ∧ m' ((c.tc : Thread Cert.ReferenceMainIdeal.nD Cert.ReferenceMainIdeal.τ).loc Cert.ReferenceMainIdeal.main_arg1) = m ((c.tc : Thread Cert.KernelMainIdeal.nD Cert.KernelMainIdeal.τ).loc Cert.KernelMainIdeal.main_arg1)) →
    ∃ (v0 : (c : Dev Cert.KernelMainIdeal.nD) → Buf (Elt Ideal) ((c.tc : Thread Cert.KernelMainIdeal.nD Cert.KernelMainIdeal.τ).loc Cert.KernelMainIdeal.main_v4)),
      θ_run (Cert.KernelMainIdeal.defs (F := Ideal)) (onTc (τ := Cert.KernelMainIdeal.τ) (Cert.KernelMainIdeal.main (F := Ideal))) ⟨m, fun _ => 0, g⟩ (fun r => ∀ c : Dev Cert.KernelMainIdeal.nD,
          r.2.mem ((c.tc : Thread Cert.KernelMainIdeal.nD Cert.KernelMainIdeal.τ).loc Cert.KernelMainIdeal.main_v4) = v0 c
          ∧ r.2.mem ((c.tc : Thread Cert.KernelMainIdeal.nD Cert.KernelMainIdeal.τ).loc Cert.KernelMainIdeal.main_arg0) = m ((c.tc : Thread Cert.KernelMainIdeal.nD Cert.KernelMainIdeal.τ).loc Cert.KernelMainIdeal.main_arg0)
          ∧ r.2.mem ((c.tc : Thread Cert.KernelMainIdeal.nD Cert.KernelMainIdeal.τ).loc Cert.KernelMainIdeal.main_arg1) = m ((c.tc : Thread Cert.KernelMainIdeal.nD Cert.KernelMainIdeal.τ).loc Cert.KernelMainIdeal.main_arg1))
      ∧ θ_run (Cert.ReferenceMainIdeal.defs (F := Ideal)) (onTc (τ := Cert.ReferenceMainIdeal.τ) (Cert.ReferenceMainIdeal.main (F := Ideal))) ⟨m', fun _ => 0, g'⟩ (fun r => ∀ c : Dev Cert.ReferenceMainIdeal.nD,
          r.2.mem ((c.tc : Thread Cert.ReferenceMainIdeal.nD Cert.ReferenceMainIdeal.τ).loc Cert.ReferenceMainIdeal.main_v10) = v0 c
          ∧ r.2.mem ((c.tc : Thread Cert.ReferenceMainIdeal.nD Cert.ReferenceMainIdeal.τ).loc Cert.ReferenceMainIdeal.main_arg0) = m' ((c.tc : Thread Cert.ReferenceMainIdeal.nD Cert.ReferenceMainIdeal.τ).loc Cert.ReferenceMainIdeal.main_arg0)
          ∧ r.2.mem ((c.tc : Thread Cert.ReferenceMainIdeal.nD Cert.ReferenceMainIdeal.τ).loc Cert.ReferenceMainIdeal.main_arg1) = m' ((c.tc : Thread Cert.ReferenceMainIdeal.nD Cert.ReferenceMainIdeal.τ).loc Cert.ReferenceMainIdeal.main_arg1))

def preserves_KernelSmall_KernelSmallIdeal : Prop :=
  True

def algebraic_KernelSmallIdeal_ReferenceSmallIdeal [hKernelSmallIdeal : Cert.KernelSmallIdeal.Facts] [hReferenceSmallIdeal : Cert.ReferenceSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg)
    (m' : (ℓ : Loc Cert.ReferenceSmallIdeal.nD Cert.ReferenceSmallIdeal.τ Cert.ReferenceSmallIdeal.sig) → Buf (Elt Ideal) ℓ) (g' : Dev Cert.ReferenceSmallIdeal.nD → PrngReg), Pre_KernelSmallIdeal m →
    (∀ c : Dev Cert.KernelSmallIdeal.nD,
      m' ((c.tc : Thread Cert.ReferenceSmallIdeal.nD Cert.ReferenceSmallIdeal.τ).loc Cert.ReferenceSmallIdeal.main_arg0) = m ((c.tc : Thread Cert.KernelSmallIdeal.nD Cert.KernelSmallIdeal.τ).loc Cert.KernelSmallIdeal.main_arg0)
      ∧ m' ((c.tc : Thread Cert.ReferenceSmallIdeal.nD Cert.ReferenceSmallIdeal.τ).loc Cert.ReferenceSmallIdeal.main_arg1) = m ((c.tc : Thread Cert.KernelSmallIdeal.nD Cert.KernelSmallIdeal.τ).loc Cert.KernelSmallIdeal.main_arg1)) →
    ∃ (v0 : (c : Dev Cert.KernelSmallIdeal.nD) → Buf (Elt Ideal) ((c.tc : Thread Cert.KernelSmallIdeal.nD Cert.KernelSmallIdeal.τ).loc Cert.KernelSmallIdeal.main_v7)),
      θ_run (Cert.KernelSmallIdeal.defs (F := Ideal)) (onTc (τ := Cert.KernelSmallIdeal.τ) (Cert.KernelSmallIdeal.main (F := Ideal))) ⟨m, fun _ => 0, g⟩ (fun r => ∀ c : Dev Cert.KernelSmallIdeal.nD,
          r.2.mem ((c.tc : Thread Cert.KernelSmallIdeal.nD Cert.KernelSmallIdeal.τ).loc Cert.KernelSmallIdeal.main_v7) = v0 c
          ∧ r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
          ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1))
      ∧ θ_run (Cert.ReferenceSmallIdeal.defs (F := Ideal)) (onTc (τ := Cert.ReferenceSmallIdeal.τ) (Cert.ReferenceSmallIdeal.main (F := Ideal))) ⟨m', fun _ => 0, g'⟩ (fun r => ∀ c : Dev Cert.ReferenceSmallIdeal.nD,
          r.2.mem ((c.tc : Thread Cert.ReferenceSmallIdeal.nD Cert.ReferenceSmallIdeal.τ).loc Cert.ReferenceSmallIdeal.main_v12) = v0 c
          ∧ r.2.mem ((c.tc : Thread Cert.ReferenceSmallIdeal.nD Cert.ReferenceSmallIdeal.τ).loc Cert.ReferenceSmallIdeal.main_arg0) = m' ((c.tc : Thread Cert.ReferenceSmallIdeal.nD Cert.ReferenceSmallIdeal.τ).loc Cert.ReferenceSmallIdeal.main_arg0)
          ∧ r.2.mem ((c.tc : Thread Cert.ReferenceSmallIdeal.nD Cert.ReferenceSmallIdeal.τ).loc Cert.ReferenceSmallIdeal.main_arg1) = m' ((c.tc : Thread Cert.ReferenceSmallIdeal.nD Cert.ReferenceSmallIdeal.τ).loc Cert.ReferenceSmallIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)) →
    ∃ (v0 : (c : Dev Cert.KernelMergeIdeal.nD) → Buf (Elt Ideal) ((c.tc : Thread Cert.KernelMergeIdeal.nD Cert.KernelMergeIdeal.τ).loc Cert.KernelMergeIdeal.main_v2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v2) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v23) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4))

def preserves_KernelOut_KernelOutIdeal : Prop :=
  IdealRules.named_const.Statement Cert.KernelOutIdeal.κ "alpha" .f32 0x3FD744FD#32 ((Real.sqrt (Real.sqrt 8) : ℝ) : EReal)

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v6_0)) (v1 : (c : Dev Cert.KernelOutIdeal.nD) → Buf (Elt Ideal) ((c.tc : Thread Cert.KernelOutIdeal.nD Cert.KernelOutIdeal.τ).loc Cert.KernelOutIdeal.main_v6_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v6_0) = v0 c
          ∧ r.2.mem ((c.tc : Thread Cert.KernelOutIdeal.nD Cert.KernelOutIdeal.τ).loc Cert.KernelOutIdeal.main_v6_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v30) = v0 c
          ∧ r.2.mem ((c.tc : Thread Cert.ReferenceOutIdeal.nD Cert.ReferenceOutIdeal.τ).loc Cert.ReferenceOutIdeal.main_v31) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelQuery_KernelQueryIdeal : Prop :=
  IdealRules.named_const.Statement Cert.KernelQueryIdeal.κ "scale" .f32 0x3D93CD3A#32 (((Real.sqrt 192)⁻¹ : ℝ) : EReal)

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)
      ∧ m' ((c.tc : Thread Cert.ReferenceQueryIdeal.nD Cert.ReferenceQueryIdeal.τ).loc Cert.ReferenceQueryIdeal.main_arg2) = m ((c.tc : Thread Cert.KernelQueryIdeal.nD Cert.KernelQueryIdeal.τ).loc Cert.KernelQueryIdeal.main_arg2)) →
    ∃ (v0 : (c : Dev Cert.KernelQueryIdeal.nD) → Buf (Elt Ideal) ((c.tc : Thread Cert.KernelQueryIdeal.nD Cert.KernelQueryIdeal.τ).loc Cert.KernelQueryIdeal.main_v31)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v31) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
          ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v62) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1)
          ∧ r.2.mem ((c.tc : Thread Cert.ReferenceQueryIdeal.nD Cert.ReferenceQueryIdeal.τ).loc Cert.ReferenceQueryIdeal.main_arg2) = m' ((c.tc : Thread Cert.ReferenceQueryIdeal.nD Cert.ReferenceQueryIdeal.τ).loc Cert.ReferenceQueryIdeal.main_arg2))

def preserves_KernelKeyvalue_KernelKeyvalueIdeal : Prop :=
  True

def algebraic_KernelKeyvalueIdeal_ReferenceKeyvalueIdeal [hKernelKeyvalueIdeal : Cert.KernelKeyvalueIdeal.Facts] [hReferenceKeyvalueIdeal : Cert.ReferenceKeyvalueIdeal.Facts] : Prop :=
  ∀ (m : (ℓ : Loc Cert.KernelKeyvalueIdeal.nD Cert.KernelKeyvalueIdeal.τ Cert.KernelKeyvalueIdeal.sig) → Buf (Elt Ideal) ℓ) (g : Dev Cert.KernelKeyvalueIdeal.nD → PrngReg)
    (m' : (ℓ : Loc Cert.ReferenceKeyvalueIdeal.nD Cert.ReferenceKeyvalueIdeal.τ Cert.ReferenceKeyvalueIdeal.sig) → Buf (Elt Ideal) ℓ) (g' : Dev Cert.ReferenceKeyvalueIdeal.nD → PrngReg), Pre_KernelKeyvalueIdeal m →
    (∀ c : Dev Cert.KernelKeyvalueIdeal.nD,
      m' ((c.tc : Thread Cert.ReferenceKeyvalueIdeal.nD Cert.ReferenceKeyvalueIdeal.τ).loc Cert.ReferenceKeyvalueIdeal.main_arg0) = m ((c.tc : Thread Cert.KernelKeyvalueIdeal.nD Cert.KernelKeyvalueIdeal.τ).loc Cert.KernelKeyvalueIdeal.main_arg0)
      ∧ m' ((c.tc : Thread Cert.ReferenceKeyvalueIdeal.nD Cert.ReferenceKeyvalueIdeal.τ).loc Cert.ReferenceKeyvalueIdeal.main_arg1) = m ((c.tc : Thread Cert.KernelKeyvalueIdeal.nD Cert.KernelKeyvalueIdeal.τ).loc Cert.KernelKeyvalueIdeal.main_arg1)
      ∧ m' ((c.tc : Thread Cert.ReferenceKeyvalueIdeal.nD Cert.ReferenceKeyvalueIdeal.τ).loc Cert.ReferenceKeyvalueIdeal.main_arg2) = m ((c.tc : Thread Cert.KernelKeyvalueIdeal.nD Cert.KernelKeyvalueIdeal.τ).loc Cert.KernelKeyvalueIdeal.main_arg2)) →
    ∃ (v0 : (c : Dev Cert.KernelKeyvalueIdeal.nD) → Buf (Elt Ideal) ((c.tc : Thread Cert.KernelKeyvalueIdeal.nD Cert.KernelKeyvalueIdeal.τ).loc Cert.KernelKeyvalueIdeal.main_v28_0)) (v1 : (c : Dev Cert.KernelKeyvalueIdeal.nD) → Buf (Elt Ideal) ((c.tc : Thread Cert.KernelKeyvalueIdeal.nD Cert.KernelKeyvalueIdeal.τ).loc Cert.KernelKeyvalueIdeal.main_v28_1)),
      θ_run (Cert.KernelKeyvalueIdeal.defs (F := Ideal)) (onTc (τ := Cert.KernelKeyvalueIdeal.τ) (Cert.KernelKeyvalueIdeal.main (F := Ideal))) ⟨m, fun _ => 0, g⟩ (fun r => ∀ c : Dev Cert.KernelKeyvalueIdeal.nD,
          r.2.mem ((c.tc : Thread Cert.KernelKeyvalueIdeal.nD Cert.KernelKeyvalueIdeal.τ).loc Cert.KernelKeyvalueIdeal.main_v28_0) = v0 c
          ∧ r.2.mem ((c.tc : Thread Cert.KernelKeyvalueIdeal.nD Cert.KernelKeyvalueIdeal.τ).loc Cert.KernelKeyvalueIdeal.main_v28_1) = v1 c
          ∧ r.2.mem ((c.tc : Thread Cert.KernelKeyvalueIdeal.nD Cert.KernelKeyvalueIdeal.τ).loc Cert.KernelKeyvalueIdeal.main_arg0) = m ((c.tc : Thread Cert.KernelKeyvalueIdeal.nD Cert.KernelKeyvalueIdeal.τ).loc Cert.KernelKeyvalueIdeal.main_arg0)
          ∧ r.2.mem ((c.tc : Thread Cert.KernelKeyvalueIdeal.nD Cert.KernelKeyvalueIdeal.τ).loc Cert.KernelKeyvalueIdeal.main_arg1) = m ((c.tc : Thread Cert.KernelKeyvalueIdeal.nD Cert.KernelKeyvalueIdeal.τ).loc Cert.KernelKeyvalueIdeal.main_arg1)
          ∧ r.2.mem ((c.tc : Thread Cert.KernelKeyvalueIdeal.nD Cert.KernelKeyvalueIdeal.τ).loc Cert.KernelKeyvalueIdeal.main_arg2) = m ((c.tc : Thread Cert.KernelKeyvalueIdeal.nD Cert.KernelKeyvalueIdeal.τ).loc Cert.KernelKeyvalueIdeal.main_arg2))
      ∧ θ_run (Cert.ReferenceKeyvalueIdeal.defs (F := Ideal)) (onTc (τ := Cert.ReferenceKeyvalueIdeal.τ) (Cert.ReferenceKeyvalueIdeal.main (F := Ideal))) ⟨m', fun _ => 0, g'⟩ (fun r => ∀ c : Dev Cert.ReferenceKeyvalueIdeal.nD,
          r.2.mem ((c.tc : Thread Cert.ReferenceKeyvalueIdeal.nD Cert.ReferenceKeyvalueIdeal.τ).loc Cert.ReferenceKeyvalueIdeal.main_v61) = v0 c
          ∧ r.2.mem ((c.tc : Thread Cert.ReferenceKeyvalueIdeal.nD Cert.ReferenceKeyvalueIdeal.τ).loc Cert.ReferenceKeyvalueIdeal.main_v63) = v1 c
          ∧ r.2.mem ((c.tc : Thread Cert.ReferenceKeyvalueIdeal.nD Cert.ReferenceKeyvalueIdeal.τ).loc Cert.ReferenceKeyvalueIdeal.main_arg0) = m' ((c.tc : Thread Cert.ReferenceKeyvalueIdeal.nD Cert.ReferenceKeyvalueIdeal.τ).loc Cert.ReferenceKeyvalueIdeal.main_arg0)
          ∧ r.2.mem ((c.tc : Thread Cert.ReferenceKeyvalueIdeal.nD Cert.ReferenceKeyvalueIdeal.τ).loc Cert.ReferenceKeyvalueIdeal.main_arg1) = m' ((c.tc : Thread Cert.ReferenceKeyvalueIdeal.nD Cert.ReferenceKeyvalueIdeal.τ).loc Cert.ReferenceKeyvalueIdeal.main_arg1)
          ∧ r.2.mem ((c.tc : Thread Cert.ReferenceKeyvalueIdeal.nD Cert.ReferenceKeyvalueIdeal.τ).loc Cert.ReferenceKeyvalueIdeal.main_arg2) = m' ((c.tc : Thread Cert.ReferenceKeyvalueIdeal.nD Cert.ReferenceKeyvalueIdeal.τ).loc Cert.ReferenceKeyvalueIdeal.main_arg2))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v19)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v19) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v44) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelFinish_KernelFinishIdeal : Prop :=
  True

def algebraic_KernelFinishIdeal_ReferenceFinishIdeal [hKernelFinishIdeal : Cert.KernelFinishIdeal.Facts] [hReferenceFinishIdeal : Cert.ReferenceFinishIdeal.Facts] : Prop :=
  ∀ (m : (ℓ : Loc Cert.KernelFinishIdeal.nD Cert.KernelFinishIdeal.τ Cert.KernelFinishIdeal.sig) → Buf (Elt Ideal) ℓ) (g : Dev Cert.KernelFinishIdeal.nD → PrngReg)
    (m' : (ℓ : Loc Cert.ReferenceFinishIdeal.nD Cert.ReferenceFinishIdeal.τ Cert.ReferenceFinishIdeal.sig) → Buf (Elt Ideal) ℓ) (g' : Dev Cert.ReferenceFinishIdeal.nD → PrngReg), Pre_KernelFinishIdeal m →
    (∀ c : Dev Cert.KernelFinishIdeal.nD,
      m' ((c.tc : Thread Cert.ReferenceFinishIdeal.nD Cert.ReferenceFinishIdeal.τ).loc Cert.ReferenceFinishIdeal.main_arg0) = m ((c.tc : Thread Cert.KernelFinishIdeal.nD Cert.KernelFinishIdeal.τ).loc Cert.KernelFinishIdeal.main_arg0)
      ∧ m' ((c.tc : Thread Cert.ReferenceFinishIdeal.nD Cert.ReferenceFinishIdeal.τ).loc Cert.ReferenceFinishIdeal.main_arg1) = m ((c.tc : Thread Cert.KernelFinishIdeal.nD Cert.KernelFinishIdeal.τ).loc Cert.KernelFinishIdeal.main_arg1)
      ∧ m' ((c.tc : Thread Cert.ReferenceFinishIdeal.nD Cert.ReferenceFinishIdeal.τ).loc Cert.ReferenceFinishIdeal.main_arg2) = m ((c.tc : Thread Cert.KernelFinishIdeal.nD Cert.KernelFinishIdeal.τ).loc Cert.KernelFinishIdeal.main_arg2)
      ∧ m' ((c.tc : Thread Cert.ReferenceFinishIdeal.nD Cert.ReferenceFinishIdeal.τ).loc Cert.ReferenceFinishIdeal.main_arg3) = m ((c.tc : Thread Cert.KernelFinishIdeal.nD Cert.KernelFinishIdeal.τ).loc Cert.KernelFinishIdeal.main_arg3)
      ∧ m' ((c.tc : Thread Cert.ReferenceFinishIdeal.nD Cert.ReferenceFinishIdeal.τ).loc Cert.ReferenceFinishIdeal.main_arg4) = m ((c.tc : Thread Cert.KernelFinishIdeal.nD Cert.KernelFinishIdeal.τ).loc Cert.KernelFinishIdeal.main_arg4)
      ∧ m' ((c.tc : Thread Cert.ReferenceFinishIdeal.nD Cert.ReferenceFinishIdeal.τ).loc Cert.ReferenceFinishIdeal.main_arg5) = m ((c.tc : Thread Cert.KernelFinishIdeal.nD Cert.KernelFinishIdeal.τ).loc Cert.KernelFinishIdeal.main_arg5)) →
    ∃ (v0 : (c : Dev Cert.KernelFinishIdeal.nD) → Buf (Elt Ideal) ((c.tc : Thread Cert.KernelFinishIdeal.nD Cert.KernelFinishIdeal.τ).loc Cert.KernelFinishIdeal.main_v7)),
      θ_run (Cert.KernelFinishIdeal.defs (F := Ideal)) (onTc (τ := Cert.KernelFinishIdeal.τ) (Cert.KernelFinishIdeal.main (F := Ideal))) ⟨m, fun _ => 0, g⟩ (fun r => ∀ c : Dev Cert.KernelFinishIdeal.nD,
          r.2.mem ((c.tc : Thread Cert.KernelFinishIdeal.nD Cert.KernelFinishIdeal.τ).loc Cert.KernelFinishIdeal.main_v7) = v0 c
          ∧ r.2.mem ((c.tc : Thread Cert.KernelFinishIdeal.nD Cert.KernelFinishIdeal.τ).loc Cert.KernelFinishIdeal.main_arg0) = m ((c.tc : Thread Cert.KernelFinishIdeal.nD Cert.KernelFinishIdeal.τ).loc Cert.KernelFinishIdeal.main_arg0)
          ∧ r.2.mem ((c.tc : Thread Cert.KernelFinishIdeal.nD Cert.KernelFinishIdeal.τ).loc Cert.KernelFinishIdeal.main_arg1) = m ((c.tc : Thread Cert.KernelFinishIdeal.nD Cert.KernelFinishIdeal.τ).loc Cert.KernelFinishIdeal.main_arg1)
          ∧ r.2.mem ((c.tc : Thread Cert.KernelFinishIdeal.nD Cert.KernelFinishIdeal.τ).loc Cert.KernelFinishIdeal.main_arg2) = m ((c.tc : Thread Cert.KernelFinishIdeal.nD Cert.KernelFinishIdeal.τ).loc Cert.KernelFinishIdeal.main_arg2)
          ∧ r.2.mem ((c.tc : Thread Cert.KernelFinishIdeal.nD Cert.KernelFinishIdeal.τ).loc Cert.KernelFinishIdeal.main_arg3) = m ((c.tc : Thread Cert.KernelFinishIdeal.nD Cert.KernelFinishIdeal.τ).loc Cert.KernelFinishIdeal.main_arg3)
          ∧ r.2.mem ((c.tc : Thread Cert.KernelFinishIdeal.nD Cert.KernelFinishIdeal.τ).loc Cert.KernelFinishIdeal.main_arg4) = m ((c.tc : Thread Cert.KernelFinishIdeal.nD Cert.KernelFinishIdeal.τ).loc Cert.KernelFinishIdeal.main_arg4)
          ∧ r.2.mem ((c.tc : Thread Cert.KernelFinishIdeal.nD Cert.KernelFinishIdeal.τ).loc Cert.KernelFinishIdeal.main_arg5) = m ((c.tc : Thread Cert.KernelFinishIdeal.nD Cert.KernelFinishIdeal.τ).loc Cert.KernelFinishIdeal.main_arg5))
      ∧ θ_run (Cert.ReferenceFinishIdeal.defs (F := Ideal)) (onTc (τ := Cert.ReferenceFinishIdeal.τ) (Cert.ReferenceFinishIdeal.main (F := Ideal))) ⟨m', fun _ => 0, g'⟩ (fun r => ∀ c : Dev Cert.ReferenceFinishIdeal.nD,
          r.2.mem ((c.tc : Thread Cert.ReferenceFinishIdeal.nD Cert.ReferenceFinishIdeal.τ).loc Cert.ReferenceFinishIdeal.main_v34) = v0 c
          ∧ r.2.mem ((c.tc : Thread Cert.ReferenceFinishIdeal.nD Cert.ReferenceFinishIdeal.τ).loc Cert.ReferenceFinishIdeal.main_arg0) = m' ((c.tc : Thread Cert.ReferenceFinishIdeal.nD Cert.ReferenceFinishIdeal.τ).loc Cert.ReferenceFinishIdeal.main_arg0)
          ∧ r.2.mem ((c.tc : Thread Cert.ReferenceFinishIdeal.nD Cert.ReferenceFinishIdeal.τ).loc Cert.ReferenceFinishIdeal.main_arg1) = m' ((c.tc : Thread Cert.ReferenceFinishIdeal.nD Cert.ReferenceFinishIdeal.τ).loc Cert.ReferenceFinishIdeal.main_arg1)
          ∧ r.2.mem ((c.tc : Thread Cert.ReferenceFinishIdeal.nD Cert.ReferenceFinishIdeal.τ).loc Cert.ReferenceFinishIdeal.main_arg2) = m' ((c.tc : Thread Cert.ReferenceFinishIdeal.nD Cert.ReferenceFinishIdeal.τ).loc Cert.ReferenceFinishIdeal.main_arg2)
          ∧ r.2.mem ((c.tc : Thread Cert.ReferenceFinishIdeal.nD Cert.ReferenceFinishIdeal.τ).loc Cert.ReferenceFinishIdeal.main_arg3) = m' ((c.tc : Thread Cert.ReferenceFinishIdeal.nD Cert.ReferenceFinishIdeal.τ).loc Cert.ReferenceFinishIdeal.main_arg3)
          ∧ r.2.mem ((c.tc : Thread Cert.ReferenceFinishIdeal.nD Cert.ReferenceFinishIdeal.τ).loc Cert.ReferenceFinishIdeal.main_arg4) = m' ((c.tc : Thread Cert.ReferenceFinishIdeal.nD Cert.ReferenceFinishIdeal.τ).loc Cert.ReferenceFinishIdeal.main_arg4)
          ∧ r.2.mem ((c.tc : Thread Cert.ReferenceFinishIdeal.nD Cert.ReferenceFinishIdeal.τ).loc Cert.ReferenceFinishIdeal.main_arg5) = m' ((c.tc : Thread Cert.ReferenceFinishIdeal.nD Cert.ReferenceFinishIdeal.τ).loc Cert.ReferenceFinishIdeal.main_arg5))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelMain : Cert.KernelMain.Facts) (hKernelMainIdeal : Cert.KernelMainIdeal.Facts) (hReferenceMainIdeal : Cert.ReferenceMainIdeal.Facts) (hKernelSmall : Cert.KernelSmall.Facts) (hKernelSmallIdeal : Cert.KernelSmallIdeal.Facts) (hReferenceSmallIdeal : Cert.ReferenceSmallIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelQuery : Cert.KernelQuery.Facts) (hKernelQueryIdeal : Cert.KernelQueryIdeal.Facts) (hReferenceQueryIdeal : Cert.ReferenceQueryIdeal.Facts) (hKernelKeyvalue : Cert.KernelKeyvalue.Facts) (hKernelKeyvalueIdeal : Cert.KernelKeyvalueIdeal.Facts) (hReferenceKeyvalueIdeal : Cert.ReferenceKeyvalueIdeal.Facts) (hKernelConv : Cert.KernelConv.Facts) (hKernelConvIdeal : Cert.KernelConvIdeal.Facts) (hReferenceConvIdeal : Cert.ReferenceConvIdeal.Facts) (hKernelFinish : Cert.KernelFinish.Facts) (hKernelFinishIdeal : Cert.KernelFinishIdeal.Facts) (hReferenceFinishIdeal : Cert.ReferenceFinishIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelMain (hKernelMain := hKernelMain)
    ∧ quiescent_KernelMainIdeal (hKernelMainIdeal := hKernelMainIdeal)
    ∧ quiescent_ReferenceMainIdeal (hReferenceMainIdeal := hReferenceMainIdeal)
    ∧ quiescent_KernelSmall (hKernelSmall := hKernelSmall)
    ∧ quiescent_KernelSmallIdeal (hKernelSmallIdeal := hKernelSmallIdeal)
    ∧ quiescent_ReferenceSmallIdeal (hReferenceSmallIdeal := hReferenceSmallIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelKeyvalue (hKernelKeyvalue := hKernelKeyvalue)
    ∧ quiescent_KernelKeyvalueIdeal (hKernelKeyvalueIdeal := hKernelKeyvalueIdeal)
    ∧ quiescent_ReferenceKeyvalueIdeal (hReferenceKeyvalueIdeal := hReferenceKeyvalueIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelFinish (hKernelFinish := hKernelFinish)
    ∧ quiescent_KernelFinishIdeal (hKernelFinishIdeal := hKernelFinishIdeal)
    ∧ quiescent_ReferenceFinishIdeal (hReferenceFinishIdeal := hReferenceFinishIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelMain_KernelMainIdeal
    ∧ algebraic_KernelMainIdeal_ReferenceMainIdeal (hKernelMainIdeal := hKernelMainIdeal) (hReferenceMainIdeal := hReferenceMainIdeal)
    ∧ preserves_KernelSmall_KernelSmallIdeal
    ∧ algebraic_KernelSmallIdeal_ReferenceSmallIdeal (hKernelSmallIdeal := hKernelSmallIdeal) (hReferenceSmallIdeal := hReferenceSmallIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelKeyvalue_KernelKeyvalueIdeal
    ∧ algebraic_KernelKeyvalueIdeal_ReferenceKeyvalueIdeal (hKernelKeyvalueIdeal := hKernelKeyvalueIdeal) (hReferenceKeyvalueIdeal := hReferenceKeyvalueIdeal)
    ∧ preserves_KernelConv_KernelConvIdeal
    ∧ algebraic_KernelConvIdeal_ReferenceConvIdeal (hKernelConvIdeal := hKernelConvIdeal) (hReferenceConvIdeal := hReferenceConvIdeal)
    ∧ preserves_KernelFinish_KernelFinishIdeal
    ∧ algebraic_KernelFinishIdeal_ReferenceFinishIdeal (hKernelFinishIdeal := hKernelFinishIdeal) (hReferenceFinishIdeal := hReferenceFinishIdeal)
-- ==== Pre_finite_qk.lean ====
abbrev S2x16x16384x256 : Shape := ⟨4, ![2, 16, 16384, 256]⟩
abbrev S2x16x16384x128 : Shape := ⟨4, ![2, 16, 16384, 128]⟩
abbrev S_ : Shape := ⟨0, ![]⟩

class Facts : Prop where
  bitsLt_bf16_f32 : FTy.bits .bf16 < FTy.bits .f32
  bcast_S_S2x16x16384x256 : S_.BroadcastsInDim S2x16x16384x256 (![] : Fin 0 → Fin S2x16x16384x256.rank)

variable [Facts]

def fn {F : FTy → Type} [FloatOps F] (main_arg0 : FVec F S2x16x16384x256 .bf16) (main_arg1 : FVec F S2x16x16384x256 .bf16) (main_arg2 : FVec F S2x16x16384x128 .bf16) : IVec S2x16x16384x256 1 × IVec S2x16x16384x256 1 :=
  let main_v0 : FVec F S2x16x16384x256 .f32 := (extf .f32 · bitsLt_bf16_f32) main_arg0
  let main_v1 : FVec F S2x16x16384x256 .f32 := Host.absf main_v0
  let main_cst : FVec F S_ .f32 := constant S_ .f32 0x7F800000#32
  let main_v2 : FVec F S2x16x16384x256 .f32 := broadcastInDim S2x16x16384x256 ![] bcast_S_S2x16x16384x256 main_cst
  let main_v3 : IVec S2x16x16384x256 1 := cmpf .olt main_v1 main_v2
  let main_v4 : FVec F S2x16x16384x256 .f32 := (extf .f32 · bitsLt_bf16_f32) main_arg1
  let main_v5 : FVec F S2x16x16384x256 .f32 := Host.absf main_v4
  let main_cst_0 : FVec F S_ .f32 := constant S_ .f32 0x7F800000#32
  let main_v6 : FVec F S2x16x16384x256 .f32 := broadcastInDim S2x16x16384x256 ![] bcast_S_S2x16x16384x256 main_cst_0
  let main_v7 : IVec S2x16x16384x256 1 := cmpf .olt main_v5 main_v6
  (main_v3, main_v7)
-- ==== Kernel.lean ====
abbrev S2x16x16384x256 : Shape := ⟨4, ![2, 16, 16384, 256]⟩
abbrev S2x16x16384x128 : Shape := ⟨4, ![2, 16, 16384, 128]⟩
abbrev S32768x2048 : Shape := ⟨2, ![32768, 2048]⟩
abbrev S1x1x512x256 : Shape := ⟨4, ![1, 1, 512, 256]⟩
abbrev S1x1x16384x256 : Shape := ⟨4, ![1, 1, 16384, 256]⟩
abbrev S1x1x16384x128 : Shape := ⟨4, ![1, 1, 16384, 128]⟩
abbrev S512x128 : Shape := ⟨2, ![512, 128]⟩
abbrev S512x256 : Shape := ⟨2, ![512, 256]⟩
abbrev S512x1 : Shape := ⟨2, ![512, 1]⟩
abbrev S512x512 : Shape := ⟨2, ![512, 512]⟩
abbrev S512 : Shape := ⟨1, ![512]⟩
abbrev S1x1x512x128 : Shape := ⟨4, ![1, 1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x16x16384x256, .bf16⟩
  | .hbm, ⟨1, _⟩ => ⟨S2x16x16384x256, .bf16⟩
  | .hbm, ⟨2, _⟩ => ⟨S2x16x16384x128, .bf16⟩
  | .hbm, ⟨3, _⟩ => ⟨S32768x2048, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x1x16384x256, .bf16⟩
  | .local _ .vmem, ⟨3, _⟩ => ⟨S1x1x16384x256, .bf16⟩
  | .local _ .vmem, ⟨4, _⟩ => ⟨S1x1x16384x128, .bf16⟩
  | .local _ .vmem, ⟨5, _⟩ => ⟨S1x1x16384x128, .bf16⟩
  | .local _ .vmem, ⟨6, _⟩ => ⟨S512x128, .bf16⟩
  | .local _ .vmem, ⟨7, _⟩ => ⟨S512x128, .bf16⟩
  | _, _ => ⟨S2x16x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 32], ![false, false, false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v11 : BitVec 32 := Scalar.muli arg7 c512_i32
  v11
def k0_off1 (k0_t1 : Fin k0_t1_loop.trips) : Fin 4 → Nat :=
  let c0_8 : Index := 0#32
  let c0_9 : Index := 0#32
  let c0_i32 : BitVec 32 := 0#32
  let c1_i32 : BitVec 32 := 1#32
  let arg7 : BitVec 32 := Scf.iv c0_i32 c1_i32 k0_t1
  let c512_i32 : BitVec 32 := 512#32
  let v11 : BitVec 32 := Scalar.muli arg7 c512_i32
  let v12 : BitVec 32 := v11
  let v13 : Index := Scalar.indexCast v12
  let c0_10 : Index := 0#32
  ![0, 0, v13.toNat, 0]
def k0_off2 (k0_t1 : Fin k0_t1_loop.trips) : Fin 4 → Nat :=
  let c0_14 : Index := 0#32
  let c0_15 : Index := 0#32
  let c0_i32 : BitVec 32 := 0#32
  let c1_i32 : BitVec 32 := 1#32
  let arg7 : BitVec 32 := Scf.iv c0_i32 c1_i32 k0_t1
  let c512_i32 : BitVec 32 := 512#32
  let v11 : BitVec 32 := Scalar.muli arg7 c512_i32
  let v12 : BitVec 32 := v11
  let v32 : Index := Scalar.indexCast v12
  let c0_16 : Index := 0#32
  ![0, 0, v32.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16x16384x256 : Shape := ⟨4, ![2, 16, 16384, 256]⟩
abbrev S2x16x16384x128 : Shape := ⟨4, ![2, 16, 16384, 128]⟩
abbrev S2x16x16384x16384 : Shape := ⟨4, ![2, 16, 16384, 16384]⟩
abbrev S_ : Shape := ⟨0, ![]⟩
abbrev S2x16x16384 : Shape := ⟨3, ![2, 16, 16384]⟩
abbrev S2x16x16384x1 : Shape := ⟨4, ![2, 16, 16384, 1]⟩
abbrev S2x16x128x16384 : Shape := ⟨4, ![2, 16, 128, 16384]⟩
abbrev S2x16384x16x128 : Shape := ⟨4, ![2, 16384, 16, 128]⟩
abbrev S32768x2048 : Shape := ⟨2, ![32768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x16x16384x256, .bf16⟩
  | .hbm, ⟨1, _⟩ => ⟨S2x16x16384x256, .bf16⟩
  | .hbm, ⟨2, _⟩ => ⟨S2x16x16384x128, .bf16⟩
  | .hbm, ⟨3, _⟩ => ⟨S2x16x16384x256, .f32⟩
  | .hbm, ⟨4, _⟩ => ⟨S2x16x16384x256, .f32⟩
  | .hbm, ⟨5, _⟩ => ⟨S2x16x16384x128, .f32⟩
  | .hbm, ⟨6, _⟩ => ⟨S2x16x16384x16384, .f32⟩
  | .hbm, ⟨7, _⟩ => ⟨S_, .f32⟩
  | .hbm, ⟨8, _⟩ => ⟨S2x16x16384, .f32⟩
  | .hbm, ⟨9, _⟩ => ⟨S_, .f32⟩
  | .hbm, ⟨10, _⟩ => ⟨S2x16x16384, .f32⟩
  | .hbm, ⟨11, _⟩ => ⟨S2x16x16384, .f32⟩
  | .hbm, ⟨12, _⟩ => ⟨S2x16x16384x1, .f32⟩
  | .hbm, ⟨13, _⟩ => ⟨S2x16x16384x16384, .f32⟩
  | .hbm, ⟨14, _⟩ => ⟨S2x16x16384x16384, .f32⟩
  | .hbm, ⟨15, _⟩ => ⟨S2x16x16384x16384, .f32⟩
  | .hbm, ⟨16, _⟩ => ⟨S_, .f32⟩
  | .hbm, ⟨17, _⟩ => ⟨S2x16x16384, .f32⟩
  | .hbm, ⟨18, _⟩ => ⟨S2x16x16384x1, .f32⟩
  | .hbm, ⟨19, _⟩ => ⟨S2x16x16384x16384, .f32⟩
  | .hbm, ⟨20, _⟩ => ⟨S2x16x16384x16384, .f32⟩
  | .hbm, ⟨21, _⟩ => ⟨S2x16x128x16384, .f32⟩
  | .hbm, ⟨22, _⟩ => ⟨S2x16384x16x128, .f32⟩
  | .hbm, ⟨23, _⟩ => ⟨S32768x2048, .f32⟩
  | .hbm, ⟨24, _⟩ => ⟨S32768x2048, .bf16⟩
  | _, _ => ⟨S2x16x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KernelDown.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S_ : Shape := ⟨0, ![]⟩
abbrev S6x2048 : Shape := ⟨2, ![6, 2048]⟩
abbrev S1x2048 : Shape := ⟨2, ![1, 2048]⟩
abbrev S2x2048 : Shape := ⟨2, ![2, 2048]⟩
abbrev S8x2048 : Shape := ⟨2, ![8, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S_, .f32⟩
  | .hbm, ⟨7, _⟩ => ⟨S6x2048, .f32⟩
  | .hbm, ⟨8, _⟩ => ⟨S1x2048, .f32⟩
  | .hbm, ⟨9, _⟩ => ⟨S1x2048, .f32⟩
  | .hbm, ⟨10, _⟩ => ⟨S2x2048, .f32⟩
  | .hbm, ⟨11, _⟩ => ⟨S8x2048, .f32⟩
  | .hbm, ⟨12, _⟩ => ⟨S32768x2048, .f32⟩
  | .hbm, ⟨13, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelDownIdeal.lean ====
variable {F : FTy → Type} [FloatOps F] [Named F]
def κ : String → Option EReal := fun
  | "alpha" => some ((Real.sqrt (Real.sqrt 8) : ℝ) : EReal)
  | _ => none
-- ==== ReferenceDownIdeal.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32768x2048, .f32⟩
  | .hbm, ⟨9, _⟩ => ⟨S32768x2048, .f32⟩
  | .hbm, ⟨10, _⟩ => ⟨S32768x5632, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S1x2048, .f32⟩
  | .hbm, ⟨40, _⟩ => ⟨S32768x2048, .f32⟩
  | .hbm, ⟨41, _⟩ => ⟨S32768x2048, .f32⟩
  | .hbm, ⟨42, _⟩ => ⟨S32768x2048, .bf16⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== KernelUp.lean ====
abbrev S32768x2048 : Shape := ⟨2, ![32768, 2048]⟩
abbrev S2048x5632 : Shape := ⟨2, ![2048, 5632]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S32768x2048 : Shape := ⟨2, ![32768, 2048]⟩
abbrev S2048x5632 : Shape := ⟨2, ![2048, 5632]⟩
abbrev S32768x5632 : Shape := ⟨2, ![32768, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S32768x2048, .f32⟩
  | .hbm, ⟨4, _⟩ => ⟨S32768x5632, .f32⟩
  | .hbm, ⟨5, _⟩ => ⟨S32768x5632, .f32⟩
  | .hbm, ⟨6, _⟩ => ⟨S32768x5632, .f32⟩
  | .hbm, ⟨7, _⟩ => ⟨S_, .f32⟩
  | .hbm, ⟨8, _⟩ => ⟨S32768x5632, .f32⟩
  | .hbm, ⟨9, _⟩ => ⟨S32768x5632, .f32⟩
  | .hbm, ⟨10, _⟩ => ⟨S_, .f32⟩
  | .hbm, ⟨11, _⟩ => ⟨S32768x5632, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== KernelMain.lean ====
abbrev S32768x2048 : Shape := ⟨2, ![32768, 2048]⟩
abbrev S2048x15552 : Shape := ⟨2, ![2048, 15552]⟩
abbrev S2048x10240 : Shape := ⟨2, ![2048, 10240]⟩
abbrev S2048x4096 : Shape := ⟨2, ![2048, 4096]⟩
abbrev S2048x14336 : Shape := ⟨2, ![2048, 14336]⟩
abbrev S32768x14336 : Shape := ⟨2, ![32768, 14336]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x15552, .f32⟩
  | .hbm, ⟨2, _⟩ => ⟨S2048x10240, .f32⟩
  | .hbm, ⟨3, _⟩ => ⟨S2048x4096, .f32⟩
  | .hbm, ⟨4, _⟩ => ⟨S2048x14336, .f32⟩
  | .hbm, ⟨5, _⟩ => ⟨S2048x14336, .bf16⟩
  | .hbm, ⟨6, _⟩ => ⟨S32768x14336, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMainIdeal.lean ====
abbrev S32768x2048 : Shape := ⟨2, ![32768, 2048]⟩
abbrev S2048x15552 : Shape := ⟨2, ![2048, 15552]⟩
abbrev S32768x15552 : Shape := ⟨2, ![32768, 15552]⟩
abbrev S32768x4096 : Shape := ⟨2, ![32768, 4096]⟩
abbrev S32768x6144 : Shape := ⟨2, ![32768, 6144]⟩
abbrev S32768x128 : Shape := ⟨2, ![32768, 128]⟩
abbrev S32768x512 : Shape := ⟨2, ![32768, 512]⟩
abbrev S32768x576 : Shape := ⟨2, ![32768, 576]⟩
abbrev S32768x14336 : Shape := ⟨2, ![32768, 14336]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x15552, .f32⟩
  | .hbm, ⟨2, _⟩ => ⟨S32768x2048, .f32⟩
  | .hbm, ⟨3, _⟩ => ⟨S32768x15552, .f32⟩
  | .hbm, ⟨4, _⟩ => ⟨S32768x4096, .f32⟩
  | .hbm, ⟨5, _⟩ => ⟨S32768x6144, .f32⟩
  | .hbm, ⟨6, _⟩ => ⟨S32768x128, .f32⟩
  | .hbm, ⟨7, _⟩ => ⟨S32768x512, .f32⟩
  | .hbm, ⟨8, _⟩ => ⟨S32768x576, .f32⟩
  | .hbm, ⟨9, _⟩ => ⟨S32768x2048, .f32⟩
  | .hbm, ⟨10, _⟩ => ⟨S32768x2048, .f32⟩
  | .hbm, ⟨11, _⟩ => ⟨S32768x14336, .f32⟩
  | .hbm, ⟨12, _⟩ => ⟨S32768x14336, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelSmall.lean ====
abbrev S32768x2048 : Shape := ⟨2, ![32768, 2048]⟩
abbrev S2048x15552 : Shape := ⟨2, ![2048, 15552]⟩
abbrev S2048x512 : Shape := ⟨2, ![2048, 512]⟩
abbrev S2048x128 : Shape := ⟨2, ![2048, 128]⟩
abbrev S2048x64 : Shape := ⟨2, ![2048, 64]⟩
abbrev S_ : Shape := ⟨0, ![]⟩
abbrev S2048x1280 : Shape := ⟨2, ![2048, 1280]⟩
abbrev S32768x1280 : Shape := ⟨2, ![32768, 1280]⟩
abbrev S1024x2048 : Shape := ⟨2, ![1024, 2048]⟩
abbrev S1024x1280 : Shape := ⟨2, ![1024, 1280]⟩

abbrev nBuf : Space → Nat
  | .hbm => 11
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x15552, .f32⟩
  | .hbm, ⟨2, _⟩ => ⟨S2048x512, .f32⟩
  | .hbm, ⟨3, _⟩ => ⟨S2048x512, .f32⟩
  | .hbm, ⟨4, _⟩ => ⟨S2048x128, .f32⟩
  | .hbm, ⟨5, _⟩ => ⟨S2048x64, .f32⟩
  | .hbm, ⟨6, _⟩ => ⟨S_, .f32⟩
  | .hbm, ⟨7, _⟩ => ⟨S2048x64, .f32⟩
  | .hbm, ⟨8, _⟩ => ⟨S2048x1280, .f32⟩
  | .hbm, ⟨9, _⟩ => ⟨S2048x1280, .bf16⟩
  | .hbm, ⟨10, _⟩ => ⟨S32768x1280, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S1024x1280, .f32⟩
  | .local _ .vmem, ⟨4, _⟩ => ⟨S1024x1280, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSmallIdeal.lean ====
abbrev S32768x2048 : Shape := ⟨2, ![32768, 2048]⟩
abbrev S2048x15552 : Shape := ⟨2, ![2048, 15552]⟩
abbrev S32768x15552 : Shape := ⟨2, ![32768, 15552]⟩
abbrev S32768x4096 : Shape := ⟨2, ![32768, 4096]⟩
abbrev S32768x6144 : Shape := ⟨2, ![32768, 6144]⟩
abbrev S32768x128 : Shape := ⟨2, ![32768, 128]⟩
abbrev S32768x512 : Shape := ⟨2, ![32768, 512]⟩
abbrev S32768x576 : Shape := ⟨2, ![32768, 576]⟩
abbrev S_ : Shape := ⟨0, ![]⟩
abbrev S32768x64 : Shape := ⟨2, ![32768, 64]⟩
abbrev S32768x1280 : Shape := ⟨2, ![32768, 1280]⟩

abbrev nBuf : Space → Nat
  | .hbm => 16
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x15552, .f32⟩
  | .hbm, ⟨2, _⟩ => ⟨S32768x2048, .f32⟩
  | .hbm, ⟨3, _⟩ => ⟨S32768x15552, .f32⟩
  | .hbm, ⟨4, _⟩ => ⟨S32768x4096, .f32⟩
  | .hbm, ⟨5, _⟩ => ⟨S32768x6144, .f32⟩
  | .hbm, ⟨6, _⟩ => ⟨S32768x128, .f32⟩
  | .hbm, ⟨7, _⟩ => ⟨S32768x512, .f32⟩
  | .hbm, ⟨8, _⟩ => ⟨S32768x576, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x64, .f32⟩
  | .hbm, ⟨13, _⟩ => ⟨S32768x512, .f32⟩
  | .hbm, ⟨14, _⟩ => ⟨S32768x64, .f32⟩
  | .hbm, ⟨15, _⟩ => ⟨S32768x1280, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelMerge.lean ====
abbrev S32768x4096 : Shape := ⟨2, ![32768, 4096]⟩
abbrev S4096x2048 : Shape := ⟨2, ![4096, 2048]⟩
abbrev S32768x2048 : Shape := ⟨2, ![32768, 2048]⟩
abbrev S2048x2048 : Shape := ⟨2, ![2048, 2048]⟩
abbrev S32768x14336 : Shape := ⟨2, ![32768, 14336]⟩
abbrev S512x4096 : Shape := ⟨2, ![512, 4096]⟩
abbrev S4096x512 : Shape := ⟨2, ![4096, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x2048, .bf16⟩
  | .hbm, ⟨3, _⟩ => ⟨S2048x2048, .f32⟩
  | .hbm, ⟨4, _⟩ => ⟨S32768x14336, .bf16⟩
  | .hbm, ⟨5, _⟩ => ⟨S4096x2048, .bf16⟩
  | .hbm, ⟨6, _⟩ => ⟨S2048x2048, .bf16⟩
  | .hbm, ⟨7, _⟩ => ⟨S32768x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMergeIdeal.lean ====
abbrev S32768x4096 : Shape := ⟨2, ![32768, 4096]⟩
abbrev S4096x2048 : Shape := ⟨2, ![4096, 2048]⟩
abbrev S32768x2048 : Shape := ⟨2, ![32768, 2048]⟩
abbrev S2048x2048 : Shape := ⟨2, ![2048, 2048]⟩
abbrev S32768x14336 : Shape := ⟨2, ![32768, 14336]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x2048, .bf16⟩
  | .hbm, ⟨3, _⟩ => ⟨S2048x2048, .f32⟩
  | .hbm, ⟨4, _⟩ => ⟨S32768x14336, .bf16⟩
  | .hbm, ⟨5, _⟩ => ⟨S32768x2048, .bf16⟩
  | .hbm, ⟨6, _⟩ => ⟨S32768x2048, .f32⟩
  | .hbm, ⟨7, _⟩ => ⟨S32768x2048, .bf16⟩
  | .hbm, ⟨8, _⟩ => ⟨S32768x2048, .f32⟩
  | .hbm, ⟨9, _⟩ => ⟨S32768x4096, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelOut.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S6x2048 : Shape := ⟨2, ![6, 2048]⟩
abbrev S1x2048 : Shape := ⟨2, ![1, 2048]⟩
abbrev S2x2048 : Shape := ⟨2, ![2, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S_, .f32⟩
  | .hbm, ⟨7, _⟩ => ⟨S6x2048, .f32⟩
  | .hbm, ⟨8, _⟩ => ⟨S1x2048, .f32⟩
  | .hbm, ⟨9, _⟩ => ⟨S1x2048, .f32⟩
  | .hbm, ⟨10, _⟩ => ⟨S2x2048, .f32⟩
  | .hbm, ⟨11, _⟩ => ⟨S8x2048, .f32⟩
  | .hbm, ⟨12, _⟩ => ⟨S32768x2048, .f32⟩
  | .hbm, ⟨13, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S8x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelOutIdeal.lean ====
variable {F : FTy → Type} [FloatOps F] [Named F]
def κ : String → Option EReal := fun
  | "alpha" => some ((Real.sqrt (Real.sqrt 8) : ℝ) : EReal)
  | _ => none
-- ==== ReferenceOutIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S1x2048, .f32⟩
  | .hbm, ⟨40, _⟩ => ⟨S32768x2048, .f32⟩
  | .hbm, ⟨41, _⟩ => ⟨S32768x2048, .f32⟩
  | .hbm, ⟨42, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== KernelQuery.lean ====
abbrev S32768x1280 : Shape := ⟨2, ![32768, 1280]⟩
abbrev S512 : Shape := ⟨1, ![512]⟩
abbrev S512x3072 : Shape := ⟨2, ![512, 3072]⟩
abbrev S_ : Shape := ⟨0, ![]⟩
abbrev S7x512 : Shape := ⟨2, ![7, 512]⟩
abbrev S1x512 : Shape := ⟨2, ![1, 512]⟩
abbrev S8x512 : Shape := ⟨2, ![8, 512]⟩
abbrev S512x16x192 : Shape := ⟨3, ![512, 16, 192]⟩
abbrev S512x16x256 : Shape := ⟨3, ![512, 16, 256]⟩
abbrev S512x4096 : Shape := ⟨2, ![512, 4096]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x96 : Shape := ⟨2, ![16384, 96]⟩
abbrev S16384x384 : Shape := ⟨2, ![16384, 384]⟩
abbrev S2x16x16384x256 : Shape := ⟨4, ![2, 16, 16384, 256]⟩
abbrev S512x512 : Shape := ⟨2, ![512, 512]⟩
abbrev S512x384 : Shape := ⟨2, ![512, 384]⟩
abbrev S1x16x512x256 : Shape := ⟨4, ![1, 16, 512, 256]⟩
abbrev S512x1 : Shape := ⟨2, ![512, 1]⟩
abbrev S512x256 : Shape := ⟨2, ![512, 256]⟩
abbrev S512x128 : Shape := ⟨2, ![512, 128]⟩
abbrev S1x1x512x128 : Shape := ⟨4, ![1, 1, 512, 128]⟩

abbrev nBuf : Space → Nat
  | .hbm => 46
  | .vmem => 8
  | .smem => 0
  | _ => 0

abbrev bufTy : (tb : Table) → Fin (tcTables nBuf tb) → BufTy
  | .hbm, ⟨0, _⟩ => ⟨S32768x1280, .f32⟩
  | .hbm, ⟨1, _⟩ => ⟨S512, .f32⟩
  | .hbm, ⟨2, _⟩ => ⟨S512x3072, .f32⟩
  | .hbm, ⟨3, _⟩ => ⟨S_, .f32⟩
  | .hbm, ⟨4, _⟩ => ⟨S7x512, .f32⟩
  | .hbm, ⟨5, _⟩ => ⟨S1x512, .f32⟩
  | .hbm, ⟨6, _⟩ => ⟨S8x512, .f32⟩
  | .hbm, ⟨7, _⟩ => ⟨S512x16x192, .f32⟩
  | .hbm, ⟨8, _⟩ => ⟨S_, .i32⟩
  | .hbm, ⟨9, _⟩ => ⟨S_, .f32⟩
  | .hbm, ⟨10, _⟩ => ⟨S512x16x256, .f32⟩
  | .hbm, ⟨11, _⟩ => ⟨S512x4096, .f32⟩
  | .hbm, ⟨12, _⟩ => ⟨S512x4096, .bf16⟩
  | .hbm, ⟨13, _⟩ => ⟨S16384, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S16384x1, .f32⟩
  | .hbm, ⟨29, _⟩ => ⟨S1x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x64, .f32⟩
  | .hbm, ⟨37, _⟩ => ⟨S16384x32, .f32⟩
  | .hbm, ⟨38, _⟩ => ⟨S_, .f32⟩
  | .hbm, ⟨39, _⟩ => ⟨S16384x96, .f32⟩
  | .hbm, ⟨40, _⟩ => ⟨S_, .f32⟩
  | .hbm, ⟨41, _⟩ => ⟨S16384x32, .f32⟩
  | .hbm, ⟨42, _⟩ => ⟨S_, .f32⟩
  | .hbm, ⟨43, _⟩ => ⟨S16384x64, .f32⟩
  | .hbm, ⟨44, _⟩ => ⟨S16384x384, .f32⟩
  | .hbm, ⟨45, _⟩ => ⟨S2x16x16384x256, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S512x4096, .bf16⟩
  | .local _ .vmem, ⟨4, _⟩ => ⟨S512x384, .f32⟩
  | .local _ .vmem, ⟨5, _⟩ => ⟨S512x384, .f32⟩
  | .local _ .vmem, ⟨6, _⟩ => ⟨S1x16x512x256, .bf16⟩
  | .local _ .vmem, ⟨7, _⟩ => ⟨S1x16x512x256, .bf16⟩
  | _, _ => ⟨S32768x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelQueryIdeal.lean ====
variable {F : FTy → Type} [FloatOps F] [Named F]
def κ : String → Option EReal := fun
  | "scale" => some (((Real.sqrt 192)⁻¹ : ℝ) : EReal)
  | _ => none
-- ==== ReferenceQueryIdeal.lean ====
abbrev S32768x1280 : Shape := ⟨2, ![32768, 1280]⟩
abbrev S512 : Shape := ⟨1, ![512]⟩
abbrev S512x3072 : Shape := ⟨2, ![512, 3072]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S32768x512 : Shape := ⟨2, ![32768, 512]⟩
abbrev S2x16384x512 : Shape := ⟨3, ![2, 16384, 512]⟩
abbrev S2x16384 : Shape := ⟨2, ![2, 16384]⟩
abbrev S2x16384x1 : Shape := ⟨3, ![2, 16384, 1]⟩
abbrev S1x1x512 : Shape := ⟨3, ![1, 1, 512]⟩
abbrev S2x16384x3072 : Shape := ⟨3, ![2, 16384, 3072]⟩
abbrev S2x16384x16x192 : Shape := ⟨4, ![2, 16384, 16, 192]⟩
abbrev S2x16384x16x128 : Shape := ⟨4, ![2, 16384, 16, 128]⟩
abbrev S2x16384x16x64 : Shape := ⟨4, ![2, 16384, 16, 64]⟩
abbrev S16384x1x32 : Shape := ⟨3, ![16384, 1, 32]⟩
abbrev S2x16384x16x32 : Shape := ⟨4, ![2, 16384, 16, 32]⟩
abbrev S1x16384x1x32 : Shape := ⟨4, ![1, 16384, 1, 32]⟩
abbrev S2x16384x16x256 : Shape := ⟨4, ![2, 16384, 16, 256]⟩
abbrev S2x16x16384x256 : Shape := ⟨4, ![2, 16, 16384, 256]⟩

abbrev nBuf : Space → Nat
  | .hbm => 75
  | .vmem => 0
  | .smem => 0
  | _ => 0

abbrev bufTy : (tb : Table) → Fin (tcTables nBuf tb) → BufTy
  | .hbm, ⟨0, _⟩ => ⟨S32768x1280, .f32⟩
  | .hbm, ⟨1, _⟩ => ⟨S512, .f32⟩
  | .hbm, ⟨2, _⟩ => ⟨S512x3072, .f32⟩
  | .hbm, ⟨3, _⟩ => ⟨S16384, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S16384x1, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S32768x512, .f32⟩
  | .hbm, ⟨26, _⟩ => ⟨S2x16384x512, .f32⟩
  | .hbm, ⟨27, _⟩ => ⟨S2x16384x512, .f32⟩
  | .hbm, ⟨28, _⟩ => ⟨S_, .f32⟩
  | .hbm, ⟨29, _⟩ => ⟨S2x16384, .f32⟩
  | .hbm, ⟨30, _⟩ => ⟨S2x16384x1, .f32⟩
  | .hbm, ⟨31, _⟩ => ⟨S_, .f32⟩
  | .hbm, ⟨32, _⟩ => ⟨S2x16384x1, .f32⟩
  | .hbm, ⟨33, _⟩ => ⟨S2x16384x1, .f32⟩
  | .hbm, ⟨34, _⟩ => ⟨S_, .f32⟩
  | .hbm, ⟨35, _⟩ => ⟨S2x16384x1, .f32⟩
  | .hbm, ⟨36, _⟩ => ⟨S2x16384x1, .f32⟩
  | .hbm, ⟨37, _⟩ => ⟨S2x16384x1, .f32⟩
  | .hbm, ⟨38, _⟩ => ⟨S2x16384x512, .f32⟩
  | .hbm, ⟨39, _⟩ => ⟨S2x16384x512, .f32⟩
  | .hbm, ⟨40, _⟩ => ⟨S1x1x512, .f32⟩
  | .hbm, ⟨41, _⟩ => ⟨S2x16384x512, .f32⟩
  | .hbm, ⟨42, _⟩ => ⟨S2x16384x512, .f32⟩
  | .hbm, ⟨43, _⟩ => ⟨S2x16384x3072, .f32⟩
  | .hbm, ⟨44, _⟩ => ⟨S2x16384x16x192, .f32⟩
  | .hbm, ⟨45, _⟩ => ⟨S2x16384x16x128, .f32⟩
  | .hbm, ⟨46, _⟩ => ⟨S2x16384x16x64, .f32⟩
  | .hbm, ⟨47, _⟩ => ⟨S16384x1x32, .f32⟩
  | .hbm, ⟨48, _⟩ => ⟨S16384x1x32, .f32⟩
  | .hbm, ⟨49, _⟩ => ⟨S2x16384x16x32, .f32⟩
  | .hbm, ⟨50, _⟩ => ⟨S2x16384x16x32, .f32⟩
  | .hbm, ⟨51, _⟩ => ⟨S1x16384x1x32, .f32⟩
  | .hbm, ⟨52, _⟩ => ⟨S2x16384x16x32, .f32⟩
  | .hbm, ⟨53, _⟩ => ⟨S2x16384x16x32, .f32⟩
  | .hbm, ⟨54, _⟩ => ⟨S1x16384x1x32, .f32⟩
  | .hbm, ⟨55, _⟩ => ⟨S2x16384x16x32, .f32⟩
  | .hbm, ⟨56, _⟩ => ⟨S2x16384x16x32, .f32⟩
  | .hbm, ⟨57, _⟩ => ⟨S2x16384x16x32, .f32⟩
  | .hbm, ⟨58, _⟩ => ⟨S1x16384x1x32, .f32⟩
  | .hbm, ⟨59, _⟩ => ⟨S2x16384x16x32, .f32⟩
  | .hbm, ⟨60, _⟩ => ⟨S2x16384x16x32, .f32⟩
  | .hbm, ⟨61, _⟩ => ⟨S1x16384x1x32, .f32⟩
  | .hbm, ⟨62, _⟩ => ⟨S2x16384x16x32, .f32⟩
  | .hbm, ⟨63, _⟩ => ⟨S2x16384x16x32, .f32⟩
  | .hbm, ⟨64, _⟩ => ⟨S2x16384x16x32, .f32⟩
  | .hbm, ⟨65, _⟩ => ⟨S2x16384x16x64, .f32⟩
  | .hbm, ⟨66, _⟩ => ⟨S_, .f32⟩
  | .hbm, ⟨67, _⟩ => ⟨S2x16384x16x64, .f32⟩
  | .hbm, ⟨68, _⟩ => ⟨S_, .f32⟩
  | .hbm, ⟨69, _⟩ => ⟨S_, .f32⟩
  | .hbm, ⟨70, _⟩ => ⟨S2x16384x16x256, .f32⟩
  | .hbm, ⟨71, _⟩ => ⟨S2x16384x16x256, .f32⟩
  | .hbm, ⟨72, _⟩ => ⟨S2x16384x16x256, .f32⟩
  | .hbm, ⟨73, _⟩ => ⟨S2x16x16384x256, .f32⟩
  | .hbm, ⟨74, _⟩ => ⟨S2x16x16384x256, .bf16⟩
  | _, _ => ⟨S32768x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== KernelKeyvalue.lean ====
abbrev S32768x1280 : Shape := ⟨2, ![32768, 1280]⟩
abbrev S512 : Shape := ⟨1, ![512]⟩
abbrev S512x4096 : Shape := ⟨2, ![512, 4096]⟩
abbrev S_ : Shape := ⟨0, ![]⟩
abbrev S7x512 : Shape := ⟨2, ![7, 512]⟩
abbrev S1x512 : Shape := ⟨2, ![1, 512]⟩
abbrev S8x512 : Shape := ⟨2, ![8, 512]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x96 : Shape := ⟨2, ![16384, 96]⟩
abbrev S16384x384 : Shape := ⟨2, ![16384, 384]⟩
abbrev S2x16x16384x256 : Shape := ⟨4, ![2, 16, 16384, 256]⟩
abbrev S2x16x16384x128 : Shape := ⟨4, ![2, 16, 16384, 128]⟩
abbrev S512x512 : Shape := ⟨2, ![512, 512]⟩
abbrev S512x128 : Shape := ⟨2, ![512, 128]⟩
abbrev S512x384 : Shape := ⟨2, ![512, 384]⟩
abbrev S1x16x512x256 : Shape := ⟨4, ![1, 16, 512, 256]⟩
abbrev S1x16x512x128 : Shape := ⟨4, ![1, 16, 512, 128]⟩
abbrev S512x1 : Shape := ⟨2, ![512, 1]⟩
abbrev S512x256 : Shape := ⟨2, ![512, 256]⟩
abbrev S1x1x512x128 : Shape := ⟨4, ![1, 1, 512, 128]⟩

abbrev nBuf : Space → Nat
  | .hbm => 42
  | .vmem => 12
  | .smem => 0
  | _ => 0

abbrev bufTy : (tb : Table) → Fin (tcTables nBuf tb) → BufTy
  | .hbm, ⟨0, _⟩ => ⟨S32768x1280, .f32⟩
  | .hbm, ⟨1, _⟩ => ⟨S512, .f32⟩
  | .hbm, ⟨2, _⟩ => ⟨S512x4096, .f32⟩
  | .hbm, ⟨3, _⟩ => ⟨S_, .f32⟩
  | .hbm, ⟨4, _⟩ => ⟨S7x512, .f32⟩
  | .hbm, ⟨5, _⟩ => ⟨S1x512, .f32⟩
  | .hbm, ⟨6, _⟩ => ⟨S8x512, .f32⟩
  | .hbm, ⟨7, _⟩ => ⟨S512x4096, .bf16⟩
  | .hbm, ⟨8, _⟩ => ⟨S16384, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S16384x1, .f32⟩
  | .hbm, ⟨24, _⟩ => ⟨S1x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S_, .f32⟩
  | .hbm, ⟨31, _⟩ => ⟨S16384x64, .f32⟩
  | .hbm, ⟨32, _⟩ => ⟨S16384x32, .f32⟩
  | .hbm, ⟨33, _⟩ => ⟨S_, .f32⟩
  | .hbm, ⟨34, _⟩ => ⟨S16384x96, .f32⟩
  | .hbm, ⟨35, _⟩ => ⟨S_, .f32⟩
  | .hbm, ⟨36, _⟩ => ⟨S16384x32, .f32⟩
  | .hbm, ⟨37, _⟩ => ⟨S_, .f32⟩
  | .hbm, ⟨38, _⟩ => ⟨S16384x64, .f32⟩
  | .hbm, ⟨39, _⟩ => ⟨S16384x384, .f32⟩
  | .hbm, ⟨40, _⟩ => ⟨S2x16x16384x256, .bf16⟩
  | .hbm, ⟨41, _⟩ => ⟨S2x16x16384x128, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S8x512, .f32⟩
  | .local _ .vmem, ⟨5, _⟩ => ⟨S512x4096, .bf16⟩
  | .local _ .vmem, ⟨6, _⟩ => ⟨S512x384, .f32⟩
  | .local _ .vmem, ⟨7, _⟩ => ⟨S512x384, .f32⟩
  | .local _ .vmem, ⟨8, _⟩ => ⟨S1x16x512x256, .bf16⟩
  | .local _ .vmem, ⟨9, _⟩ => ⟨S1x16x512x256, .bf16⟩
  | .local _ .vmem, ⟨10, _⟩ => ⟨S1x16x512x128, .bf16⟩
  | .local _ .vmem, ⟨11, _⟩ => ⟨S1x16x512x128, .bf16⟩
  | _, _ => ⟨S32768x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceKeyvalueIdeal.lean ====
abbrev S32768x1280 : Shape := ⟨2, ![32768, 1280]⟩
abbrev S512 : Shape := ⟨1, ![512]⟩
abbrev S512x4096 : Shape := ⟨2, ![512, 4096]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S32768x512 : Shape := ⟨2, ![32768, 512]⟩
abbrev S2x16384x512 : Shape := ⟨3, ![2, 16384, 512]⟩
abbrev S32768x64 : Shape := ⟨2, ![32768, 64]⟩
abbrev S2x16384x64 : Shape := ⟨3, ![2, 16384, 64]⟩
abbrev S2x16384x32 : Shape := ⟨3, ![2, 16384, 32]⟩
abbrev S1x16384x32 : Shape := ⟨3, ![1, 16384, 32]⟩
abbrev S2x16384 : Shape := ⟨2, ![2, 16384]⟩
abbrev S2x16384x1 : Shape := ⟨3, ![2, 16384, 1]⟩
abbrev S1x1x512 : Shape := ⟨3, ![1, 1, 512]⟩
abbrev S2x16384x4096 : Shape := ⟨3, ![2, 16384, 4096]⟩
abbrev S2x16384x16x256 : Shape := ⟨4, ![2, 16384, 16, 256]⟩
abbrev S2x16384x16x128 : Shape := ⟨4, ![2, 16384, 16, 128]⟩
abbrev S2x16384x1x64 : Shape := ⟨4, ![2, 16384, 1, 64]⟩
abbrev S2x16384x16x64 : Shape := ⟨4, ![2, 16384, 16, 64]⟩
abbrev S2x16x16384x256 : Shape := ⟨4, ![2, 16, 16384, 256]⟩
abbrev S2x16x16384x128 : Shape := ⟨4, ![2, 16, 16384, 128]⟩

abbrev nBuf : Space → Nat
  | .hbm => 75
  | .vmem => 0
  | .smem => 0
  | _ => 0

abbrev bufTy : (tb : Table) → Fin (tcTables nBuf tb) → BufTy
  | .hbm, ⟨0, _⟩ => ⟨S32768x1280, .f32⟩
  | .hbm, ⟨1, _⟩ => ⟨S512, .f32⟩
  | .hbm, ⟨2, _⟩ => ⟨S512x4096, .f32⟩
  | .hbm, ⟨3, _⟩ => ⟨S16384, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S16384x1, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S32768x512, .f32⟩
  | .hbm, ⟨26, _⟩ => ⟨S2x16384x512, .f32⟩
  | .hbm, ⟨27, _⟩ => ⟨S32768x64, .f32⟩
  | .hbm, ⟨28, _⟩ => ⟨S2x16384x64, .f32⟩
  | .hbm, ⟨29, _⟩ => ⟨S2x16384x32, .f32⟩
  | .hbm, ⟨30, _⟩ => ⟨S2x16384x32, .f32⟩
  | .hbm, ⟨31, _⟩ => ⟨S1x16384x32, .f32⟩
  | .hbm, ⟨32, _⟩ => ⟨S2x16384x32, .f32⟩
  | .hbm, ⟨33, _⟩ => ⟨S2x16384x32, .f32⟩
  | .hbm, ⟨34, _⟩ => ⟨S1x16384x32, .f32⟩
  | .hbm, ⟨35, _⟩ => ⟨S2x16384x32, .f32⟩
  | .hbm, ⟨36, _⟩ => ⟨S2x16384x32, .f32⟩
  | .hbm, ⟨37, _⟩ => ⟨S2x16384x32, .f32⟩
  | .hbm, ⟨38, _⟩ => ⟨S1x16384x32, .f32⟩
  | .hbm, ⟨39, _⟩ => ⟨S2x16384x32, .f32⟩
  | .hbm, ⟨40, _⟩ => ⟨S2x16384x32, .f32⟩
  | .hbm, ⟨41, _⟩ => ⟨S1x16384x32, .f32⟩
  | .hbm, ⟨42, _⟩ => ⟨S2x16384x32, .f32⟩
  | .hbm, ⟨43, _⟩ => ⟨S2x16384x32, .f32⟩
  | .hbm, ⟨44, _⟩ => ⟨S2x16384x32, .f32⟩
  | .hbm, ⟨45, _⟩ => ⟨S2x16384x64, .f32⟩
  | .hbm, ⟨46, _⟩ => ⟨S2x16384x512, .f32⟩
  | .hbm, ⟨47, _⟩ => ⟨S_, .f32⟩
  | .hbm, ⟨48, _⟩ => ⟨S2x16384, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x1, .f32⟩
  | .hbm, ⟨57, _⟩ => ⟨S2x16384x512, .f32⟩
  | .hbm, ⟨58, _⟩ => ⟨S2x16384x512, .f32⟩
  | .hbm, ⟨59, _⟩ => ⟨S1x1x512, .f32⟩
  | .hbm, ⟨60, _⟩ => ⟨S2x16384x512, .f32⟩
  | .hbm, ⟨61, _⟩ => ⟨S2x16384x512, .f32⟩
  | .hbm, ⟨62, _⟩ => ⟨S2x16384x4096, .f32⟩
  | .hbm, ⟨63, _⟩ => ⟨S2x16384x16x256, .f32⟩
  | .hbm, ⟨64, _⟩ => ⟨S2x16384x16x128, .f32⟩
  | .hbm, ⟨65, _⟩ => ⟨S2x16384x16x128, .f32⟩
  | .hbm, ⟨66, _⟩ => ⟨S2x16384x1x64, .f32⟩
  | .hbm, ⟨67, _⟩ => ⟨S2x16384x16x64, .f32⟩
  | .hbm, ⟨68, _⟩ => ⟨S_, .f32⟩
  | .hbm, ⟨69, _⟩ => ⟨S2x16384x16x64, .f32⟩
  | .hbm, ⟨70, _⟩ => ⟨S2x16384x16x256, .f32⟩
  | .hbm, ⟨71, _⟩ => ⟨S2x16x16384x256, .f32⟩
  | .hbm, ⟨72, _⟩ => ⟨S2x16x16384x256, .bf16⟩
  | .hbm, ⟨73, _⟩ => ⟨S2x16x16384x128, .f32⟩
  | .hbm, ⟨74, _⟩ => ⟨S2x16x16384x128, .bf16⟩
  | _, _ => ⟨S32768x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== KernelConv.lean ====
abbrev S32768x14336 : Shape := ⟨2, ![32768, 14336]⟩
abbrev S5x6144 : Shape := ⟨2, ![5, 6144]⟩
abbrev S6144 : Shape := ⟨1, ![6144]⟩
abbrev S1x6144 : Shape := ⟨2, ![1, 6144]⟩
abbrev S_ : Shape := ⟨0, ![]⟩
abbrev S2x6144 : Shape := ⟨2, ![2, 6144]⟩
abbrev S6x6144 : Shape := ⟨2, ![6, 6144]⟩
abbrev S8x6144 : Shape := ⟨2, ![8, 6144]⟩
abbrev S32768x6144 : Shape := ⟨2, ![32768, 6144]⟩
abbrev S16x1024 : Shape := ⟨2, ![16, 1024]⟩
abbrev S512x1024 : Shape := ⟨2, ![512, 1024]⟩
abbrev S8x1024 : Shape := ⟨2, ![8, 1024]⟩
abbrev S1x1024 : Shape := ⟨2, ![1, 1024]⟩

abbrev nBuf : Space → Nat
  | .hbm => 24
  | .vmem => 10
  | .smem => 0
  | _ => 0

abbrev bufTy : (tb : Table) → Fin (tcTables nBuf tb) → BufTy
  | .hbm, ⟨0, _⟩ => ⟨S32768x14336, .bf16⟩
  | .hbm, ⟨1, _⟩ => ⟨S5x6144, .f32⟩
  | .hbm, ⟨2, _⟩ => ⟨S6144, .f32⟩
  | .hbm, ⟨3, _⟩ => ⟨S1x6144, .f32⟩
  | .hbm, ⟨4, _⟩ => ⟨S6144, .f32⟩
  | .hbm, ⟨5, _⟩ => ⟨S1x6144, .f32⟩
  | .hbm, ⟨6, _⟩ => ⟨S6144, .f32⟩
  | .hbm, ⟨7, _⟩ => ⟨S1x6144, .f32⟩
  | .hbm, ⟨8, _⟩ => ⟨S6144, .f32⟩
  | .hbm, ⟨9, _⟩ => ⟨S1x6144, .f32⟩
  | .hbm, ⟨10, _⟩ => ⟨S6144, .f32⟩
  | .hbm, ⟨11, _⟩ => ⟨S1x6144, .f32⟩
  | .hbm, ⟨12, _⟩ => ⟨S6144, .f32⟩
  | .hbm, ⟨13, _⟩ => ⟨S_, .f32⟩
  | .hbm, ⟨14, _⟩ => ⟨S2x6144, .f32⟩
  | .hbm, ⟨15, _⟩ => ⟨S1x6144, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S1x6144, .f32⟩
  | .hbm, ⟨20, _⟩ => ⟨S1x6144, .f32⟩
  | .hbm, ⟨21, _⟩ => ⟨S6x6144, .f32⟩
  | .hbm, ⟨22, _⟩ => ⟨S8x6144, .f32⟩
  | .hbm, ⟨23, _⟩ => ⟨S32768x6144, .bf16⟩
  | .local _ .vmem, ⟨0, _⟩ => ⟨S16x1024, .bf16⟩
  | .local _ .vmem, ⟨1, _⟩ => ⟨S16x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S8x1024, .f32⟩
  | .local _ .vmem, ⟨7, _⟩ => ⟨S8x1024, .f32⟩
  | .local _ .vmem, ⟨8, _⟩ => ⟨S512x1024, .bf16⟩
  | .local _ .vmem, ⟨9, _⟩ => ⟨S512x1024, .bf16⟩
  | _, _ => ⟨S32768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 32, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.muli v1 c32_i32_0
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let v5 : BitVec 32 := Scalar.addi c4_i32 arg2
  let c0_i32_1 : BitVec 32 := 0#32
  ![v4.toNat, v5.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c4_i32 : BitVec 32 := 4#32
  let v2 : BitVec 32 := Scalar.addi c4_i32 arg2
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.addi v1 c1_i32
  let c32_i32_0 : BitVec 32 := 32#32
  let v3 : BitVec 32 := Scalar.muli v2 c32_i32_0
  let c2047_i32 : BitVec 32 := 2047#32
  let v4 : BitVec 32 := Scalar.minsi v3 c2047_i32
  let c4_i32 : BitVec 32 := 4#32
  let v5 : BitVec 32 := Scalar.addi c4_i32 arg2
  let c0_i32 : BitVec 32 := 0#32
  ![v4.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c0_i32 : BitVec 32 := 0#32
  ![v1.toNat, arg2.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceConvIdeal.lean ====
abbrev S32768x14336 : Shape := ⟨2, ![32768, 14336]⟩
abbrev S5x6144 : Shape := ⟨2, ![5, 6144]⟩
abbrev S6144 : Shape := ⟨1, ![6144]⟩
abbrev S32768x6144 : Shape := ⟨2, ![32768, 6144]⟩
abbrev S2x16384x6144 : Shape := ⟨3, ![2, 16384, 6144]⟩
abbrev S_ : Shape := ⟨0, ![]⟩
abbrev S2x2x6144 : Shape := ⟨3, ![2, 2, 6144]⟩
abbrev S2x16388x6144 : Shape := ⟨3, ![2, 16388, 6144]⟩
abbrev S1x6144 : Shape := ⟨2, ![1, 6144]⟩
abbrev S1x1x6144 : Shape := ⟨3, ![1, 1, 6144]⟩

abbrev nBuf : Space → Nat
  | .hbm => 57
  | .vmem => 0
  | .smem => 0
  | _ => 0

abbrev bufTy : (tb : Table) → Fin (tcTables nBuf tb) → BufTy
  | .hbm, ⟨0, _⟩ => ⟨S32768x14336, .bf16⟩
  | .hbm, ⟨1, _⟩ => ⟨S5x6144, .f32⟩
  | .hbm, ⟨2, _⟩ => ⟨S6144, .f32⟩
  | .hbm, ⟨3, _⟩ => ⟨S32768x6144, .bf16⟩
  | .hbm, ⟨4, _⟩ => ⟨S32768x6144, .f32⟩
  | .hbm, ⟨5, _⟩ => ⟨S2x16384x6144, .f32⟩
  | .hbm, ⟨6, _⟩ => ⟨S_, .f32⟩
  | .hbm, ⟨7, _⟩ => ⟨S2x2x6144, .f32⟩
  | .hbm, ⟨8, _⟩ => ⟨S2x16388x6144, .f32⟩
  | .hbm, ⟨9, _⟩ => ⟨S2x16384x6144, .f32⟩
  | .hbm, ⟨10, _⟩ => ⟨S1x6144, .f32⟩
  | .hbm, ⟨11, _⟩ => ⟨S6144, .f32⟩
  | .hbm, ⟨12, _⟩ => ⟨S1x1x6144, .f32⟩
  | .hbm, ⟨13, _⟩ => ⟨S2x16384x6144, .f32⟩
  | .hbm, ⟨14, _⟩ => ⟨S2x16384x6144, .f32⟩
  | .hbm, ⟨15, _⟩ => ⟨S2x16384x6144, .f32⟩
  | .hbm, ⟨16, _⟩ => ⟨S1x6144, .f32⟩
  | .hbm, ⟨17, _⟩ => ⟨S6144, .f32⟩
  | .hbm, ⟨18, _⟩ => ⟨S1x1x6144, .f32⟩
  | .hbm, ⟨19, _⟩ => ⟨S2x16384x6144, .f32⟩
  | .hbm, ⟨20, _⟩ => ⟨S2x16384x6144, .f32⟩
  | .hbm, ⟨21, _⟩ => ⟨S2x16384x6144, .f32⟩
  | .hbm, ⟨22, _⟩ => ⟨S2x16384x6144, .f32⟩
  | .hbm, ⟨23, _⟩ => ⟨S1x6144, .f32⟩
  | .hbm, ⟨24, _⟩ => ⟨S6144, .f32⟩
  | .hbm, ⟨25, _⟩ => ⟨S1x1x6144, .f32⟩
  | .hbm, ⟨26, _⟩ => ⟨S2x16384x6144, .f32⟩
  | .hbm, ⟨27, _⟩ => ⟨S2x16384x6144, .f32⟩
  | .hbm, ⟨28, _⟩ => ⟨S2x16384x6144, .f32⟩
  | .hbm, ⟨29, _⟩ => ⟨S2x16384x6144, .f32⟩
  | .hbm, ⟨30, _⟩ => ⟨S1x6144, .f32⟩
  | .hbm, ⟨31, _⟩ => ⟨S6144, .f32⟩
  | .hbm, ⟨32, _⟩ => ⟨S1x1x6144, .f32⟩
  | .hbm, ⟨33, _⟩ => ⟨S2x16384x6144, .f32⟩
  | .hbm, ⟨34, _⟩ => ⟨S2x16384x6144, .f32⟩
  | .hbm, ⟨35, _⟩ => ⟨S2x16384x6144, .f32⟩
  | .hbm, ⟨36, _⟩ => ⟨S2x16384x6144, .f32⟩
  | .hbm, ⟨37, _⟩ => ⟨S1x6144, .f32⟩
  | .hbm, ⟨38, _⟩ => ⟨S6144, .f32⟩
  | .hbm, ⟨39, _⟩ => ⟨S1x1x6144, .f32⟩
  | .hbm, ⟨40, _⟩ => ⟨S2x16384x6144, .f32⟩
  | .hbm, ⟨41, _⟩ => ⟨S2x16384x6144, .f32⟩
  | .hbm, ⟨42, _⟩ => ⟨S2x16384x6144, .f32⟩
  | .hbm, ⟨43, _⟩ => ⟨S1x1x6144, .f32⟩
  | .hbm, ⟨44, _⟩ => ⟨S2x16384x6144, .f32⟩
  | .hbm, ⟨45, _⟩ => ⟨S2x16384x6144, .f32⟩
  | .hbm, ⟨46, _⟩ => ⟨S2x16384x6144, .f32⟩
  | .hbm, ⟨47, _⟩ => ⟨S2x16384x6144, .f32⟩
  | .hbm, ⟨48, _⟩ => ⟨S_, .f32⟩
  | .hbm, ⟨49, _⟩ => ⟨S2x16384x6144, .f32⟩
  | .hbm, ⟨50, _⟩ => ⟨S2x16384x6144, .f32⟩
  | .hbm, ⟨51, _⟩ => ⟨S_, .f32⟩
  | .hbm, ⟨52, _⟩ => ⟨S2x16384x6144, .f32⟩
  | .hbm, ⟨53, _⟩ => ⟨S2x16384x6144, .f32⟩
  | .hbm, ⟨54, _⟩ => ⟨S2x16384x6144, .f32⟩
  | .hbm, ⟨55, _⟩ => ⟨S32768x6144, .f32⟩
  | .hbm, ⟨56, _⟩ => ⟨S32768x6144, .bf16⟩
  | _, _ => ⟨S32768x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== KernelFinish.lean ====
abbrev S32768x4096 : Shape := ⟨2, ![32768, 4096]⟩
abbrev S32768x6144 : Shape := ⟨2, ![32768, 6144]⟩
abbrev S32768x14336 : Shape := ⟨2, ![32768, 14336]⟩
abbrev S64 : Shape := ⟨1, ![64]⟩
abbrev S4096 : Shape := ⟨1, ![4096]⟩
abbrev S64x64 : Shape := ⟨2, ![64, 64]⟩
abbrev S_ : Shape := ⟨0, ![]⟩
abbrev S6x4096 : Shape := ⟨2, ![6, 4096]⟩
abbrev S1x4096 : Shape := ⟨2, ![1, 4096]⟩
abbrev S2x4096 : Shape := ⟨2, ![2, 4096]⟩
abbrev S8x4096 : Shape := ⟨2, ![8, 4096]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 15
  | .vmem => 11
  | .smem => 0
  | _ => 0

abbrev bufTy : (tb : Table) → Fin (tcTables nBuf tb) → BufTy
  | .hbm, ⟨0, _⟩ => ⟨S32768x4096, .bf16⟩
  | .hbm, ⟨1, _⟩ => ⟨S32768x4096, .bf16⟩
  | .hbm, ⟨2, _⟩ => ⟨S32768x6144, .bf16⟩
  | .hbm, ⟨3, _⟩ => ⟨S32768x14336, .bf16⟩
  | .hbm, ⟨4, _⟩ => ⟨S64, .f32⟩
  | .hbm, ⟨5, _⟩ => ⟨S4096, .f32⟩
  | .hbm, ⟨6, _⟩ => ⟨S64x64, .f32⟩
  | .hbm, ⟨7, _⟩ => ⟨S4096, .f32⟩
  | .hbm, ⟨8, _⟩ => ⟨S_, .f32⟩
  | .hbm, ⟨9, _⟩ => ⟨S6x4096, .f32⟩
  | .hbm, ⟨10, _⟩ => ⟨S1x4096, .f32⟩
  | .hbm, ⟨11, _⟩ => ⟨S1x4096, .f32⟩
  | .hbm, ⟨12, _⟩ => ⟨S2x4096, .f32⟩
  | .hbm, ⟨13, _⟩ => ⟨S8x4096, .f32⟩
  | .hbm, ⟨14, _⟩ => ⟨S32768x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S8x4096, .f32⟩
  | .local _ .vmem, ⟨9, _⟩ => ⟨S256x4096, .bf16⟩
  | .local _ .vmem, ⟨10, _⟩ => ⟨S256x4096, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFinishIdeal.lean ====
abbrev S32768x4096 : Shape := ⟨2, ![32768, 4096]⟩
abbrev S32768x6144 : Shape := ⟨2, ![32768, 6144]⟩
abbrev S32768x14336 : Shape := ⟨2, ![32768, 14336]⟩
abbrev S64 : Shape := ⟨1, ![64]⟩
abbrev S4096 : Shape := ⟨1, ![4096]⟩
abbrev S32768x8x8x64 : Shape := ⟨4, ![32768, 8, 8, 64]⟩
abbrev S8x8x1 : Shape := ⟨3, ![8, 8, 1]⟩
abbrev S1x8x8x1 : Shape := ⟨4, ![1, 8, 8, 1]⟩
abbrev S_ : Shape := ⟨0, ![]⟩
abbrev S32768x8x512 : Shape := ⟨3, ![32768, 8, 512]⟩
abbrev S8x512 : Shape := ⟨2, ![8, 512]⟩
abbrev S32768x8 : Shape := ⟨2, ![32768, 8]⟩
abbrev S32768x8x1 : Shape := ⟨3, ![32768, 8, 1]⟩
abbrev S1x8x512 : Shape := ⟨3, ![1, 8, 512]⟩

abbrev nBuf : Space → Nat
  | .hbm => 52
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x4096, .bf16⟩
  | .hbm, ⟨2, _⟩ => ⟨S32768x6144, .bf16⟩
  | .hbm, ⟨3, _⟩ => ⟨S32768x14336, .bf16⟩
  | .hbm, ⟨4, _⟩ => ⟨S64, .f32⟩
  | .hbm, ⟨5, _⟩ => ⟨S4096, .f32⟩
  | .hbm, ⟨6, _⟩ => ⟨S32768x4096, .bf16⟩
  | .hbm, ⟨7, _⟩ => ⟨S32768x4096, .f32⟩
  | .hbm, ⟨8, _⟩ => ⟨S32768x8x8x64, .f32⟩
  | .hbm, ⟨9, _⟩ => ⟨S8x8x1, .f32⟩
  | .hbm, ⟨10, _⟩ => ⟨S1x8x8x1, .f32⟩
  | .hbm, ⟨11, _⟩ => ⟨S32768x8x8x64, .f32⟩
  | .hbm, ⟨12, _⟩ => ⟨S32768x8x8x64, .f32⟩
  | .hbm, ⟨13, _⟩ => ⟨S32768x4096, .f32⟩
  | .hbm, ⟨14, _⟩ => ⟨S32768x8x8x64, .f32⟩
  | .hbm, ⟨15, _⟩ => ⟨S32768x8x8x64, .f32⟩
  | .hbm, ⟨16, _⟩ => ⟨S32768x4096, .f32⟩
  | .hbm, ⟨17, _⟩ => ⟨S32768x8x8x64, .f32⟩
  | .hbm, ⟨18, _⟩ => ⟨S32768x8x8x64, .f32⟩
  | .hbm, ⟨19, _⟩ => ⟨S32768x4096, .f32⟩
  | .hbm, ⟨20, _⟩ => ⟨S32768x4096, .bf16⟩
  | .hbm, ⟨21, _⟩ => ⟨S32768x4096, .f32⟩
  | .hbm, ⟨22, _⟩ => ⟨S32768x4096, .f32⟩
  | .hbm, ⟨23, _⟩ => ⟨S32768x4096, .f32⟩
  | .hbm, ⟨24, _⟩ => ⟨S_, .f32⟩
  | .hbm, ⟨25, _⟩ => ⟨S32768x4096, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S32768x4096, .f32⟩
  | .hbm, ⟨32, _⟩ => ⟨S32768x8x512, .f32⟩
  | .hbm, ⟨33, _⟩ => ⟨S8x512, .f32⟩
  | .hbm, ⟨34, _⟩ => ⟨S32768x8x512, .f32⟩
  | .hbm, ⟨35, _⟩ => ⟨S_, .f32⟩
  | .hbm, ⟨36, _⟩ => ⟨S32768x8, .f32⟩
  | .hbm, ⟨37, _⟩ => ⟨S32768x8x1, .f32⟩
  | .hbm, ⟨38, _⟩ => ⟨S_, .f32⟩
  | .hbm, ⟨39, _⟩ => ⟨S32768x8x1, .f32⟩
  | .hbm, ⟨40, _⟩ => ⟨S32768x8x1, .f32⟩
  | .hbm, ⟨41, _⟩ => ⟨S_, .f32⟩
  | .hbm, ⟨42, _⟩ => ⟨S32768x8x1, .f32⟩
  | .hbm, ⟨43, _⟩ => ⟨S32768x8x1, .f32⟩
  | .hbm, ⟨44, _⟩ => ⟨S32768x8x1, .f32⟩
  | .hbm, ⟨45, _⟩ => ⟨S32768x8x512, .f32⟩
  | .hbm, ⟨46, _⟩ => ⟨S32768x8x512, .f32⟩
  | .hbm, ⟨47, _⟩ => ⟨S1x8x512, .f32⟩
  | .hbm, ⟨48, _⟩ => ⟨S32768x8x512, .f32⟩
  | .hbm, ⟨49, _⟩ => ⟨S32768x8x512, .f32⟩
  | .hbm, ⟨50, _⟩ => ⟨S32768x4096, .f32⟩
  | .hbm, ⟨51, _⟩ => ⟨S32768x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.FlashTrip.lean ====
/-
  One trip of the attention kernel's loop, read element by element over the extended reals. A trip has the 512 queries of
  the block, 512 keys and 512 values, and the three carried arrays: the running maxima, the running sums, the running
  weighted sums. `score` is the product of a query with a key; `pay5_apply` says the new maximum of a row is the old one
  against the greatest of the row's 512 new scores; `pay8_apply` and `pay9_apply` say what the two sums become;
  `pay10_apply` says what is written at the end: the weighted sum over the plain sum.
-/
module

public import proofs.«01_k».proof.Proof.Gen.KernelIdeal.Skeleton
public import Idealize.ShloMosaic.Lib.ValueIdx
public import Idealize.ShloMosaic.Lib.MatmulPlain
public import Idealize.ShloMosaic.Lib.Pipeline.Value

@[expose] public section

noncomputable section

open Idealize.ShloMosaic Idealize.ShloMosaic.ValueIdx

namespace Cert.Attn

open Cert.KernelIdeal Cert.KernelIdeal.Gen

variable (q : Vec Ideal S1x1x512x256 .bf16) (kb : Vec Ideal S1x1x512x256 .bf16) (vb : Vec Ideal S1x1x512x128 .bf16)
variable (mo lo : FVec Ideal S512x1 .f32) (ao : FVec Ideal S512x128 .f32)

/-- The score of query row `r` against key row `j` of a block: the sum of the products over the 256 columns. -/
def score (q kb : Vec Ideal S1x1x512x256 .bf16) (r j : Fin 512) : EReal :=
  ∑ d : Fin 256, (q (ix4 (0 : Fin 1) (0 : Fin 1) r d) : EReal) * (kb (ix4 (0 : Fin 1) (0 : Fin 1) j d) : EReal)

/-- A [1, 1, 512, 256] block seen as [512, 256] keeps its rows and columns. -/
theorem cast256 (x : Vec Ideal S1x1x512x256 .bf16) (r : Fin 512) (d : Fin 256) :
    shapeCast S512x256 x shapeCasts_S1x1x512x256_S512x256 (ix2 r d) = x (ix4 (0 : Fin 1) (0 : Fin 1) r d) :=
  shapeCast_apply x _ (ix2 r d) (ix4 (0 : Fin 1) (0 : Fin 1) r d) (by
    rewrite [Shape.rowMajor_val_four, Shape.rowMajor_val_two]
    show ((0 * 1 + 0) * 512 + r.val) * 256 + d.val = r.val * 256 + d.val
    omega)

/-- A [1, 1, 512, 128] block seen as [512, 128] keeps its rows and columns. -/
theorem cast128 (x : Vec Ideal S1x1x512x128 .bf16) (r : Fin 512) (d : Fin 128) :
    shapeCast S512x128 x shapeCasts_S1x1x512x128_S512x128 (ix2 r d) = x (ix4 (0 : Fin 1) (0 : Fin 1) r d) :=
  shapeCast_apply x _ (ix2 r d) (ix4 (0 : Fin 1) (0 : Fin 1) r d) (by
    rewrite [Shape.rowMajor_val_four, Shape.rowMajor_val_two]
    show ((0 * 1 + 0) * 512 + r.val) * 128 + d.val = r.val * 128 + d.val
    omega)

/-- A row of numbers seen as a column keeps them. -/
theorem castCol (x : FVec Ideal S512 .f32) (r : Fin 512) :
    shapeCast S512x1 x shapeCasts_S512_S512x1 (ix2 r (0 : Fin 1)) = x (ix1 r) :=
  shapeCast_apply x _ (ix2 r (0 : Fin 1)) (ix1 r) (by
    rewrite [Shape.rowMajor_val_one, Shape.rowMajor_val_two]
    show r.val = r.val * 1 + 0
    omega)

/-- A column spread over 512 lanes reads the column's entry of the row. -/
theorem spread512 (x : FVec Ideal S512x1 .f32) (r j : Fin 512) :
    broadcastTo S512x512 x broadcasts_S512x1_S512x512 (ix2 r j) = x (ix2 r (0 : Fin 1)) :=
  broadcastTo_apply x _ (ix2 r j) (ix2 r (0 : Fin 1)) (fun a => match a with | ⟨0, _⟩ => rfl | ⟨1, _⟩ => rfl)

/-- A column spread over 128 lanes reads the column's entry of the row. -/
theorem spread128 (x : FVec Ideal S512x1 .f32) (r : Fin 512) (d : Fin 128) :
    broadcastTo S512x128 x broadcasts_S512x1_S512x128 (ix2 r d) = x (ix2 r (0 : Fin 1)) :=
  broadcastTo_apply x _ (ix2 r d) (ix2 r (0 : Fin 1)) (fun a => match a with | ⟨0, _⟩ => rfl | ⟨1, _⟩ => rfl)

/-- The trip's product of queries and keys holds the scores. -/
theorem pay4_apply (r j : Fin 512) : k0_pay4 (F := Ideal) q kb (ix2 r j) = score q kb r j := by
  unfold k0_pay4
  refine (Ideal.matmul_transposedRhs_apply (M := 512) (K := 256) (N := 512) none _ _ _ r j).trans ?_
  show Ideal.ofBits .f32 0x00000000#32 + _ = _
  rw [Ideal.ofBits_zero_f32, zero_add]
  exact Finset.sum_congr rfl fun d _ => by rw [cast256, cast256]

/-- The word the maxima start from is minus infinity. -/
theorem ofBits_neg_inf : Ideal.ofBits .f32 0xFF800000#32 = ⊥ := by simp [Ideal.ofBits, Ideal.ieee]

/-- The greatest entry of a row of a square of numbers, as a column holds it. -/
theorem rowMax (x : FVec Ideal S512x512 .f32) (r : Fin 512) :
    shapeCast S512x1 (multiReduction .maximumf [1] S512 x 0xFF800000#32 reduces_S512x512_S512 (.inl rfl) rfl) shapeCasts_S512_S512x1 (ix2 r (0 : Fin 1))
      = (Finset.univ : Finset (Fin 512)).fold max ⊥ fun j : Fin 512 => (x (ix2 r j) : EReal) := by
  refine (castCol _ r).trans ((Ideal.multiReduction_maximumf_single x _ reduces_S512x512_S512 _ _ (ix1 r)).trans ?_)
  show (Finset.univ : Finset (Fin 512)).fold max (Ideal.ofBits .f32 0xFF800000#32) _ = _
  rw [ofBits_neg_inf]
  exact congrArg (fun f => Finset.fold max ⊥ f (Finset.univ : Finset (Fin 512)))
    (funext fun j => congrArg x (funext fun a => match a with | ⟨0, _⟩ => rfl | ⟨1, _⟩ => rfl))

/-- The sum of a row of a square of numbers, as a column holds it. -/
theorem rowSum (x : FVec Ideal S512x512 .f32) (r : Fin 512) :
    shapeCast S512x1 (multiReduction .add [1] S512 x 0x00000000#32 reduces_S512x512_S512 (.inl rfl) rfl) shapeCasts_S512_S512x1 (ix2 r (0 : Fin 1))
      = ∑ j : Fin 512, (x (ix2 r j) : EReal) := by
  refine (castCol _ r).trans ((Ideal.multiReduction_add_single x _ reduces_S512x512_S512 _ _ (ix1 r)).trans ?_)
  exact Finset.sum_congr rfl fun j _ => congrArg x (funext fun a => match a with | ⟨0, _⟩ => rfl | ⟨1, _⟩ => rfl)

/-- The row maximum after the trip: the old one against the greatest of the 512 new scores. -/
theorem pay5_apply (r : Fin 512) : k0_pay5 (F := Ideal) q mo kb (ix2 r (0 : Fin 1))
    = max (mo (ix2 r (0 : Fin 1)) : EReal) ((Finset.univ : Finset (Fin 512)).fold max ⊥ fun j : Fin 512 => score q kb r j) := by
  unfold k0_pay5
  dsimp only
  show max (mo (ix2 r (0 : Fin 1)) : EReal) (shapeCast S512x1 _ shapeCasts_S512_S512x1 (ix2 r (0 : Fin 1))) = _
  refine congrArg (max _) ((rowMax _ r).trans ?_)
  exact congrArg (fun f => Finset.fold max ⊥ f Finset.univ) (funext fun j => pay4_apply q kb r j)

/-- The rescaling factor of a row. -/
theorem pay6_apply (r : Fin 512) : k0_pay6 (F := Ideal) q mo kb (ix2 r (0 : Fin 1))
    = Ideal.exp ((mo (ix2 r (0 : Fin 1)) : EReal) - (k0_pay5 (F := Ideal) q mo kb (ix2 r (0 : Fin 1)) : EReal)) := rfl

/-- The weight of a key in a row. -/
theorem pay7_apply (r j : Fin 512) : k0_pay7 (F := Ideal) q mo kb (ix2 r j)
    = Ideal.exp (score q kb r j - (k0_pay5 (F := Ideal) q mo kb (ix2 r (0 : Fin 1)) : EReal)) := by
  unfold k0_pay7
  show Ideal.exp ((k0_pay4 (F := Ideal) q kb (ix2 r j) : EReal) - broadcastTo S512x512 _ broadcasts_S512x1_S512x512 (ix2 r j)) = _
  rw [pay4_apply, spread512]

/-- The running sum after the trip. -/
theorem pay8_apply (r : Fin 512) : k0_pay8 (F := Ideal) q mo lo kb (ix2 r (0 : Fin 1))
    = Ideal.exp ((mo (ix2 r (0 : Fin 1)) : EReal) - (k0_pay5 (F := Ideal) q mo kb (ix2 r (0 : Fin 1)) : EReal)) * (lo (ix2 r (0 : Fin 1)) : EReal)
      + ∑ j : Fin 512, Ideal.exp (score q kb r j - (k0_pay5 (F := Ideal) q mo kb (ix2 r (0 : Fin 1)) : EReal)) := by
  unfold k0_pay8
  show (k0_pay6 (F := Ideal) q mo kb (ix2 r (0 : Fin 1)) : EReal) * (lo (ix2 r (0 : Fin 1)) : EReal)
    + shapeCast S512x1 _ shapeCasts_S512_S512x1 (ix2 r (0 : Fin 1)) = _
  refine congrArg (_ + ·) ((rowSum _ r).trans (Finset.sum_congr rfl fun j _ => pay7_apply q kb mo r j))

/-- The running weighted sum after the trip, a column of it. -/
theorem pay9_apply (r : Fin 512) (d : Fin 128) : k0_pay9 (F := Ideal) q mo ao kb vb (ix2 r d)
    = Ideal.exp ((mo (ix2 r (0 : Fin 1)) : EReal) - (k0_pay5 (F := Ideal) q mo kb (ix2 r (0 : Fin 1)) : EReal)) * (ao (ix2 r d) : EReal)
      + ∑ j : Fin 512, Ideal.exp (score q kb r j - (k0_pay5 (F := Ideal) q mo kb (ix2 r (0 : Fin 1)) : EReal))
          * (vb (ix4 (0 : Fin 1) (0 : Fin 1) j d) : EReal) := by
  unfold k0_pay9
  show broadcastTo S512x128 _ broadcasts_S512x1_S512x128 (ix2 r d) * (ao (ix2 r d) : EReal)
    + FloatOps.matmul (DotDims.plain 512 512 128) none _ _ _ (ix2 r d) = _
  rw [spread128, pay6_apply, Ideal.matmul_plain_apply]
  show _ + (Ideal.ofBits .f32 0x00000000#32 + _) = _
  rw [Ideal.ofBits_zero_f32, zero_add]
  refine congrArg (_ + ·) (Finset.sum_congr rfl fun j _ => ?_)
  rw [cast128]
  exact congrArg (· * _) (pay7_apply q kb mo r j)

/-- What is written: the weighted sum over the plain sum. -/
theorem pay10_apply (r : Fin 512) (d : Fin 128) : k0_pay10 (F := Ideal) lo ao (ix2 r d)
    = Ideal.div (ao (ix2 r d) : EReal) (lo (ix2 r (0 : Fin 1)) : EReal) := by
  unfold k0_pay10
  show Ideal.div (ao (ix2 r d) : EReal) (broadcastTo S512x128 lo broadcasts_S512x1_S512x128 (ix2 r d)) = _
  rw [spread128]

/-- What the carried arrays start from: minus infinity, and zeros. -/
theorem pay1_apply (i : S512x1.Idx) : k0_pay1 (F := Ideal) i = (⊥ : EReal) := ofBits_neg_inf
theorem pay2_apply (i : S512x1.Idx) : k0_pay2 (F := Ideal) i = (0 : EReal) := Ideal.ofBits_zero_f32
theorem pay3_apply (i : S512x128.Idx) : k0_pay3 (F := Ideal) i = (0 : EReal) := Ideal.ofBits_zero_f32

end Cert.Attn

end
-- ==== Proof.FlashBlock.lean ====
/-
  The block the attention kernel writes at a grid point, from the three input blocks: queries [512, 256], keys
  [16384, 256], values [16384, 128]. `trip_eq` names what one trip yields; `block_eq` says that the block written is
  the last weighted sums over the last plain sums of the loop's recursion.
-/
module

public import proofs.«01_k».proof.Proof.Gen.KernelIdeal.Frame
public import proofs.«01_k».proof.Proof.FlashTrip
public import Idealize.ShloMosaic.Lib.Pipeline.Value

@[expose] public section

noncomputable section

open Idealize.ShloMosaic Idealize.ShloMosaic.TcCoe Idealize.ShloMosaic.ValueIdx Idealize.ShloMosaic.Tactic
open Idealize.SL Idealize.SL.Sem

namespace Cert.Attn

open Cert.KernelIdeal Cert.KernelIdeal.Gen

/-- The values the loop carries: running maxima, running sums, running weighted sums. -/
abbrev Carry : Type := FVec Ideal S512x1 .f32 × FVec Ideal S512x1 .f32 × FVec Ideal S512x128 .f32

/-- The 512 keys of trip `k`. -/
def keysAt (x1 : Vec Ideal S1x1x16384x256 .bf16) (k : Fin k0_t1_loop.trips) : Vec Ideal S1x1x512x256 .bf16 :=
  View.ld x1 (Rect.unit (s := S1x1x16384x256) (k0_off1 k) S1x1x512x256.size (k0_off1_inb k))

/-- The 512 values of trip `k`. -/
def valsAt (x2 : Vec Ideal S1x1x16384x128 .bf16) (k : Fin k0_t1_loop.trips) : Vec Ideal S1x1x512x128 .bf16 :=
  View.ld x2 (Rect.unit (s := S1x1x16384x128) (k0_off2 k) S1x1x512x128.size (k0_off2_inb k))

variable (c : Dev nD) (i : grid0.Coords)
  (arg3 : Memref sig .tc .vmem S1x1x512x256 .bf16) (harg3 : arg3.IsWhole)
  (arg4 : Memref sig .tc .vmem S1x1x16384x256 .bf16) (harg4 : arg4.IsWhole)
  (arg5 : Memref sig .tc .vmem S1x1x16384x128 .bf16) (harg5 : arg5.IsWhole)
  (arg6 : Memref sig .tc .vmem S512x128 .bf16) (harg6 : arg6.IsWhole)
  (x0 : Vec Ideal S1x1x512x256 .bf16) (x1 : Vec Ideal S1x1x16384x256 .bf16) (x2 : Vec Ideal S1x1x16384x128 .bf16)

/-- What one trip yields. -/
theorem trip_eq (k : Fin k0_t1_loop.trips) (acc : Carry) :
    tripR_k0_t1 (F := Ideal) Variants.none c none i arg3 harg3 arg4 harg4 arg5 harg5 arg6 harg6 x0 (harg4.unread x1) (harg5.unread x2) k acc
      = (k0_pay5 x0 acc.1 (keysAt x1 k), k0_pay8 x0 acc.1 acc.2.1 (keysAt x1 k), k0_pay9 x0 acc.1 acc.2.2 (keysAt x1 k) (valsAt x2 k)) := by
  unfold tripR_k0_t1 trip_k0_t1
  dsimp only
  sl_unfold_words
  simp only [View.readAt_eq_ld, harg4.read_unread, harg5.read_unread]
  rfl

/-- The loop's recursion, from the blocks alone. -/
def carry (x0 : Vec Ideal S1x1x512x256 .bf16) (x1 : Vec Ideal S1x1x16384x256 .bf16) (x2 : Vec Ideal S1x1x16384x128 .bf16) : ℕ → Carry
  | 0 => (k0_pay1, k0_pay2, k0_pay3)
  | k + 1 => if h : k < k0_t1_loop.trips then
      let acc := carry x0 x1 x2 k
      (k0_pay5 x0 acc.1 (keysAt x1 ⟨k, h⟩), k0_pay8 x0 acc.1 acc.2.1 (keysAt x1 ⟨k, h⟩), k0_pay9 x0 acc.1 acc.2.2 (keysAt x1 ⟨k, h⟩) (valsAt x2 ⟨k, h⟩))
    else carry x0 x1 x2 k

/-- The carried values before trip `k` are the recursion's. -/
theorem st_eq : ∀ k : ℕ, k ≤ k0_t1_loop.trips →
    st_k0_t1 (F := Ideal) Variants.none c none i arg3 harg3 arg4 harg4 arg5 harg5 arg6 harg6 x0 (harg4.unread x1) (harg5.unread x2)
      (k0_pay1, k0_pay2, k0_pay3) k = carry x0 x1 x2 k
  | 0, _ => rfl
  | k + 1, h => by
    rw [st_k0_t1_succ (F := Ideal) Variants.none c none i arg3 harg3 arg4 harg4 arg5 harg5 arg6 harg6 x0 (harg4.unread x1) (harg5.unread x2) _ ⟨k, h⟩,
      trip_eq, st_eq k (Nat.le_of_lt h), carry, dif_pos (Nat.lt_of_succ_le h)]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The block written: the last weighted sums over the last plain sums. -/
theorem block_eq : out0_A_3 (F := Ideal) c i arg3 harg3 arg4 harg4 arg5 harg5 arg6 harg6 x0 x1 x2
    = k0_pay10 (carry x0 x1 x2 k0_t1_loop.trips).2.1 (carry x0 x1 x2 k0_t1_loop.trips).2.2 := by
  unfold out0_A_3
  rw [View.read_writes_eq_canon _ _ _ (cover0_A_3 c i arg3 harg3 arg4 harg4 arg5 harg5 arg6 harg6 x0 x1 x2)]
  unfold kernelRun0_A
  dsimp only
  sl_unfold_words
  rw [View.canon_unit_zero hz2]
  simp only [View.readAt_eq_ld, harg3.read_unread, View.ld_unit_zero (S := S1x1x512x256) hz4]
  rw [st_eq c i arg3 harg3 arg4 harg4 arg5 harg5 arg6 harg6 x0 x1 x2 _ (Nat.le_refl _)]

end Cert.Attn

end
-- ==== Proof.Online.lean ====
/-
  The running softmax, as arithmetic of the extended reals. One row of attention is a list of scores, each a real
  number, and a list of values, each any extended real. The running form goes through the scores block by block and keeps
  three numbers: the greatest score so far, the sum of the exponentials of the scores less that maximum, and the sum of
  the values weighted by the same exponentials; at each block the two sums are rescaled by the exponential of the old
  maximum less the new. `running_softmax`: after the last block, the weighted sum over the plain sum is the softmax of
  the scores, taken in one go, summed against the values.
-/
module

public import Idealize.ShloMosaic.PureOps.Ideal
public import Idealize.ShloMosaic.PureOps.Ideal.Laws

@[expose] public section

noncomputable section

open Idealize.ShloMosaic

namespace Cert.Online

/-- A nonnegative real factor goes into a finite sum of extended reals, whatever the summands. -/
theorem mul_sum_nonneg {ι : Type*} (s : Finset ι) (f : ι → EReal) {x : ℝ} (hx : 0 ≤ x) :
    (x : EReal) * ∑ i ∈ s, f i = ∑ i ∈ s, (x : EReal) * f i := by
  classical
  induction s using Finset.induction_on with
  | empty => simp
  | insert i s hi ih =>
    rw [Finset.sum_insert hi, Finset.sum_insert hi, ← ih]
    exact EReal.left_distrib_of_nonneg_of_ne_top (EReal.coe_nonneg.2 hx) (EReal.coe_ne_top x) _ _

/-- A finite sum of real numbers, summed as extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum over the first `B * (k + 1)` positions is the sum over the first `B * k` and the next `B`. -/
theorem sum_block (B k : ℕ) (f : ℕ → EReal) :
    ∑ n ∈ Finset.range (B * (k + 1)), f n = ∑ n ∈ Finset.range (B * k), f n + ∑ j : Fin B, f (B * k + j) := by
  rw [Nat.mul_succ, Finset.sum_range_add, Finset.sum_range (fun x => f (B * k + x))]

/-- What the running form holds of a row after each block, when the maximum it holds is a real number. -/
theorem rescale (N : ℕ) (r : ℕ → ℝ) (v : ℕ → EReal) (μ μ' : ℝ) :
    Ideal.exp ((μ : EReal) - (μ' : EReal)) * ∑ n ∈ Finset.range N, Ideal.exp ((r n : EReal) - (μ : EReal)) * v n
      = ∑ n ∈ Finset.range N, Ideal.exp ((r n : EReal) - (μ' : EReal)) * v n := by
  rw [← EReal.coe_sub, Ideal.exp_coe, mul_sum_nonneg _ _ (Real.exp_pos _).le]
  refine Finset.sum_congr rfl fun n _ => ?_
  rw [← EReal.coe_sub, ← EReal.coe_sub, Ideal.exp_coe, Ideal.exp_coe, ← mul_assoc, ← EReal.coe_mul, ← Real.exp_add]
  congr 3; ring

variable {B T : ℕ} {r : ℕ → ℝ} {m : ℕ → EReal}

/-- The maximum held after `k` blocks is the least bound of the scores seen. -/
theorem running_max_le (hm0 : m 0 = ⊥)
    (hm : ∀ k < T, m (k + 1) = max (m k) ((Finset.univ : Finset (Fin B)).fold max ⊥ fun j : Fin B => (r (B * k + j) : EReal))) :
    ∀ k ≤ T, ∀ c : EReal, m k ≤ c ↔ ∀ n < B * k, (r n : EReal) ≤ c := by
  intro k
  induction k with
  | zero => intro _ c; simp [hm0]
  | succ k ih =>
    intro hk c
    rw [hm k hk, max_le_iff, ih (Nat.le_of_succ_le hk), Finset.fold_max_le]
    constructor
    · rintro ⟨h1, -, h2⟩ n hn
      rcases lt_or_ge n (B * k) with h | h
      · exact h1 n h
      · have hlt : n - B * k < B := by rw [Nat.mul_succ] at hn; omega
        have := h2 ⟨n - B * k, hlt⟩ (Finset.mem_univ _)
        rwa [show B * k + ((⟨n - B * k, hlt⟩ : Fin B) : ℕ) = n from Nat.add_sub_cancel' h] at this
    · intro h
      refine ⟨fun n hn => h n (by rw [Nat.mul_succ]; omega), bot_le, fun j _ => h _ ?_⟩
      rw [Nat.mul_succ]; exact Nat.add_lt_add_left j.isLt _

/-- Real scores have a real maximum: after at least one block the maximum held is a real number. -/
theorem max_real (hB : 0 < B) (hm0 : m 0 = ⊥)
    (hm : ∀ k < T, m (k + 1) = max (m k) ((Finset.univ : Finset (Fin B)).fold max ⊥ fun j : Fin B => (r (B * k + j) : EReal)))
    {k : ℕ} (hk : k < T) : ∃ μ : ℝ, m (k + 1) = μ := by
  have H := running_max_le hm0 hm (k + 1) hk
  have hpos : 0 < B * (k + 1) := Nat.mul_pos hB k.succ_pos
  have hbot : m (k + 1) ≠ ⊥ := fun h => by
    have := (H ⊥).1 h.le 0 hpos
    exact EReal.coe_ne_bot _ (le_bot_iff.1 this)
  have htop : m (k + 1) ≠ ⊤ := fun h => by
    have : m (k + 1) ≤ ((∑ n ∈ Finset.range (B * (k + 1)), |r n| : ℝ) : EReal) :=
      (H _).2 fun n hn => EReal.coe_le_coe_iff.2 ((le_abs_self _).trans
        (Finset.single_le_sum (f := fun n => |r n|) (fun i _ => abs_nonneg _) (Finset.mem_range.2 hn)))
    rw [h] at this
    exact EReal.coe_ne_top _ (top_le_iff.1 this)
  exact ⟨(m (k + 1)).toReal, (EReal.coe_toReal htop hbot).symm⟩

/-- The weighted sum held after `k` blocks is the sum over every score seen, with the maximum held then. -/
theorem acc_eq (hB : 0 < B) (v a : ℕ → EReal) (hm0 : m 0 = ⊥) (ha0 : a 0 = 0)
    (hm : ∀ k < T, m (k + 1) = max (m k) ((Finset.univ : Finset (Fin B)).fold max ⊥ fun j : Fin B => (r (B * k + j) : EReal)))
    (ha : ∀ k < T, a (k + 1) = Ideal.exp (m k - m (k + 1)) * a k
      + ∑ j : Fin B, Ideal.exp ((r (B * k + j) : EReal) - m (k + 1)) * v (B * k + j)) :
    ∀ k ≤ T, a k = ∑ n ∈ Finset.range (B * k), Ideal.exp ((r n : EReal) - m k) * v n := by
  intro k
  induction k with
  | zero => intro _; simp [ha0]
  | succ k ih =>
    intro hk
    rw [ha k hk, sum_block B k (fun n => Ideal.exp ((r n : EReal) - m (k + 1)) * v n)]
    congr 1
    rw [ih (Nat.le_of_succ_le hk)]
    obtain ⟨μ', hμ'⟩ := max_real hB hm0 hm hk
    cases k with
    | zero => simp
    | succ k =>
      obtain ⟨μ, hμ⟩ := max_real hB hm0 hm (Nat.lt_of_succ_lt hk)
      rw [hμ', hμ]; exact rescale _ r v μ μ'

/-- THE RUNNING SOFTMAX: what the running form leaves of a row of real scores, its weighted sum over its plain sum, is
    the softmax of the scores (`M` their maximum) summed against the values. -/
theorem running_softmax (hB : 0 < B) (hT : 0 < T) (v l a : ℕ → EReal) (hm0 : m 0 = ⊥) (hl0 : l 0 = 0) (ha0 : a 0 = 0)
    (hm : ∀ k < T, m (k + 1) = max (m k) ((Finset.univ : Finset (Fin B)).fold max ⊥ fun j : Fin B => (r (B * k + j) : EReal)))
    (hl : ∀ k < T, l (k + 1) = Ideal.exp (m k - m (k + 1)) * l k
      + ∑ j : Fin B, Ideal.exp ((r (B * k + j) : EReal) - m (k + 1)))
    (ha : ∀ k < T, a (k + 1) = Ideal.exp (m k - m (k + 1)) * a k
      + ∑ j : Fin B, Ideal.exp ((r (B * k + j) : EReal) - m (k + 1)) * v (B * k + j))
    (M : EReal) (hM : ∀ c : EReal, M ≤ c ↔ ∀ n < B * T, (r n : EReal) ≤ c) :
    Ideal.div (a T) (l T) = ∑ n ∈ Finset.range (B * T), v n
      * Ideal.div (Ideal.exp ((r n : EReal) - M)) (∑ n ∈ Finset.range (B * T), Ideal.exp ((r n : EReal) - M)) := by
  have hMm : m T = M := eq_of_forall_ge_iff fun c => by rw [running_max_le hm0 hm T le_rfl, hM]
  obtain ⟨t, rfl⟩ : ∃ t, T = t + 1 := ⟨T - 1, (Nat.sub_add_cancel hT).symm⟩
  obtain ⟨μ, hμ⟩ := max_real hB hm0 hm (Nat.lt_succ_self t)
  have hMμ : M = (μ : EReal) := hMm.symm.trans hμ
  have hA := acc_eq hB v a hm0 ha0 hm ha (t + 1) le_rfl
  have hL := acc_eq hB (fun _ => 1) l hm0 hl0 hm (fun k hk => by simpa only [mul_one] using hl k hk) (t + 1) le_rfl
  simp only [mul_one] at hL
  rw [hA, hL, hMm, hMμ]
  have hw : ∀ n, Ideal.exp ((r n : EReal) - (μ : EReal)) = ((Real.exp (r n - μ) : ℝ) : EReal) := fun n => by
    rw [← EReal.coe_sub, Ideal.exp_coe]
  simp only [hw, ← coe_sum]
  have hpos : 0 < ∑ n ∈ Finset.range (B * (t + 1)), Real.exp (r n - μ) :=
    Finset.sum_pos (fun _ _ => Real.exp_pos _) ⟨0, Finset.mem_range.2 (Nat.mul_pos hB t.succ_pos)⟩
  generalize (∑ n ∈ Finset.range (B * (t + 1)), Real.exp (r n - μ)) = D at hpos
  rw [Ideal.div_coe hpos.ne', mul_comm, mul_sum_nonneg _ _ (one_div_pos.2 hpos).le]
  refine Finset.sum_congr rfl fun n _ => ?_
  rw [Ideal.div_coe hpos.ne', mul_comm ((1 / D : ℝ) : EReal), mul_comm _ (v n), mul_assoc]

end Cert.Online

end
-- ==== Proof.FlashRow.lean ====
/-
  One row of the attention kernel's block, in closed form. `rowScore` is the product of a query with any of the 16384
  keys. `row_value`: where every score of the row is a number and `M` is their greatest, the block's entry at a row and a
  column is the sum over the keys of the value times the weight exp(score - M) over the sum of those weights.
-/
module

public import proofs.«01_k».proof.Proof.FlashBlock
public import proofs.«01_k».proof.Proof.Online
public import Idealize.ShloMosaic.Lib.Pipeline.ValueKit

@[expose] public section

noncomputable section

open Idealize.ShloMosaic hiding ix1 ix2 ix3 ix4
open Idealize.ShloMosaic.ValueIdx

namespace Cert.Attn

open Cert.KernelIdeal Cert.KernelIdeal.Gen

variable (x0 : Vec Ideal S1x1x512x256 .bf16) (x1 : Vec Ideal S1x1x16384x256 .bf16) (x2 : Vec Ideal S1x1x16384x128 .bf16)

/-- The loop makes 32 trips. -/
theorem trips_eq : k0_t1_loop.trips = 32 := by decide +kernel

theorem lt_trips {k : ℕ} (hk : k < 32) : k < k0_t1_loop.trips := Nat.lt_of_lt_of_eq hk trips_eq.symm

/-- Key row `j` of trip `k` is key row `512 k + j`. -/
theorem keysAt_apply (k : Fin k0_t1_loop.trips) (j : Fin 512) (d : Fin 256) (n : Fin 16384) (hn : n.val = 512 * k.val + j.val) :
    keysAt x1 k (ix4 (0 : Fin 1) (0 : Fin 1) j d) = x1 (ix4 (0 : Fin 1) (0 : Fin 1) n d) := by
  unfold keysAt
  refine View.ld_unit_apply_of x1 _ _ _ _ (ix4 (0 : Fin 1) (0 : Fin 1) n d) fun a => ?_
  rw [congrFun (k0_off1_eq k) a]
  match a with
  | ⟨0, _⟩ => rfl
  | ⟨1, _⟩ => rfl
  | ⟨2, _⟩ => exact hn
  | ⟨3, _⟩ => exact (Nat.zero_add _).symm

/-- Value row `j` of trip `k` is value row `512 k + j`. -/
theorem valsAt_apply (k : Fin k0_t1_loop.trips) (j : Fin 512) (d : Fin 128) (n : Fin 16384) (hn : n.val = 512 * k.val + j.val) :
    valsAt x2 k (ix4 (0 : Fin 1) (0 : Fin 1) j d) = x2 (ix4 (0 : Fin 1) (0 : Fin 1) n d) := by
  unfold valsAt
  refine View.ld_unit_apply_of x2 _ _ _ _ (ix4 (0 : Fin 1) (0 : Fin 1) n d) fun a => ?_
  rw [congrFun (k0_off2_eq k) a]
  match a with
  | ⟨0, _⟩ => rfl
  | ⟨1, _⟩ => rfl
  | ⟨2, _⟩ => exact hn
  | ⟨3, _⟩ => exact (Nat.zero_add _).symm

/-- The score of query row `r` against key row `n` of all 16384. -/
def rowScore (r : Fin 512) (n : Fin 16384) : EReal :=
  ∑ d : Fin 256, (x0 (ix4 (0 : Fin 1) (0 : Fin 1) r d) : EReal) * (x1 (ix4 (0 : Fin 1) (0 : Fin 1) n d) : EReal)

/-- The scores of a trip are scores of the row. -/
theorem score_eq (k : Fin k0_t1_loop.trips) (r j : Fin 512) (n : Fin 16384) (hn : n.val = 512 * k.val + j.val) :
    score x0 (keysAt x1 k) r j = rowScore x0 x1 r n :=
  Finset.sum_congr rfl fun d _ => by rw [keysAt_apply x1 k j d n hn]

/-- Key number `n`, for any natural number. -/
def keyNo (n : ℕ) : Fin 16384 := ⟨n % 16384, Nat.mod_lt _ (by decide)⟩

theorem keyNo_val (n : Fin 16384) : keyNo n.val = n := Fin.ext (Nat.mod_eq_of_lt n.isLt)

theorem keyNo_trip (k : ℕ) (hk : k < 32) (j : Fin 512) : (keyNo (512 * k + j.val)).val = 512 * k + j.val :=
  Nat.mod_eq_of_lt (by have := j.isLt; omega)

/-- The softmax sum over natural numbers below `N`, as a sum over `Fin N`. -/
theorem fin_sums (N' N : ℕ) (hN : N' = N) (v e : ℕ → EReal) :
    ∑ n ∈ Finset.range N', v n * Ideal.div (e n) (∑ n ∈ Finset.range N', e n)
      = ∑ n : Fin N, v n.val * Ideal.div (e n.val) (∑ n' : Fin N, e n'.val) := by
  subst hN
  rw [Finset.sum_range, Finset.sum_range]

/-- The block's entry at a row and a column: the softmax of the row's scores against the values. -/
theorem row_value (r : Fin 512) (d : Fin 128) (hfin : ∀ n : Fin 16384, ∃ y : ℝ, rowScore x0 x1 r n = (y : EReal))
    (M : EReal) (hM : ∀ c : EReal, M ≤ c ↔ ∀ n : Fin 16384, rowScore x0 x1 r n ≤ c) :
    k0_pay10 (F := Ideal) (carry x0 x1 x2 k0_t1_loop.trips).2.1 (carry x0 x1 x2 k0_t1_loop.trips).2.2 (ix2 r d)
      = ∑ n : Fin 16384, (x2 (ix4 (0 : Fin 1) (0 : Fin 1) n d) : EReal)
          * Ideal.div (Ideal.exp (rowScore x0 x1 r n - M)) (∑ n' : Fin 16384, Ideal.exp (rowScore x0 x1 r n' - M)) := by
  choose y hy using hfin
  rw [pay10_apply, trips_eq]
  have step (k : ℕ) (hk : k < 32) : carry x0 x1 x2 (k + 1)
      = (k0_pay5 x0 (carry x0 x1 x2 k).1 (keysAt x1 ⟨k, lt_trips hk⟩),
          k0_pay8 x0 (carry x0 x1 x2 k).1 (carry x0 x1 x2 k).2.1 (keysAt x1 ⟨k, lt_trips hk⟩),
          k0_pay9 x0 (carry x0 x1 x2 k).1 (carry x0 x1 x2 k).2.2 (keysAt x1 ⟨k, lt_trips hk⟩) (valsAt x2 ⟨k, lt_trips hk⟩)) := by
    rw [carry, dif_pos (lt_trips hk)]
  have sc (k : ℕ) (hk : k < 32) (j : Fin 512) :
      score x0 (keysAt x1 ⟨k, lt_trips hk⟩) r j = (y (keyNo (512 * k + j.val)) : EReal) := by
    rw [← hy, score_eq x0 x1 ⟨k, lt_trips hk⟩ r j (keyNo (512 * k + j.val)) (keyNo_trip k hk j)]
  have top (k : ℕ) (hk : k < 32) : k0_pay5 (F := Ideal) x0 (carry x0 x1 x2 k).1 (keysAt x1 ⟨k, lt_trips hk⟩) (ix2 r (0 : Fin 1))
      = ((carry x0 x1 x2 (k + 1)).1 (ix2 r (0 : Fin 1)) : EReal) := by rw [step k hk]
  have key := Cert.Online.running_softmax (B := 512) (T := 32) (r := fun n => y (keyNo n))
    (m := fun k => ((carry x0 x1 x2 k).1 (ix2 r (0 : Fin 1)) : EReal)) (by decide) (by decide)
    (fun n => (x2 (ix4 (0 : Fin 1) (0 : Fin 1) (keyNo n) d) : EReal))
    (fun k => ((carry x0 x1 x2 k).2.1 (ix2 r (0 : Fin 1)) : EReal))
    (fun k => ((carry x0 x1 x2 k).2.2 (ix2 r d) : EReal))
    (pay1_apply (ix2 r (0 : Fin 1))) (pay2_apply (ix2 r (0 : Fin 1))) (pay3_apply (ix2 r d))
    (fun k hk => by
      rw [← top k hk, pay5_apply]
      exact congrArg (max _) (congrArg (fun f => Finset.fold max ⊥ f Finset.univ) (funext fun j => sc k hk j)))
    (fun k hk => by
      rw [← top k hk]
      conv_lhs => rw [step k hk]
      refine (pay8_apply x0 _ _ _ r).trans (congrArg (_ + ·) (Finset.sum_congr rfl fun j _ => ?_))
      rw [sc k hk j])
    (fun k hk => by
      rw [← top k hk]
      conv_lhs => rw [step k hk]
      refine (pay9_apply x0 _ _ _ _ r d).trans (congrArg (_ + ·) (Finset.sum_congr rfl fun j _ => ?_))
      rw [sc k hk j, valsAt_apply x2 ⟨k, lt_trips hk⟩ j d (keyNo (512 * k + j.val)) (keyNo_trip k hk j)])
    M
    (fun c => (hM c).trans ⟨fun h n _ => (hy (keyNo n)) ▸ h (keyNo n), fun h n => by
      have := h n.val n.isLt
      rw [keyNo_val, ← hy] at this
      exact this⟩)
  rw [key, fin_sums (512 * 32) 16384 (by norm_num)]
  simp only [keyNo_val, ← hy]

end Cert.Attn

end
-- ==== Proof.FlashRef.lean ====
/-
  The reference's attention, element by element: `ref_value` reads its result at query `s` of batch `b`, head `h` and
  column `d` as the softmax of the row's scores summed against the values, and `ref_max` says that what the reference
  subtracts before the exponential is the greatest score of the row.
-/
module

public import proofs.«01_k».proof.Proof.Gen.ReferenceIdeal.Read
public import Idealize.ShloMosaic.Lib.ValueIdx
public import Idealize.ShloMosaic.PureOps.Reduce
public import Idealize.ShloMosaic.PureOps.Ideal.Laws

@[expose] public section

noncomputable section

open Idealize.ShloMosaic
open Idealize.ShloMosaic.ValueIdx

namespace Cert.AttnRef

open Cert.ReferenceIdeal Cert.ReferenceIdeal.Gen Cert.ReferenceIdeal.Read

variable (Q K : FVec Ideal S2x16x16384x256 .bf16) (V : FVec Ideal S2x16x16384x128 .bf16)

/-- The score of query `s` against key `n`, in batch `b` and head `h`. -/
def fullScore (b : Fin 2) (h : Fin 16) (s n : Fin 16384) : EReal :=
  ∑ d : Fin 256, (Q (ix4 b h s d) : EReal) * (K (ix4 b h n d) : EReal)

/-- The reference's product of queries and keys holds the scores. -/
theorem v3_apply (b : Fin 2) (h : Fin 16) (s n : Fin 16384) :
    val_main_v3 (F := Ideal) Q K (ix4 b h s n) = fullScore Q K b h s n := by
  rw [val_main_v3_apply]
  refine Finset.sum_congr rfl fun d _ => ?_
  rw [val_main_v0_apply, val_main_v1_apply]
  exact congrArg₂ (fun x y : EReal => x * y)
    (congrArg Q (funext fun a => match a with | ⟨0, _⟩ => rfl | ⟨1, _⟩ => rfl | ⟨2, _⟩ => rfl | ⟨3, _⟩ => rfl))
    (congrArg K (funext fun a => match a with | ⟨0, _⟩ => rfl | ⟨1, _⟩ => rfl | ⟨2, _⟩ => rfl | ⟨3, _⟩ => rfl))

/-- The greatest score of a row, as the reference takes it. -/
def refMax (b : Fin 2) (h : Fin 16) (s : Fin 16384) : EReal := val_main_v6 (F := Ideal) Q K (ix3 b h s)

/-- It is the least bound of the row's scores. -/
theorem ref_max (b : Fin 2) (h : Fin 16) (s : Fin 16384) (c : EReal) :
    refMax Q K b h s ≤ c ↔ ∀ n : Fin 16384, fullScore Q K b h s n ≤ c := by
  classical
  unfold refMax
  rw [val_main_v6_apply, val_main_v5_apply, val_main_cst_0_apply]
  show max (Ideal.ofBits .f32 0xFF800000#32) (Host.reduce (max : EReal → EReal → EReal) _ _ _ _ _) ≤ c ↔ _
  rw [show Ideal.ofBits .f32 0xFF800000#32 = ⊥ by simp [Ideal.ofBits, Ideal.ieee], max_le_iff,
    Host.reduce_eq_fold_single _ _ _ _ (by decide : S2x16x16384x16384.Reduces [3] S2x16x16384), Finset.fold_max_le]
  rw [val_main_cst_apply]
  show (⊥ ≤ c ∧ Ideal.ofBits .f32 0xFF800000#32 ≤ c ∧ _) ↔ _
  rw [show Ideal.ofBits .f32 0xFF800000#32 = ⊥ by simp [Ideal.ofBits, Ideal.ieee]]
  have e (n : Fin 16384) : (val_main_v3 (F := Ideal) Q K (Shape.Reduces.lift (by decide : S2x16x16384x16384.Reduces [3] S2x16x16384) (ix3 b h s) n) : EReal)
      = fullScore Q K b h s n := by
    rw [← v3_apply]
    exact congrArg _ (funext fun a => match a with | ⟨0, _⟩ => rfl | ⟨1, _⟩ => rfl | ⟨2, _⟩ => rfl | ⟨3, _⟩ => rfl)
  exact ⟨fun H n => (e n) ▸ H.2.2 n (Finset.mem_univ _), fun H => ⟨bot_le, bot_le, fun n _ => (e n).le.trans (H n)⟩⟩

/-- The weight of a key before it is divided. -/
theorem v10_apply (b : Fin 2) (h : Fin 16) (s n : Fin 16384) :
    val_main_v10 (F := Ideal) Q K (ix4 b h s n) = Ideal.exp (fullScore Q K b h s n - refMax Q K b h s) := by
  rw [val_main_v10_apply, val_main_v9_apply, val_main_v8_apply, val_main_v7_apply, v3_apply]
  exact congrArg (fun i => Ideal.exp (fullScore Q K b h s n - val_main_v6 (F := Ideal) Q K i))
    (funext fun a => match a with | ⟨0, _⟩ => rfl | ⟨1, _⟩ => rfl | ⟨2, _⟩ => rfl)

/-- The sum of the weights of a row. -/
theorem v11_apply (b : Fin 2) (h : Fin 16) (s : Fin 16384) :
    val_main_v11 (F := Ideal) Q K (ix3 b h s) = ∑ n : Fin 16384, Ideal.exp (fullScore Q K b h s n - refMax Q K b h s) := by
  rw [val_main_v11_apply, val_main_cst_1_apply]
  show Ideal.ofBits .f32 0x00000000#32 + _ = _
  rw [Ideal.ofBits_zero_f32, zero_add]
  refine Finset.sum_congr rfl fun n _ => ?_
  rw [← v10_apply]
  exact congrArg _ (funext fun a => match a with | ⟨0, _⟩ => rfl | ⟨1, _⟩ => rfl | ⟨2, _⟩ => rfl | ⟨3, _⟩ => rfl)

/-- The weight of a key. -/
theorem v14_apply (b : Fin 2) (h : Fin 16) (s n : Fin 16384) :
    val_main_v14 (F := Ideal) Q K (ix4 b h s n)
      = Ideal.div (Ideal.exp (fullScore Q K b h s n - refMax Q K b h s)) (∑ n' : Fin 16384, Ideal.exp (fullScore Q K b h s n' - refMax Q K b h s)) := by
  rw [val_main_v14_apply, val_main_v13_apply, val_main_v12_apply, v10_apply, ← v11_apply]
  exact congrArg (fun i => Ideal.div (Ideal.exp (fullScore Q K b h s n - refMax Q K b h s)) (val_main_v11 (F := Ideal) Q K i))
    (funext fun a => match a with | ⟨0, _⟩ => rfl | ⟨1, _⟩ => rfl | ⟨2, _⟩ => rfl)

/-- The reference's result at a row and a column: query `s` of batch `b` is row `16384 b + s`, column `d` of head `h` is
    column `128 h + d`. -/
theorem ref_value (i : S32768x2048.Idx) (b : Fin 2) (h : Fin 16) (s : Fin 16384) (d : Fin 128)
    (h0 : (i 0).val = 16384 * b.val + s.val) (h1 : (i 1).val = 128 * h.val + d.val) :
    val_main_v18 (F := Ideal) Q K V i = ∑ n : Fin 16384, (V (ix4 b h n d) : EReal)
      * Ideal.div (Ideal.exp (fullScore Q K b h s n - refMax Q K b h s)) (∑ n' : Fin 16384, Ideal.exp (fullScore Q K b h s n' - refMax Q K b h s)) := by
  rw [val_main_v18_apply, val_main_v17_apply, val_main_v16_apply]
  show val_main_v15 (F := Ideal) Q K V _ = _
  have hi : idx_main_v16 (idx_main_v17 i) = ix4 b h d s := by
    have hb := b.isLt; have hh := h.isLt; have hs := s.isLt; have hd := d.isLt
    funext a
    apply Fin.ext
    match a with
    | ⟨0, _⟩ => show ((i 0).val * 2048 + (i 1).val) / 33554432 = b.val; omega
    | ⟨1, _⟩ => show ((i 0).val * 2048 + (i 1).val) / 128 % 16 = h.val; omega
    | ⟨2, _⟩ => show ((i 0).val * 2048 + (i 1).val) % 128 = d.val; omega
    | ⟨3, _⟩ => show ((i 0).val * 2048 + (i 1).val) / 2048 % 16384 = s.val; omega
  rw [hi, val_main_v15_apply]
  refine Finset.sum_congr rfl fun n _ => ?_
  rw [← v14_apply, val_main_v2_apply]
  exact congrArg₂ (fun x y : EReal => x * y)
    (congrArg V (funext fun a => match a with | ⟨0, _⟩ => rfl | ⟨1, _⟩ => rfl | ⟨2, _⟩ => rfl | ⟨3, _⟩ => rfl))
    (congrArg (val_main_v14 (F := Ideal) Q K) (funext fun a => match a with | ⟨0, _⟩ => rfl | ⟨1, _⟩ => rfl | ⟨2, _⟩ => rfl | ⟨3, _⟩ => rfl))

end Cert.AttnRef

end
-- ==== Proof.FlashEq.lean ====
/-
  The attention equation. `blocks_at` reads the three input blocks of a grid point in the argument arrays: point `t` has
  the queries `512 (t mod 32) …` of batch `t / 512` and head `t / 32 mod 16`, and all keys and values of that batch and
  head. `final`: where every entry of the queries and keys is a number, the array the kernel leaves is the reference's.
-/
module

public import proofs.«01_k».proof.Proof.Gen.KernelIdeal.Value
public import proofs.«01_k».proof.Proof.FlashRow
public import proofs.«01_k».proof.Proof.FlashRef

@[expose] public section

noncomputable section

open Idealize.ShloMosaic hiding ix1 ix2 ix3 ix4
open Idealize.ShloMosaic.TcCoe Idealize.ShloMosaic.ValueIdx

namespace Cert.Attn

open Cert.KernelIdeal Cert.KernelIdeal.Gen

variable (m : (ℓ : Loc nD τ sig) → Buf (Elt Ideal) ℓ) (c : Dev nD)

/-- The blocks' indices at a grid point. -/
theorem index0 : ∀ t : Fin cfg0.N, win0_0.index t = ![t.val / 512, t.val / 32 % 16, t.val % 32, 0] :=
  (by decide +kernel : ∀ t : Fin grid0.N, win0_0.index t = ![t.val / 512, t.val / 32 % 16, t.val % 32, 0])
theorem index1 : ∀ t : Fin cfg0.N, win0_1.index t = ![t.val / 512, t.val / 32 % 16, 0, 0] :=
  (by decide +kernel : ∀ t : Fin grid0.N, win0_1.index t = ![t.val / 512, t.val / 32 % 16, 0, 0])
theorem index2 : ∀ t : Fin cfg0.N, win0_2.index t = ![t.val / 512, t.val / 32 % 16, 0, 0] :=
  (by decide +kernel : ∀ t : Fin grid0.N, win0_2.index t = ![t.val / 512, t.val / 32 % 16, 0, 0])
theorem index3 : ∀ t : Fin cfg0.N, win0_3.index t = ![t.val / 512 * 32 + t.val % 32, t.val / 32 % 16] :=
  (by decide +kernel : ∀ t : Fin grid0.N, win0_3.index t = ![t.val / 512 * 32 + t.val % 32, t.val / 32 % 16])

/-- The arguments: queries, keys, values. -/
abbrev argQ : FVec Ideal S2x16x16384x256 .bf16 := m ((c.tc : Thread nD τ).loc main_arg0)
abbrev argK : FVec Ideal S2x16x16384x256 .bf16 := m ((c.tc : Thread nD τ).loc main_arg1)
abbrev argV : FVec Ideal S2x16x16384x128 .bf16 := m ((c.tc : Thread nD τ).loc main_arg2)

variable (t : Fin cfg0.N)

theorem lt_N : t.val < 1024 := Nat.lt_of_lt_of_eq t.isLt (by decide)

/-- Batch, head, and query of row `r` at a grid point. -/
def ptB : Fin 2 := ⟨t.val / 512, by have := lt_N t; omega⟩
def ptH : Fin 16 := ⟨t.val / 32 % 16, by omega⟩
def ptS (r : Fin 512) : Fin 16384 := ⟨512 * (t.val % 32) + r.val, by have := r.isLt; omega⟩

/-- The query block at a grid point. -/
theorem blockQ (r : Fin 512) (d : Fin 256) :
    iblk m c 0 t (ix4 (0 : Fin 1) (0 : Fin 1) r d) = argQ m c (ix4 (ptB t) (ptH t) (ptS t r) d) := by
  blk_simp [iblk]
  refine congrArg (argQ m c) (funext fun a => Fin.ext ?_)
  match a with
  | ⟨0, _⟩ => blk_simp [index0]; rfl
  | ⟨1, _⟩ => blk_simp [index0]; rfl
  | ⟨2, _⟩ => blk_simp [index0]; show t.val % 32 * 512 + r.val = 512 * (t.val % 32) + r.val; omega
  | ⟨3, _⟩ => blk_simp [index0]

/-- The key block at a grid point. -/
theorem blockK (n : Fin 16384) (d : Fin 256) :
    iblk m c 1 t (ix4 (0 : Fin 1) (0 : Fin 1) n d) = argK m c (ix4 (ptB t) (ptH t) n d) := by
  blk_simp [iblk]
  refine congrArg (argK m c) (funext fun a => Fin.ext ?_)
  match a with
  | ⟨0, _⟩ => blk_simp [index1]; rfl
  | ⟨1, _⟩ => blk_simp [index1]; rfl
  | ⟨2, _⟩ => blk_simp [index1]
  | ⟨3, _⟩ => blk_simp [index1]

/-- The value block at a grid point. -/
theorem blockV (n : Fin 16384) (d : Fin 128) :
    iblk m c 2 t (ix4 (0 : Fin 1) (0 : Fin 1) n d) = argV m c (ix4 (ptB t) (ptH t) n d) := by
  blk_simp [iblk]
  refine congrArg (argV m c) (funext fun a => Fin.ext ?_)
  match a with
  | ⟨0, _⟩ => blk_simp [index2]; rfl
  | ⟨1, _⟩ => blk_simp [index2]; rfl
  | ⟨2, _⟩ => blk_simp [index2]
  | ⟨3, _⟩ => blk_simp [index2]

/-- The scores of a block's rows are the scores of the argument's queries and keys. -/
theorem rowScore_eq (r : Fin 512) (n : Fin 16384) :
    rowScore (iblk m c 0 t) (iblk m c 1 t) r n = Cert.AttnRef.fullScore (argQ m c) (argK m c) (ptB t) (ptH t) (ptS t r) n :=
  Finset.sum_congr rfl fun d _ => by rw [blockQ, blockK]

/-- A product sum of numbers is a number. -/
theorem score_real (Q K : FVec Ideal S2x16x16384x256 .bf16) (hQ : ∀ i, ∃ y : ℝ, (Q i : EReal) = y) (hK : ∀ i, ∃ y : ℝ, (K i : EReal) = y)
    (b : Fin 2) (h : Fin 16) (s n : Fin 16384) : ∃ y : ℝ, Cert.AttnRef.fullScore Q K b h s n = (y : EReal) := by
  choose q hq using hQ
  choose k hk using hK
  refine ⟨∑ d : Fin 256, q (ix4 b h s d) * k (ix4 b h n d), ?_⟩
  rw [Cert.Online.coe_sum]
  exact Finset.sum_congr rfl fun d _ => by rw [hq, hk, EReal.coe_mul]

/-- The array the kernel leaves is the reference's. -/
theorem final (hQ : ∀ i, ∃ y : ℝ, (argQ m c i : EReal) = y) (hK : ∀ i, ∃ y : ℝ, (argK m c i : EReal) = y) :
    (dats m 0 c).arrAt 3 cfg0.N = Cert.ReferenceIdeal.Read.val_main_v18 (F := Ideal) (argQ m c) (argK m c) (argV m c) := by
  refine (dats m 0 c).arrAt_eq_of_covers 3 _ (by decide +kernel) fun t _ y => ?_
  blk_simp
  rw [after0_3]
  unfold outsAt0
  rw [block_eq]
  obtain ⟨r, d, rfl⟩ : ∃ (r : Fin 512) (d : Fin 128), y = ix2 r d := ⟨y 0, y 1, ValueIdx.eq_ix2 y⟩
  refine (row_value (iblk m c 0 t) (iblk m c 1 t) (iblk m c 2 t) r d
      (fun n => by rw [rowScore_eq]; exact score_real _ _ hQ hK _ _ _ _)
      (Cert.AttnRef.refMax (argQ m c) (argK m c) (ptB t) (ptH t) (ptS t r))
      (fun z => by rw [Cert.AttnRef.ref_max]; simp only [rowScore_eq])).trans
    (Eq.trans ?_ (Cert.AttnRef.ref_value (argQ m c) (argK m c) (argV m c) _ (ptB t) (ptH t) (ptS t r) d ?_ ?_).symm)
  · refine Finset.sum_congr rfl fun n _ => ?_
    simp only [rowScore_eq, blockV]
  · blk_simp [index3]
    show (t.val / 512 * 32 + t.val % 32) * 512 + r.val = 16384 * (t.val / 512) + (512 * (t.val % 32) + r.val)
    omega
  · blk_simp [index3]
    show t.val / 32 % 16 * 128 + d.val = 128 * (t.val / 32 % 16) + d.val
    omega

end Cert.Attn

end
-- ==== Proof.FlashClaims.lean ====
/-
  The claims about the attention call: the three runs leave their arguments and the counters as they were; and, where
  every entry of the queries and keys is a number, the kernel and the reference leave the same array.
-/
module

public import proofs.«01_k».proof.Defs
public import proofs.«01_k».proof.Proof.Gen.Kernel.Frame
public import proofs.«01_k».proof.Proof.Gen.ReferenceIdeal.Run
public import proofs.«01_k».proof.Proof.FlashEq
public import Idealize.ShloMosaic.Lib.Quiescent

@[expose] public section

noncomputable section

open Idealize.ShloMosaic Idealize.SL.Sem

namespace Cert.Attn

/-- The precondition's side conditions. -/
instance preFacts : Cert.Pre_finite_qk.Facts := ⟨by decide, by decide⟩

/-- Less than infinity in size: a number. -/
theorem real_of_abs_lt {x : EReal} (h : Ideal.cmp .olt (max x (-x)) (Ideal.ofBits .f32 0x7F800000#32) = 1#1) : ∃ y : ℝ, x = y := by
  rw [show Ideal.ofBits .f32 0x7F800000#32 = ⊤ by simp [Ideal.ofBits, Ideal.ieee]] at h
  have h' : max x (-x) < ⊤ := by
    by_contra hn
    rw [show Ideal.cmp .olt (max x (-x)) ⊤ = BitVec.ofBool (decide (max x (-x) < ⊤)) from rfl, decide_eq_false hn] at h
    exact absurd h (by decide)
  obtain ⟨h1, h2⟩ := max_lt_iff.1 h'
  refine ⟨x.toReal, (EReal.coe_toReal h1.ne fun hb => ?_).symm⟩
  rw [hb] at h2
  exact absurd h2 (by simp)

/-- What the precondition says of the queries and of the keys. -/
theorem finite_of_pre {Q K : FVec Ideal Cert.KernelIdeal.S2x16x16384x256 .bf16} {V : FVec Ideal Cert.KernelIdeal.S2x16x16384x128 .bf16}
    (h : (Cert.Pre_finite_qk.fn (F := Ideal) Q K V).1 = (fun _ => 1#1) ∧ (Cert.Pre_finite_qk.fn (F := Ideal) Q K V).2 = (fun _ => 1#1)) :
    (∀ i, ∃ y : ℝ, (Q i : EReal) = y) ∧ ∀ i, ∃ y : ℝ, (K i : EReal) = y :=
  ⟨fun i => real_of_abs_lt (congrFun h.1 i), fun i => real_of_abs_lt (congrFun h.2 i)⟩

theorem frame_kernel : Cert.quiescent_Kernel (hKernel := Cert.Kernel.Gen.facts) := fun m ρ _ => Cert.Kernel.Gen.frame m ρ
theorem frame_ideal : Cert.quiescent_KernelIdeal (hKernelIdeal := Cert.KernelIdeal.Gen.facts) := fun m ρ _ => Cert.KernelIdeal.Gen.frame m ρ
theorem frame_ideal_pre : Cert.quiescent_KernelIdeal_pre_finite_qk (hKernelIdeal := Cert.KernelIdeal.Gen.facts) (hPre_finite_qk := preFacts) :=
  fun m ρ _ => Cert.KernelIdeal.Gen.frame m ρ
theorem frame_ref : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)
theorem frame_ref_pre : Cert.quiescent_ReferenceIdeal_pre_finite_qk (hReferenceIdeal := Cert.ReferenceIdeal.Gen.facts) (hPre_finite_qk := preFacts) :=
  fun m ρ _ => frame_ref m ρ trivial

/-- The kernel's attention is the reference's. -/
theorem algebraic : Cert.algebraic_KernelIdeal_ReferenceIdeal_pre_finite_qk (hKernelIdeal := Cert.KernelIdeal.Gen.facts)
    (hReferenceIdeal := Cert.ReferenceIdeal.Gen.facts) (hPre_finite_qk := preFacts) := fun m ρ m' ρ' hpre hm =>
  ⟨fun c => Cert.ReferenceIdeal.Read.val_main_v18 (F := Ideal) (argQ m c) (argK m c) (argV m c),
    (θ_run _ _ _).mono (fun r h c => ⟨(h c).1.trans (final m c (finite_of_pre (hpre c)).1 (finite_of_pre (hpre c)).2), (h c).2⟩)
      (Cert.KernelIdeal.Value.run_blocks (F := Ideal) m ρ),
    (θ_run _ _ _).mono (fun r h c => ⟨(h c).1.trans (by
        rw [Cert.ReferenceIdeal.Read.val_main_v18_eq, (hm c).1, (hm c).2.1, (hm c).2.2]), (h c).2⟩)
      (Cert.ReferenceIdeal.Value.run (F := Ideal) m' ρ')⟩

end Cert.Attn

end
-- ==== Proof.Common.lean ====
/-
  Facts shared by the modules on the layer's projections: words read as extended reals, and a block's corner at zero;
  arrays laid side by side, or stacked, read at an entry.
-/
module

public import Idealize.ShloMosaic.Lib.ValueIdx
public import Idealize.ShloMosaic.PureOps.Ideal.Laws
public import Idealize.ShloMosaic.Lib.IdealHost
public import Idealize.ShloMosaic.Lib.Pipeline.ValueKit

@[expose] public section

noncomputable section

open Idealize.ShloMosaic hiding ix1 ix2 ix3 ix4
open Idealize.ShloMosaic.ValueIdx

namespace Cert.Common

theorem hz2 : (![0, 0] : Fin 2 → Nat) = fun _ => 0 := funext fun a => by fin_cases a <;> rfl

/-- The logistic function as the host spells it. -/
theorem logistic_host (x : EReal) :
    Ideal.div (Ideal.ofBits .f32 0x3F800000#32) (Ideal.ofBits .f32 0x3F800000#32 + Ideal.exp (-x)) = Ideal.logistic x := by
  rw [Ideal.ofBits_one_f32]; rfl

/-- Arrays laid side by side: an entry whose column falls in piece `k`, `pre` columns lying before that piece. -/
theorem beside_apply {α : Type} {R T n : Nat} (xs : List ((s : Shape) × (s.Idx → α)))
    (h : Shape.Concatenates (xs.map (·.1)) (⟨2, ![R, T]⟩ : Shape) 1) (k : Nat) (hk : k < xs.length) (x : (⟨2, ![R, n]⟩ : Shape).Idx → α)
    (hxk : xs[k] = ⟨⟨2, ![R, n]⟩, x⟩) (pre : Nat)
    (hpre : (((xs.take k).map (·.1)).map fun s => if h : s.rank = 2 then s.size ((1 : Fin 2).cast h.symm) else 0).sum = pre)
    (r : Fin R) (j : Fin T) (j' : Fin n) (hj : pre + j'.val = j.val) :
    concatenate (⟨2, ![R, T]⟩ : Shape) 1 xs h (ix2 r j) = x (ix2 r j') :=
  concatenate_apply_piece (t := ⟨2, ![R, T]⟩) 1 xs h (ix2 r j) k hk ⟨2, ![R, n]⟩ x hxk rfl pre hpre (ix2 r j')
    (fun b hb => match b with
      | ⟨0, _⟩ => rfl
      | ⟨1, _⟩ => absurd rfl hb) hj

/-- Arrays stacked: an entry whose row falls in piece `k`, `pre` rows lying before that piece. -/
theorem stacked_apply {α : Type} {R T n : Nat} (xs : List ((s : Shape) × (s.Idx → α)))
    (h : Shape.Concatenates (xs.map (·.1)) (⟨2, ![T, R]⟩ : Shape) 0) (k : Nat) (hk : k < xs.length) (x : (⟨2, ![n, R]⟩ : Shape).Idx → α)
    (hxk : xs[k] = ⟨⟨2, ![n, R]⟩, x⟩) (pre : Nat)
    (hpre : (((xs.take k).map (·.1)).map fun s => if h : s.rank = 2 then s.size ((0 : Fin 2).cast h.symm) else 0).sum = pre)
    (j : Fin T) (r : Fin R) (j' : Fin n) (hj : pre + j'.val = j.val) :
    concatenate (⟨2, ![T, R]⟩ : Shape) 0 xs h (ix2 j r) = x (ix2 j' r) :=
  concatenate_apply_piece (t := ⟨2, ![T, R]⟩) 0 xs h (ix2 j r) k hk ⟨2, ![n, R]⟩ x hxk rfl pre hpre (ix2 j' r)
    (fun b hb => match b with
      | ⟨0, _⟩ => absurd rfl hb
      | ⟨1, _⟩ => rfl) hj

end Cert.Common

end
-- ==== Proof.LayerNorm.lean ====
/-
  The layer norm of a row of 2048 numbers. `lnRow` is the formula; `lnBlock` is the same on a block of rows as the kernels
  write it, and `lnBlock_apply` says that its rows are those of the formula.
-/
module

public import proofs.«01_k».proof.Proof.Common

@[expose] public section

noncomputable section

open Idealize.ShloMosaic hiding ix1 ix2 ix3 ix4
open Idealize.ShloMosaic.TcCoe Idealize.ShloMosaic.ValueIdx

namespace Cert.Common

/-- The words 2048 and 1e-5 as extended reals. -/
def width : EReal := Ideal.ofBits .f32 0x45000000#32
def eps : EReal := Ideal.ofBits .f32 0x3727C5AC#32

/-- The residual's factor, the fourth root of 8. -/
def alpha : EReal := ((Real.sqrt (Real.sqrt 8) : ℝ) : EReal)

/-- The factor as the host takes it: two roots of the word 8. -/
theorem alpha_host : Ideal.sqrt (Ideal.sqrt (Ideal.ofBits .f32 0x41000000#32)) = alpha := by
  rw [show Ideal.ofBits .f32 0x41000000#32 = ((8 : ℝ) : EReal) by simp [Ideal.ofBits, Ideal.ieee, -EReal.coe_mul]; norm_num]
  rw [Ideal.sqrt_coe, if_neg (by norm_num), Ideal.sqrt_coe, if_neg (not_lt.2 (Real.sqrt_nonneg _))]
  rfl

/-- The mean of a row. -/
def mean (x : Fin 2048 → EReal) : EReal := Ideal.div (∑ k : Fin 2048, x k) width

/-- A row less its mean, over the square root of its variance plus epsilon, scaled by `g` and shifted by `b`. -/
def lnRow (x g b : Fin 2048 → EReal) (j : Fin 2048) : EReal :=
  (x j - mean x) * Ideal.rsqrt (mean (fun k => (x k - mean x) * (x k - mean x)) + eps) * g j + b j

variable {R : Nat}

/-- A column of numbers spread over the row's lanes reads the row's entry. -/
theorem spread_apply (x : FVec Ideal ⟨2, ![R, 1]⟩ .f32) (h : (⟨2, ![R, 1]⟩ : Shape).Broadcasts ⟨2, ![R, 2048]⟩) (r : Fin R) (j : Fin 2048) :
    broadcastTo (⟨2, ![R, 2048]⟩ : Shape) x h (ix2 r j) = x (ix2 r (0 : Fin 1)) :=
  broadcastTo_apply x _ (ix2 r j) (ix2 r (0 : Fin 1)) (fun a => match a with
    | ⟨0, _⟩ => by
      by_cases hR : R = 1
      · subst hR; have := r.isLt; show r.val = if (1 : Nat) = 1 then 0 else r.val; rw [if_pos rfl]; omega
      · show r.val = if R = 1 then 0 else r.val; rw [if_neg hR]
    | ⟨1, _⟩ => rfl)

/-- One row spread over the block's rows reads the column's entry. -/
theorem spreadRow_apply (x : FVec Ideal ⟨2, ![1, 2048]⟩ .f32) (h : (⟨2, ![1, 2048]⟩ : Shape).Broadcasts ⟨2, ![R, 2048]⟩) (r : Fin R) (j : Fin 2048) :
    broadcastTo (⟨2, ![R, 2048]⟩ : Shape) x h (ix2 r j) = x (ix2 (0 : Fin 1) j) :=
  broadcastTo_apply x _ (ix2 r j) (ix2 (0 : Fin 1) j) (fun a => match a with | ⟨0, _⟩ => rfl | ⟨1, _⟩ => rfl)

variable (hred : (⟨2, ![R, 2048]⟩ : Shape).Reduces [1] ⟨1, ![R]⟩) (hc : (⟨1, ![R]⟩ : Shape).ShapeCasts ⟨2, ![R, 1]⟩)
variable (hb : (⟨2, ![R, 1]⟩ : Shape).Broadcasts ⟨2, ![R, 2048]⟩) (hg : (⟨2, ![1, 2048]⟩ : Shape).Broadcasts ⟨2, ![R, 2048]⟩)

/-- The means of a block's rows, as a column. -/
def meanCol (x : FVec Ideal ⟨2, ![R, 2048]⟩ .f32) : FVec Ideal ⟨2, ![R, 1]⟩ .f32 :=
  divf (shapeCast _ (multiReduction .add [1] ⟨1, ![R]⟩ x 0x00000000#32 hred (.inl rfl) rfl) hc)
    (broadcast ⟨2, ![R, 1]⟩ (Scalar.ofBits (F := Ideal) .f32 0x45000000#32))

theorem meanCol_apply (x : FVec Ideal ⟨2, ![R, 2048]⟩ .f32) (r : Fin R) :
    meanCol hred hc x (ix2 r (0 : Fin 1)) = mean (fun k => x (ix2 r k)) := by
  unfold meanCol mean
  show Ideal.div (shapeCast (⟨2, ![R, 1]⟩ : Shape) _ hc (ix2 r (0 : Fin 1))) width = _
  refine congrArg (fun y => Ideal.div y width) ((shapeCast_apply _ _ (ix2 r (0 : Fin 1)) (ix1 r) (by
    rewrite [Shape.rowMajor_val_one, Shape.rowMajor_val_two]
    show r.val = r.val * 1 + 0
    omega)).trans ((Ideal.multiReduction_add_single x _ hred _ _ (ix1 r)).trans ?_))
  exact Finset.sum_congr rfl fun j _ => congrArg x (funext fun a => match a with | ⟨0, _⟩ => rfl | ⟨1, _⟩ => rfl)

/-- A block less the means of its rows. -/
def centred (x : FVec Ideal ⟨2, ![R, 2048]⟩ .f32) : FVec Ideal ⟨2, ![R, 2048]⟩ .f32 := subf x (broadcastTo _ (meanCol hred hc x) hb)

theorem centred_apply (x : FVec Ideal ⟨2, ![R, 2048]⟩ .f32) (r : Fin R) (j : Fin 2048) :
    centred hred hc hb x (ix2 r j) = (x (ix2 r j) : EReal) - mean (fun k => x (ix2 r k)) := by
  unfold centred
  show (x (ix2 r j) : EReal) - broadcastTo (⟨2, ![R, 2048]⟩ : Shape) _ hb (ix2 r j) = _
  rw [spread_apply, meanCol_apply]

/-- The layer norm of a block's rows. -/
def lnBlock (x : FVec Ideal ⟨2, ![R, 2048]⟩ .f32) (g b : FVec Ideal ⟨2, ![1, 2048]⟩ .f32) : FVec Ideal ⟨2, ![R, 2048]⟩ .f32 :=
  addf (mulf (mulf (centred hred hc hb x)
    (broadcastTo _ (rsqrt (addf (meanCol hred hc (mulf (centred hred hc hb x) (centred hred hc hb x)))
      (broadcast ⟨2, ![R, 1]⟩ (Scalar.ofBits (F := Ideal) .f32 0x3727C5AC#32)))) hb)) (broadcastTo _ g hg)) (broadcastTo _ b hg)

theorem lnBlock_apply (x : FVec Ideal ⟨2, ![R, 2048]⟩ .f32) (g b : FVec Ideal ⟨2, ![1, 2048]⟩ .f32) (r : Fin R) (j : Fin 2048) :
    lnBlock hred hc hb hg x g b (ix2 r j)
      = lnRow (fun k => x (ix2 r k)) (fun k => g (ix2 (0 : Fin 1) k)) (fun k => b (ix2 (0 : Fin 1) k)) j := by
  unfold lnBlock lnRow
  show (centred hred hc hb x (ix2 r j) : EReal) * (broadcastTo (⟨2, ![R, 2048]⟩ : Shape) _ hb (ix2 r j))
    * (broadcastTo (⟨2, ![R, 2048]⟩ : Shape) g hg (ix2 r j)) + broadcastTo (⟨2, ![R, 2048]⟩ : Shape) b hg (ix2 r j) = _
  rw [spreadRow_apply, spreadRow_apply, spread_apply, centred_apply]
  refine congrArg (fun y => ((x (ix2 r j) : EReal) - mean fun k => x (ix2 r k)) * y * g (ix2 (0 : Fin 1) j) + b (ix2 (0 : Fin 1) j)) ?_
  show Ideal.rsqrt (meanCol hred hc _ (ix2 r (0 : Fin 1)) + eps) = _
  rw [meanCol_apply]
  refine congrArg (fun f => Ideal.rsqrt (mean f + eps)) (funext fun k => ?_)
  show (centred hred hc hb x (ix2 r k) : EReal) * centred hred hc hb x (ix2 r k) = _
  rw [centred_apply]

end Cert.Common

end
-- ==== Proof.Down.Value.lean ====
/-
  The feed-forward's down projection with the residual and the layer norm. `sout…`, `out…` read what a step leaves as payloads;
  `acc_eq` gives the running sum after every step; `final4`, `final5`: the two arrays the kernel leaves are the reference's.
-/
module

public import proofs.«01_k».proof.Proof.Gen.KernelDownIdeal.Value
public import proofs.«01_k».proof.Proof.Gen.ReferenceDownIdeal.Read
public import proofs.«01_k».proof.Proof.LayerNorm
public import Idealize.ShloMosaic.Lib.MatmulPlain
public import Idealize.ShloMosaic.Lib.Pipeline.ValueKit
public import Idealize.ShloMosaic.Lib.Tactic

@[expose] public section

noncomputable section

open Idealize.ShloMosaic hiding ix1 ix2 ix3 ix4
open Idealize.ShloMosaic.TcCoe Idealize.ShloMosaic.ValueIdx Idealize.ShloMosaic.Tactic Cert.Common

namespace Cert.Down

open Cert.KernelDownIdeal Cert.KernelDownIdeal.Gen

/-- The factor the kernel names. -/
theorem alpha_named : (Named.named (F := Ideal) (φ := .f32) κ "alpha" 0x3FD744FD#32 : EReal) = alpha := IdealRules.named_const.ideal_named_scalar _ _ _ _ rfl

/-- The kernel's product of one step holds the sums of products. -/
theorem mm_apply (a : Vec Ideal S512x512 .bf16) (w : Vec Ideal S512x2048 .bf16) (r : Fin 512) (j : Fin 2048) :
    matmul (F := Ideal) (φ₁ := .bf16) (φ₂ := .bf16) dot_S512x512_S512x2048_S512x2048_1_0_0_1_n_n none a
      (shapeCast S512x2048 w shapeCasts_S512x2048_S512x2048) (constant (F := Ideal) S512x2048 .f32 0x00000000#32) (ix2 r j)
      = ∑ k : Fin 512, (a (ix2 r k) : EReal) * (w (ix2 k j) : EReal) := by
  rw [shapeCast_self]
  refine (Ideal.matmul_plain_apply (M := 512) (K := 512) (N := 2048) none _ _ _ r j).trans ?_
  show Ideal.ofBits .f32 0x00000000#32 + _ = _
  rw [Ideal.ofBits_zero_f32, zero_add]

/-- The accumulator at the first step, before the product. -/
theorem start_apply (h : Vec Ideal S512x2048 .f32) (r : Fin 512) (j : Fin 2048) : k0_pay1 (F := Ideal) h (ix2 r j) = alpha * (h (ix2 r j) : EReal) := by
  unfold k0_pay1
  rw [← alpha_named, shapeCast_self]
  rfl

/-- One step adds its product. -/
theorem step_apply (s : Vec Ideal S512x2048 .f32) (a : Vec Ideal S512x512 .bf16) (w : Vec Ideal S512x2048 .bf16) (r : Fin 512) (j : Fin 2048) :
    k0_pay2 (F := Ideal) s a w (ix2 r j) = (s (ix2 r j) : EReal) + ∑ k : Fin 512, (a (ix2 r k) : EReal) * (w (ix2 k j) : EReal) := by
  rw [← mm_apply]
  unfold k0_pay2
  rw [shapeCast_self (addf _ _)]
  rfl

/-- The block written: the layer norm of the accumulator's rows. -/
theorem pay_apply (x : Vec Ideal S512x2048 .f32) (g b : Vec Ideal S1x2048 .f32) (r : Fin 512) (j : Fin 2048) :
    k0_pay3 (F := Ideal) x g b (ix2 r j)
      = lnRow (fun k => x (ix2 r k)) (fun k => g (ix2 (0 : Fin 1) k)) (fun k => b (ix2 (0 : Fin 1) k)) j := by
  have e : k0_pay3 (F := Ideal) x g b = lnBlock reduces_S512x2048_S512 shapeCasts_S512_S512x1 broadcasts_S512x1_S512x2048
      broadcasts_S1x2048_S512x2048 x g b := by
    unfold k0_pay3 lnBlock centred meanCol
    rw [shapeCast_self g, shapeCast_self b]
  rw [e, lnBlock_apply]

/-- The two parameter rows over six rows of zeros. -/
def packed (g b : FVec Ideal S2048 .f32) : FVec Ideal S8x2048 .f32 :=
  concatenate S8x2048 0 [⟨S2x2048, concatenate S2x2048 0 [⟨S1x2048, broadcastInDim S1x2048 ![1] bcast_S2048_S1x2048_1 g⟩,
      ⟨S1x2048, broadcastInDim S1x2048 ![1] bcast_S2048_S1x2048_1 b⟩] concatenates_S1x2048_S1x2048_S2x2048_d0⟩,
    ⟨S6x2048, broadcastInDim S6x2048 ![] bcast_S_S6x2048 (constant (F := Ideal) S_ .f32 0x00000000#32)⟩] concatenates_S2x2048_S6x2048_S8x2048_d0

theorem packed_g (g b : FVec Ideal S2048 .f32) (j : Fin 2048) : packed g b (ix2 (0 : Fin 8) j) = g (ix1 j) := by
  unfold packed
  refine (stacked_apply _ _ 0 (by simp) _ rfl 0 rfl (0 : Fin 8) j (0 : Fin 2) rfl).trans ?_
  refine (stacked_apply _ _ 0 (by simp) _ rfl 0 rfl (0 : Fin 2) j (0 : Fin 1) rfl).trans ?_
  exact broadcastInDim_apply _ _ g _ (ix1 j) (fun a => match a with | ⟨0, _⟩ => rfl)
theorem packed_b (g b : FVec Ideal S2048 .f32) (j : Fin 2048) : packed g b (ix2 (1 : Fin 8) j) = b (ix1 j) := by
  unfold packed
  refine (stacked_apply _ _ 0 (by simp) _ rfl 0 rfl (1 : Fin 8) j (1 : Fin 2) rfl).trans ?_
  refine (stacked_apply _ _ 1 (by simp) _ rfl 1 rfl (1 : Fin 2) j (0 : Fin 1) rfl).trans ?_
  exact broadcastInDim_apply _ _ b _ (ix1 j) (fun a => match a with | ⟨0, _⟩ => rfl)

/-- The two rows' rectangles. -/
abbrev rect0 : Rect S8x2048 := Rect.unit (s := S8x2048) ![0, 0] S1x2048.size inb_S8x2048_S1x2048_0_0
abbrev rect1 : Rect S8x2048 := Rect.unit (s := S8x2048) ![1, 0] S1x2048.size inb_S8x2048_S1x2048_1_0

/-- The rows the body loads of the parameters' block. -/
theorem row0 (p : Vec Ideal S8x2048 .f32) (j : Fin 2048) : View.ld p rect0 (ix2 (0 : Fin 1) j) = p (ix2 (0 : Fin 8) j) :=
  View.ld_unit_apply_of p _ _ _ _ _ fun a => match a with
    | ⟨0, _⟩ => rfl
    | ⟨1, _⟩ => by show j.val = 0 + j.val; omega
theorem row1 (p : Vec Ideal S8x2048 .f32) (j : Fin 2048) : View.ld p rect1 (ix2 (0 : Fin 1) j) = p (ix2 (1 : Fin 8) j) :=
  View.ld_unit_apply_of p _ _ _ _ _ fun a => match a with
    | ⟨0, _⟩ => rfl
    | ⟨1, _⟩ => by show j.val = 0 + j.val; omega

section Steps
variable (c : Dev nD) (i : grid0.Coords) (arg2 : Memref sig .tc .vmem S512x512 .bf16) (harg2 : arg2.IsWhole) (arg3 : Memref sig .tc .vmem S512x2048 .bf16) (harg3 : arg3.IsWhole)
  (arg4 : Memref sig .tc .vmem S512x2048 .f32) (harg4 : arg4.IsWhole) (arg5 : Memref sig .tc .vmem S8x2048 .f32) (harg5 : arg5.IsWhole)
  (arg6 : Memref sig .tc .vmem S512x2048 .f32) (harg6 : arg6.IsWhole) (arg7 : Memref sig .tc .vmem S512x2048 .bf16) (harg7 : arg7.IsWhole)
  (arg8 : Memref sig .tc .vmem S512x2048 .f32) (harg8 : arg8.IsWhole)
  (x0 : Vec Ideal S512x512 .bf16) (x1 : Vec Ideal S512x2048 .bf16) (x2 : Vec Ideal S512x2048 .f32) (x3 : Vec Ideal S8x2048 .f32)

/-- The first step of a row block. -/
theorem sout_A (hc0 : cond0_0 i) (hc1 : ¬cond0_1 i) : sout0_A_0 (F := Ideal) c i arg2 harg2 arg3 harg3 arg4 harg4 arg5 harg5 arg6 harg6 arg7 harg7 arg8 harg8 hc0 hc1 x0 x1 x2 x3 = k0_pay2 (k0_pay1 x2) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, harg2.read_unread, harg3.read_unread, harg4.read_unread, View.ld_unit_zero (S := S512x2048) hz2, View.ld_unit_zero (S := S512x512) hz2]

/-- A later step. -/
theorem sout_B (hc0 : ¬cond0_0 i) (hc1 : ¬cond0_1 i) (xs0 : Vec Ideal S512x2048 .f32) : sout0_B_0 (F := Ideal) c i arg2 harg2 arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero (S := S512x2048) hz2]
  simp only [View.readAt_eq_ld, harg2.read_unread, harg3.read_unread, harg8.read_unread, View.ld_unit_zero (S := S512x2048) hz2, View.ld_unit_zero (S := S512x512) hz2]

/-- The last step. -/
theorem sout_C (hc0 : ¬cond0_0 i) (hc1 : cond0_1 i) (xs0 : Vec Ideal S512x2048 .f32) : sout0_C_0 (F := Ideal) c i arg2 harg2 arg3 harg3 arg4 harg4 arg5 harg5 arg6 harg6 arg7 harg7 arg8 harg8 hc0 hc1 x0 x1 x2 x3 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S512x2048) hz2]
  simp only [View.readAt_eq_ld, harg2.read_unread, harg3.read_unread, harg8.read_unread, View.ld_unit_zero (S := S512x2048) hz2, View.ld_unit_zero (S := S512x512) hz2]

/-- What the last step writes. -/
theorem out_4 (hc0 : ¬cond0_0 i) (hc1 : cond0_1 i) (xs0 : Vec Ideal S512x2048 .f32) :
    out0_C_4 (F := Ideal) c i arg2 harg2 arg3 harg3 arg4 harg4 arg5 harg5 arg6 harg6 arg7 harg7 arg8 harg8 hc0 hc1 x0 x1 x2 x3 xs0 = k0_pay3 (k0_pay2 xs0 x0 x1) (View.ld x3 rect0) (View.ld x3 rect1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S512x2048) hz2, View.readCov_unit_zero (S := S512x2048) _ hz2]
  simp only [View.readAt_eq_ld, harg2.read_unread, harg3.read_unread, harg5.read_unread, harg8.read_unread, View.ld_unit_zero (S := S512x2048) hz2, View.ld_unit_zero (S := S512x512) hz2]
theorem out_5 (hc0 : ¬cond0_0 i) (hc1 : cond0_1 i) (xs0 : Vec Ideal S512x2048 .f32) :
    out0_C_5 (F := Ideal) c i arg2 harg2 arg3 harg3 arg4 harg4 arg5 harg5 arg6 harg6 arg7 harg7 arg8 harg8 hc0 hc1 x0 x1 x2 x3 xs0 = k0_pay4 (k0_pay2 xs0 x0 x1) (View.ld x3 rect0) (View.ld x3 rect1) := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S512x2048) hz2, View.readCov_unit_zero (S := S512x2048) _ hz2]
  simp only [View.readAt_eq_ld, harg2.read_unread, harg3.read_unread, harg5.read_unread, harg8.read_unread, View.ld_unit_zero (S := S512x2048) hz2, View.ld_unit_zero (S := S512x512) hz2]

end Steps

section Reference

open Cert.ReferenceDownIdeal.Read

variable (A : FVec Ideal S32768x5632 .bf16) (W : FVec Ideal S5632x2048 .f32) (H : FVec Ideal S32768x2048 .f32) (g b : FVec Ideal S2048 .f32)

/-- The row that is normalized: the scaled residual plus the product. -/
def sumAt (i : Fin 32768) (j : Fin 2048) : EReal :=
  alpha * (H (ix2 i j) : EReal) + ∑ k : Fin 5632, (A (ix2 i k) : EReal) * (W (ix2 k j) : EReal)

theorem ref_sum (i : Fin 32768) (j : Fin 2048) : val_main_v6 (F := Ideal) A W H (ix2 i j) = sumAt A W H i j := by
  have e5 : val_main_v5 (F := Ideal) A W (ix2 i j) = ∑ k : Fin 5632, (A (ix2 i k) : EReal) * (W (ix2 k j) : EReal) := by
    rw [val_main_v5_apply]; exact Finset.sum_congr rfl fun k _ => by
      rw [show lidx_main_v5 (ix2 i j) k = ix2 i k from ValueIdx.eq_ix2 _, show ridx_main_v5 (ix2 i j) k = ix2 k j from ValueIdx.eq_ix2 _]; rfl
  have e2 : (val_main_v2 (F := Ideal) (ix2 i j) : EReal) = alpha := by
    rw [val_main_v2_apply]
    exact alpha_host
  unfold sumAt
  rw [← e5, ← e2]
  rfl

theorem ref_mean (i : Fin 32768) : val_main_v10 (F := Ideal) A W H (ix2 i (0 : Fin 1)) = mean (sumAt A W H i) := by
  have e : val_main_v8 (F := Ideal) A W H (ix2 i (0 : Fin 1)) = ∑ k : Fin 2048, sumAt A W H i k := by
    rw [val_main_v8_apply, val_main_v7_apply]
    refine Eq.trans (congrArg (· + _) Ideal.ofBits_zero_f32) ((zero_add _).trans (Finset.sum_congr rfl fun k _ => ?_))
    rw [← ref_sum]
    exact congrArg _ (ValueIdx.eq_ix2 _)
  unfold mean
  rw [← e]
  rfl

theorem ref_centred (i : Fin 32768) (j : Fin 2048) : val_main_v12 (F := Ideal) A W H (ix2 i j) = sumAt A W H i j - mean (sumAt A W H i) := by
  have e11 : val_main_v11 (F := Ideal) A W H (ix2 i j) = mean (sumAt A W H i) := by
    rw [val_main_v11_apply, ← ref_mean]
    exact congrArg (val_main_v10 (F := Ideal) A W H) (ValueIdx.eq_ix2 _)
  rw [← ref_sum, ← e11]
  rfl

theorem ref_var (i : Fin 32768) : val_main_v17 (F := Ideal) A W H (ix2 i (0 : Fin 1))
    = mean (fun k => (sumAt A W H i k - mean (sumAt A W H i)) * (sumAt A W H i k - mean (sumAt A W H i))) := by
  have e : val_main_v15 (F := Ideal) A W H (ix2 i (0 : Fin 1))
      = ∑ k : Fin 2048, (sumAt A W H i k - mean (sumAt A W H i)) * (sumAt A W H i k - mean (sumAt A W H i)) := by
    rw [val_main_v15_apply, val_main_v14_apply]
    refine Eq.trans (congrArg (· + _) Ideal.ofBits_zero_f32) ((zero_add _).trans (Finset.sum_congr rfl fun k _ => ?_))
    rw [← ref_centred]
    exact (congrArg (val_main_v13 (F := Ideal) A W H) (ValueIdx.eq_ix2 _)).trans rfl
  refine Eq.trans ?_ (congrArg (fun y => Ideal.div y width) e)
  rfl

/-- The reference's entry: the layer norm of its row. -/
theorem ref_apply (i : Fin 32768) (j : Fin 2048) :
    val_main_v30 (F := Ideal) A W H g b (ix2 i j) = lnRow (sumAt A W H i) (fun k => g (ix1 k)) (fun k => b (ix1 k)) j := by
  have e23 : val_main_v23 (F := Ideal) A W H (ix2 i j)
      = Ideal.rsqrt (mean (fun k => (sumAt A W H i k - mean (sumAt A W H i)) * (sumAt A W H i k - mean (sumAt A W H i))) + eps) := by
    rw [val_main_v23_apply, ← ref_var]
    exact (congrArg (val_main_v22 (F := Ideal) A W H) (ValueIdx.eq_ix2 _)).trans rfl
  have e19 : val_main_v19 (F := Ideal) A W H (ix2 i j) = sumAt A W H i j - mean (sumAt A W H i) := (ref_centred A W H i j)
  have e26 : val_main_v26 (F := Ideal) g (ix2 i j) = g (ix1 j) := by
    rw [val_main_v26_apply, val_main_v25_apply]; exact congrArg g (ValueIdx.eq_ix1 _)
  have e29 : val_main_v29 (F := Ideal) b (ix2 i j) = b (ix1 j) := by
    rw [val_main_v29_apply, val_main_v28_apply]; exact congrArg b (ValueIdx.eq_ix1 _)
  unfold lnRow
  dsimp only
  rw [← e26, ← e29, ← e23, ← e19]
  rfl

end Reference

variable (m : (ℓ : Loc nD τ sig) → Buf (Elt Ideal) ℓ) (c : Dev nD)

/-- The arguments: rows, weights, the residual, and the layer norm's two rows. -/
abbrev argA : FVec Ideal S32768x5632 .bf16 := m ((c.tc : Thread nD τ).loc main_arg0)
abbrev argW : FVec Ideal S5632x2048 .f32 := m ((c.tc : Thread nD τ).loc main_arg1)
abbrev argH : FVec Ideal S32768x2048 .f32 := m ((c.tc : Thread nD τ).loc main_arg2)
abbrev argG : FVec Ideal S2048 .f32 := m ((c.tc : Thread nD τ).loc main_arg3)
abbrev argB : FVec Ideal S2048 .f32 := m ((c.tc : Thread nD τ).loc main_arg4)

/-- The weights' and the parameters' arrays at the launch. -/
theorem V_w : (V m c main_v0 : FVec Ideal S5632x2048 .bf16) = truncf .bf16 (argW m c) bitsLt_bf16_f32 := by
  unfold_abbrev_sides
  after_results
theorem V_p : (V m c main_v5 : FVec Ideal S8x2048 .f32) = packed (argG m c) (argB m c) := by
  unfold packed
  unfold_abbrev_sides
  after_results

theorem index0 : ∀ t : Fin cfg0.N, win0_0.index t = ![t.val / 11, t.val % 11] := (by decide +kernel : ∀ t : Fin grid0.N, win0_0.index t = ![t.val / 11, t.val % 11])
theorem index1 : ∀ t : Fin cfg0.N, win0_1.index t = ![t.val % 11, 0] := (by decide +kernel : ∀ t : Fin grid0.N, win0_1.index t = ![t.val % 11, 0])
theorem index2 : ∀ t : Fin cfg0.N, win0_2.index t = ![t.val / 11, 0] := (by decide +kernel : ∀ t : Fin grid0.N, win0_2.index t = ![t.val / 11, 0])
theorem index3 : ∀ t : Fin cfg0.N, win0_3.index t = ![0, 0] := (by decide +kernel : ∀ t : Fin grid0.N, win0_3.index t = ![0, 0])
theorem index4 : ∀ t : Fin cfg0.N, win0_4.index t = ![t.val / 11, 0] := (by decide +kernel : ∀ t : Fin grid0.N, win0_4.index t = ![t.val / 11, 0])
theorem index5 : ∀ t : Fin cfg0.N, win0_5.index t = ![t.val / 11, 0] := (by decide +kernel : ∀ t : Fin grid0.N, win0_5.index t = ![t.val / 11, 0])

theorem count : cfg0.N = 704 := by decide

/-- Row of a block's entry in the arrays, at step `n`. -/
def ptR (n : ℕ) (h : n < cfg0.N) (r : Fin 512) : Fin 32768 := ⟨n / 11 * 512 + r.val, by have := r.isLt; have := count; omega⟩

/-- The contracted axis' place of an entry of the blocks of step `n`. -/
def ptK (n : ℕ) (k : Fin 512) : Fin 5632 := ⟨n % 11 * 512 + k.val, by have := k.isLt; omega⟩

section Blocks
variable (t : Fin cfg0.N)
theorem blockA (r : Fin 512) (k : Fin 512) : iblk m c 0 t (ix2 r k) = argA m c (ix2 (ptR t.val t.isLt r) (ptK t.val k)) := by
  blk_simp [iblk]
  rw [V_main_arg0]
  refine congrArg (argA m c) (funext fun a => Fin.ext ?_)
  match a with
  | ⟨0, _⟩ => blk_simp [index0]; rfl
  | ⟨1, _⟩ => blk_simp [index0]; rfl
theorem blockW (k : Fin 512) (j : Fin 2048) : iblk m c 1 t (ix2 k j) = argW m c (ix2 (ptK t.val k) j) := by
  blk_simp [iblk]
  refine (congrFun (V_w m c) _).trans ?_
  refine congrArg (argW m c) (funext fun a => Fin.ext ?_)
  match a with
  | ⟨0, _⟩ => blk_simp [index1]; rfl
  | ⟨1, _⟩ => blk_simp [index1]
theorem blockH (r : Fin 512) (k : Fin 2048) : iblk m c 2 t (ix2 r k) = argH m c (ix2 (ptR t.val t.isLt r) k) := by
  blk_simp [iblk]
  rw [V_main_arg2]
  refine congrArg (argH m c) (funext fun a => Fin.ext ?_)
  match a with
  | ⟨0, _⟩ => blk_simp [index2]; rfl
  | ⟨1, _⟩ => blk_simp [index2]
theorem blockP (r : Fin 8) (k : Fin 2048) : iblk m c 3 t (ix2 r k) = packed (argG m c) (argB m c) (ix2 r k) := by
  blk_simp [iblk]
  refine (congrFun (V_p m c) _).trans ?_
  refine congrArg (packed (argG m c) (argB m c)) (funext fun a => Fin.ext ?_)
  match a with
  | ⟨0, _⟩ => blk_simp [index3]
  | ⟨1, _⟩ => blk_simp [index3]

/-- The accumulator a step leaves. -/
theorem state_first (h : t.val % 11 = 0) :
    (outsAt0 m c t.val t.isLt).2.2 = k0_pay2 (k0_pay1 (iblk m c 2 t)) (iblk m c 0 t) (iblk m c 1 t) := by
  rw [outsAt0_A m c t h (by omega)]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)
    ((hcond0_0 t).mpr h) (fun h1 => absurd ((hcond0_1 t).mp h1) (by omega))
theorem state_next (h : ¬t.val % 11 = 0) :
    (outsAt0 m c t.val t.isLt).2.2
      = k0_pay2 (outsAt0 m c (t.val - 1) (Nat.lt_of_le_of_lt (Nat.sub_le _ _) t.isLt)).2.2 (iblk m c 0 t) (iblk m c 1 t) := by
  by_cases h1 : t.val % 11 = 10
  · rw [outsAt0_C m c t h h1]
    dsimp only
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)
      (fun h0 => h ((hcond0_0 t).mp h0)) ((hcond0_1 t).mpr h1) (outsAt0 m c (t.val - 1) (Nat.lt_of_le_of_lt (Nat.sub_le _ _) t.isLt)).2.2
  · rw [outsAt0_B m c t h h1]
    dsimp only
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)
      (fun h0 => h ((hcond0_0 t).mp h0)) (fun h0 => h1 ((hcond0_1 t).mp h0)) (outsAt0 m c (t.val - 1) (Nat.lt_of_le_of_lt (Nat.sub_le _ _) t.isLt)).2.2

/-- What the last step writes, from the accumulator it leaves. -/
theorem written4 (h1 : t.val % 11 = 10) : (outsAt0 m c t.val t.isLt).1
    = k0_pay3 (outsAt0 m c t.val t.isLt).2.2 (View.ld (iblk m c 3 t : Vec Ideal S8x2048 .f32) rect0) (View.ld (iblk m c 3 t : Vec Ideal S8x2048 .f32) rect1) := by
  have h : ¬t.val % 11 = 0 := by omega
  rw [state_next m c t h, outsAt0_C m c t h h1]
  dsimp only
  exact out_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)
    (fun h0 => h ((hcond0_0 t).mp h0)) ((hcond0_1 t).mpr h1) (outsAt0 m c (t.val - 1) (Nat.lt_of_le_of_lt (Nat.sub_le _ _) t.isLt)).2.2
theorem written5 (h1 : t.val % 11 = 10) : (outsAt0 m c t.val t.isLt).2.1
    = k0_pay4 (outsAt0 m c t.val t.isLt).2.2 (View.ld (iblk m c 3 t : Vec Ideal S8x2048 .f32) rect0) (View.ld (iblk m c 3 t : Vec Ideal S8x2048 .f32) rect1) := by
  have h : ¬t.val % 11 = 0 := by omega
  rw [state_next m c t h, outsAt0_C m c t h h1]
  dsimp only
  exact out_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)
    (fun h0 => h ((hcond0_0 t).mp h0)) ((hcond0_1 t).mpr h1) (outsAt0 m c (t.val - 1) (Nat.lt_of_le_of_lt (Nat.sub_le _ _) t.isLt)).2.2

end Blocks

/-- One product of the contraction, at a place given as a number. -/
def term (i : Fin 32768) (j : Fin 2048) (q : ℕ) : EReal :=
  if h : q < 5632 then (argA m c (ix2 i ⟨q, h⟩) : EReal) * (argW m c (ix2 ⟨q, h⟩ j) : EReal) else 0

theorem term_of (i : Fin 32768) (j : Fin 2048) (q : Fin 5632) :
    term m c i j q.val = (argA m c (ix2 i q) : EReal) * (argW m c (ix2 q j) : EReal) := dif_pos q.isLt

/-- A step's product sums the terms of its stretch. -/
theorem stretch (t : Fin cfg0.N) (r : Fin 512) (j : Fin 2048) :
    ∑ k : Fin 512, (show EReal from iblk m c 0 t (ix2 r k)) * (show EReal from iblk m c 1 t (ix2 k j))
      = ∑ k ∈ Finset.range 512, term m c (ptR t.val t.isLt r) j (t.val % 11 * 512 + k) := by
  rw [Finset.sum_range]
  refine Finset.sum_congr rfl fun k _ => ?_
  rw [blockA, blockW]
  exact (term_of m c _ j (ptK t.val k)).symm

/-- The accumulator after step `n`: the scaled residual and the terms so far. -/
theorem acc_eq : ∀ (n : ℕ) (h : n < cfg0.N) (r : Fin 512) (j : Fin 2048), ((outsAt0 m c n h).2.2 (ix2 r j) : EReal)
    = alpha * (argH m c (ix2 (ptR n h r) j) : EReal) + ∑ q ∈ Finset.range ((n % 11 + 1) * 512), term m c (ptR n h r) j q := by
  have first : ∀ (t : Fin cfg0.N) (r : Fin 512) (j : Fin 2048), t.val % 11 = 0 → ((outsAt0 m c t.val t.isLt).2.2 (ix2 r j) : EReal)
      = alpha * (argH m c (ix2 (ptR t.val t.isLt r) j) : EReal)
        + ∑ q ∈ Finset.range ((t.val % 11 + 1) * 512), term m c (ptR t.val t.isLt r) j q := fun t r j h0 => by
    rw [state_first m c t h0]
    refine (step_apply _ _ _ r j).trans ?_
    rw [stretch, start_apply, blockH, h0]
    simp only [Nat.zero_mul, Nat.zero_add, Nat.one_mul]
  intro n
  induction n with
  | zero => exact fun h r j => first ⟨0, h⟩ r j rfl
  | succ n ih =>
    intro h r j
    by_cases h0 : (n + 1) % 11 = 0
    · exact first ⟨n + 1, h⟩ r j h0
    · refine (congrFun (state_next m c ⟨n + 1, h⟩ h0) (ix2 r j)).trans ((step_apply _ _ _ r j).trans ?_)
      rw [stretch]
      refine (congrArg (· + _) (ih (Nat.lt_of_succ_lt h) r j)).trans ?_
      have e : ptR n (Nat.lt_of_succ_lt h) r = ptR (n + 1) h r := Fin.ext (by show n / 11 * 512 + r.val = (n + 1) / 11 * 512 + r.val; omega)
      have e1 : (n + 1) % 11 = n % 11 + 1 := by omega
      have e2 : ∑ q ∈ Finset.range (((n + 1) % 11 + 1) * 512), term m c (ptR (n + 1) h r) j q
          = ∑ q ∈ Finset.range ((n % 11 + 1) * 512), term m c (ptR (n + 1) h r) j q
            + ∑ k ∈ Finset.range 512, term m c (ptR (n + 1) h r) j ((n + 1) % 11 * 512 + k) := by
        rw [e1, Nat.add_mul (n % 11 + 1) 1 512, Nat.one_mul, Finset.sum_range_add]
      rw [e, e2, add_assoc]

/-- After the last step of a row block: the reference's row. -/
theorem acc_last (t : Fin cfg0.N) (h1 : t.val % 11 = 10) (r : Fin 512) (j : Fin 2048) :
    ((outsAt0 m c t.val t.isLt).2.2 (ix2 r j) : EReal) = sumAt (argA m c) (argW m c) (argH m c) (ptR t.val t.isLt r) j := by
  have e : ∑ q ∈ Finset.range 5632, term m c (ptR t.val t.isLt r) j q
      = ∑ k : Fin 5632, (argA m c (ix2 (ptR t.val t.isLt r) k) : EReal) * (argW m c (ix2 k j) : EReal) := by
    rw [Finset.sum_range]
    exact Finset.sum_congr rfl fun k _ => term_of m c _ j k
  rw [acc_eq, h1, show (10 + 1) * 512 = 5632 from rfl, e]
  rfl

/-- The entry the last step writes is the reference's. -/
theorem point_eq (t : Fin cfg0.N) (h1 : t.val % 11 = 10) (r : Fin 512) (j : Fin 2048) :
    k0_pay3 (F := Ideal) (outsAt0 m c t.val t.isLt).2.2 (View.ld (iblk m c 3 t : Vec Ideal S8x2048 .f32) rect0) (View.ld (iblk m c 3 t : Vec Ideal S8x2048 .f32) rect1) (ix2 r j)
      = Cert.ReferenceDownIdeal.Read.val_main_v30 (F := Ideal) (argA m c) (argW m c) (argH m c) (argG m c) (argB m c) (ix2 (ptR t.val t.isLt r) j) := by
  rw [ref_apply]
  refine (pay_apply _ _ _ r j).trans ?_
  have eg : (fun k => View.ld (iblk m c 3 t : Vec Ideal S8x2048 .f32) rect0 (ix2 (0 : Fin 1) k)) = fun k => argG m c (ix1 k) := funext fun k =>
    (row0 _ k).trans ((blockP m c t 0 k).trans (packed_g _ _ k))
  have eb : (fun k => View.ld (iblk m c 3 t : Vec Ideal S8x2048 .f32) rect1 (ix2 (0 : Fin 1) k)) = fun k => argB m c (ix1 k) := funext fun k =>
    (row1 _ k).trans ((blockP m c t 1 k).trans (packed_b _ _ k))
  rw [eg, eb]
  exact congrArg (fun f => lnRow f _ _ j) (funext fun k => acc_last m c t h1 r k)

/-- The two arrays the kernel leaves are the reference's. -/
theorem final4 : (dats m 0 c).arrAt 4 cfg0.N
    = Cert.ReferenceDownIdeal.Read.val_main_v30 (F := Ideal) (argA m c) (argW m c) (argH m c) (argG m c) (argB m c) := by
  refine (dats m 0 c).arrAt_eq_of_covers 4 _ (by decide +kernel) fun t hf y => ?_
  have h1 := (flush0_4 t).1 hf
  blk_simp
  rw [after0_4, written4 m c t h1]
  obtain ⟨r, j, rfl⟩ : ∃ (r : Fin 512) (j : Fin 2048), y = ix2 r j := ⟨y 0, y 1, ValueIdx.eq_ix2 y⟩
  refine (point_eq m c t h1 r j).trans (congrArg _ (funext fun a => Fin.ext ?_))
  match a with
  | ⟨0, _⟩ => blk_simp [index4]; rfl
  | ⟨1, _⟩ => blk_simp [index4]
theorem final5 : (dats m 0 c).arrAt 5 cfg0.N
    = Cert.ReferenceDownIdeal.Read.val_main_v31 (F := Ideal) (argA m c) (argW m c) (argH m c) (argG m c) (argB m c) := by
  refine (dats m 0 c).arrAt_eq_of_covers 5 _ (by decide +kernel) fun t hf y => ?_
  have h1 := (flush0_5 t).1 hf
  blk_simp
  rw [after0_5, written5 m c t h1]
  obtain ⟨r, j, rfl⟩ : ∃ (r : Fin 512) (j : Fin 2048), y = ix2 r j := ⟨y 0, y 1, ValueIdx.eq_ix2 y⟩
  refine (point_eq m c t h1 r j).trans (congrArg (Cert.ReferenceDownIdeal.Read.val_main_v30 (F := Ideal) (argA m c) (argW m c) (argH m c) (argG m c) (argB m c))
    (funext fun a => Fin.ext ?_))
  match a with
  | ⟨0, _⟩ => blk_simp [index5]; rfl
  | ⟨1, _⟩ => blk_simp [index5]

end Cert.Down

end
-- ==== Proof.Down.Claims.lean ====
/-
  The claims about the feed-forward's down projection: the three runs leave their arguments and the counters as they were, and the kernel and the
  reference leave the same arrays.
-/
module

public import proofs.«01_k».proof.Defs
public import proofs.«01_k».proof.Proof.Gen.KernelDown.Frame
public import proofs.«01_k».proof.Proof.Gen.ReferenceDownIdeal.Run
public import proofs.«01_k».proof.Proof.Down.Value
public import Idealize.ShloMosaic.Lib.Quiescent

@[expose] public section

noncomputable section

open Idealize.ShloMosaic Idealize.SL.Sem

namespace Cert.Down

theorem frame_kernel : Cert.quiescent_KernelDown (hKernelDown := Cert.KernelDown.Gen.facts) := fun m ρ _ => Cert.KernelDown.Gen.frame m ρ
theorem frame_ideal : Cert.quiescent_KernelDownIdeal (hKernelDownIdeal := Cert.KernelDownIdeal.Gen.facts) := fun m ρ _ => Cert.KernelDownIdeal.Gen.frame m ρ
theorem frame_ref : Cert.quiescent_ReferenceDownIdeal (hReferenceDownIdeal := Cert.ReferenceDownIdeal.Gen.facts) := fun m ρ _ =>
  (θ_run _ _ _).mono (fun r h => ⟨fun c => (h c).2.2, sem_eq_zero_of_no_sems (by decide) r.2⟩) (Cert.ReferenceDownIdeal.Value.run (F := Ideal) m ρ)

/-- What the idealization names is what it says. -/
theorem preserves : Cert.preserves_KernelDown_KernelDownIdeal := IdealRules.named_const.statement Cert.KernelDownIdeal.κ "alpha" .f32 0x3FD744FD#32 ((Real.sqrt (Real.sqrt 8) : ℝ) : EReal) rfl

/-- The kernel's result is the reference's. -/
theorem algebraic : Cert.algebraic_KernelDownIdeal_ReferenceDownIdeal (hKernelDownIdeal := Cert.KernelDownIdeal.Gen.facts)
    (hReferenceDownIdeal := Cert.ReferenceDownIdeal.Gen.facts) := fun m ρ m' ρ' _ hm =>
  ⟨fun c => Cert.ReferenceDownIdeal.Read.val_main_v30 (F := Ideal) (argA m c) (argW m c) (argH m c) (argG m c) (argB m c), fun c => Cert.ReferenceDownIdeal.Read.val_main_v31 (F := Ideal) (argA m c) (argW m c) (argH m c) (argG m c) (argB m c),
    (θ_run _ _ _).mono (fun r h c => ⟨(h c).1.trans (final4 m c), (h c).2.1.trans (final5 m c), (h c).2.2⟩) (Cert.KernelDownIdeal.Value.run_blocks (F := Ideal) m ρ),
    (θ_run _ _ _).mono (fun r h c => ⟨(h c).1.trans (by rw [Cert.ReferenceDownIdeal.Read.val_main_v30_eq, (hm c).1, (hm c).2.1, (hm c).2.2.1, (hm c).2.2.2.1, (hm c).2.2.2.2]),
        (h c).2.1.trans (by rw [Cert.ReferenceDownIdeal.Read.val_main_v31_eq, (hm c).1, (hm c).2.1, (hm c).2.2.1, (hm c).2.2.2.1, (hm c).2.2.2.2]),
        (h c).2.2⟩)
      (Cert.ReferenceDownIdeal.Value.run (F := Ideal) m' ρ')⟩

end Cert.Down

end
-- ==== Proof.Up.Value.lean ====
/-
  The gate and up projections. `block_eq` reads the block written at a grid point; `blockH`, `blockG`, `blockU` read the
  three input blocks in the argument arrays; `final`: the array the kernel leaves is the reference's.
-/
module

public import proofs.«01_k».proof.Proof.Gen.KernelUpIdeal.Value
public import proofs.«01_k».proof.Proof.Gen.ReferenceUpIdeal.Read
public import proofs.«01_k».proof.Proof.Common
public import Idealize.ShloMosaic.Lib.MatmulPlain
public import Idealize.ShloMosaic.Lib.Pipeline.ValueKit

@[expose] public section

noncomputable section

open Idealize.ShloMosaic hiding ix1 ix2 ix3 ix4
open Idealize.ShloMosaic.TcCoe Idealize.ShloMosaic.ValueIdx Cert.Common

namespace Cert.Up

open Cert.KernelUpIdeal Cert.KernelUpIdeal.Gen

/-- The product of row `r` of `a` and column `j` of `w`. -/
def dotAt (a : Vec Ideal S1024x2048 .bf16) (w : Vec Ideal S2048x512 .bf16) (r : Fin 1024) (j : Fin 512) : EReal :=
  ∑ k : Fin 2048, (a (ix2 r k) : EReal) * (w (ix2 k j) : EReal)

/-- The kernel's product holds these sums. -/
theorem mm_apply (a : Vec Ideal S1024x2048 .bf16) (w : Vec Ideal S2048x512 .bf16) (r : Fin 1024) (j : Fin 512) :
    matmul (F := Ideal) (φ₁ := .bf16) (φ₂ := .bf16) dot_S1024x2048_S2048x512_S1024x512_1_0_0_1_n_n none a
      (shapeCast S2048x512 w shapeCasts_S2048x512_S2048x512) (constant (F := Ideal) S1024x512 .f32 0x00000000#32) (ix2 r j) = dotAt a w r j := by
  rw [shapeCast_self]
  refine (Ideal.matmul_plain_apply (M := 1024) (K := 2048) (N := 512) none _ _ _ r j).trans ?_
  show Ideal.ofBits .f32 0x00000000#32 + _ = _
  rw [Ideal.ofBits_zero_f32, zero_add]
  rfl

/-- The block written: the gated product. -/
theorem pay_apply (a : Vec Ideal S1024x2048 .bf16) (wg wu : Vec Ideal S2048x512 .bf16) (r : Fin 1024) (j : Fin 512) :
    k0_pay1 (F := Ideal) a wg wu (ix2 r j) = dotAt a wg r j * Ideal.logistic (dotAt a wg r j) * dotAt a wu r j := by
  unfold k0_pay1
  rw [← mm_apply a wg r j, ← mm_apply a wu r j]
  rfl

/-- The block the body leaves is the payload of the whole input blocks. -/
theorem block_eq (a : Vec Ideal S1024x2048 .bf16) (wg wu : Vec Ideal S2048x512 .bf16) : out0_3 (F := Ideal) a wg wu = k0_pay1 a wg wu := by
  unfold out0_3
  rw [View.canon_unit_zero hz2, View.ld_unit_zero (S := S1024x2048) hz2, View.ld_unit_zero (S := S2048x512) hz2, View.ld_unit_zero (S := S2048x512) hz2]

variable (m : (ℓ : Loc nD τ sig) → Buf (Elt Ideal) ℓ) (c : Dev nD)

/-- The arguments: rows, gate weights, up weights. -/
abbrev argH : FVec Ideal S32768x2048 .bf16 := m ((c.tc : Thread nD τ).loc main_arg0)
abbrev argG : FVec Ideal S2048x5632 .f32 := m ((c.tc : Thread nD τ).loc main_arg1)
abbrev argU : FVec Ideal S2048x5632 .f32 := m ((c.tc : Thread nD τ).loc main_arg2)

/-- The weights' arrays at the launch: the arguments, rounded. -/
theorem V_gate : (V m c main_v0 : FVec Ideal S2048x5632 .bf16) = truncf .bf16 (argG m c) bitsLt_bf16_f32 := by
  unfold_abbrev_sides
  after_results
theorem V_up : (V m c main_v1 : FVec Ideal S2048x5632 .bf16) = truncf .bf16 (argU m c) bitsLt_bf16_f32 := by
  unfold_abbrev_sides
  after_results

theorem index0 : ∀ t : Fin cfg0.N, win0_0.index t = ![t.val % 32, 0] := (by decide +kernel : ∀ t : Fin grid0.N, win0_0.index t = ![t.val % 32, 0])
theorem index1 : ∀ t : Fin cfg0.N, win0_1.index t = ![0, t.val / 32] := (by decide +kernel : ∀ t : Fin grid0.N, win0_1.index t = ![0, t.val / 32])
theorem index2 : ∀ t : Fin cfg0.N, win0_2.index t = ![0, t.val / 32] := (by decide +kernel : ∀ t : Fin grid0.N, win0_2.index t = ![0, t.val / 32])
theorem index3 : ∀ t : Fin cfg0.N, win0_3.index t = ![t.val % 32, t.val / 32] :=
  (by decide +kernel : ∀ t : Fin grid0.N, win0_3.index t = ![t.val % 32, t.val / 32])

variable (t : Fin cfg0.N)
theorem lt_N : t.val < 352 := Nat.lt_of_lt_of_eq t.isLt (by decide)

/-- Row and column of a block's entry in the arrays. -/
def ptR (r : Fin 1024) : Fin 32768 := ⟨t.val % 32 * 1024 + r.val, by have := r.isLt; omega⟩
def ptC (j : Fin 512) : Fin 5632 := ⟨t.val / 32 * 512 + j.val, by have := j.isLt; have := lt_N t; omega⟩

theorem blockH (r : Fin 1024) (k : Fin 2048) : iblk m c 0 t (ix2 r k) = argH m c (ix2 (ptR t r) k) := by
  blk_simp [iblk]
  rw [V_main_arg0]
  refine congrArg (argH m c) (funext fun a => Fin.ext ?_)
  match a with
  | ⟨0, _⟩ => blk_simp [index0]; rfl
  | ⟨1, _⟩ => blk_simp [index0]
theorem blockG (k : Fin 2048) (j : Fin 512) : iblk m c 1 t (ix2 k j) = argG m c (ix2 k (ptC t j)) := by
  blk_simp [iblk]
  refine (congrFun (V_gate m c) _).trans ?_
  refine congrArg (argG m c) (funext fun a => Fin.ext ?_)
  match a with
  | ⟨0, _⟩ => blk_simp [index1]
  | ⟨1, _⟩ => blk_simp [index1]; rfl
theorem blockU (k : Fin 2048) (j : Fin 512) : iblk m c 2 t (ix2 k j) = argU m c (ix2 k (ptC t j)) := by
  blk_simp [iblk]
  refine (congrFun (V_up m c) _).trans ?_
  refine congrArg (argU m c) (funext fun a => Fin.ext ?_)
  match a with
  | ⟨0, _⟩ => blk_simp [index2]
  | ⟨1, _⟩ => blk_simp [index2]; rfl

open Cert.ReferenceUpIdeal.Read in
/-- The reference's entry at a row and column. -/
theorem ref_apply (H : FVec Ideal S32768x2048 .bf16) (G U : FVec Ideal S2048x5632 .f32) (i : Fin 32768) (j : Fin 5632) :
    val_main_v5 (F := Ideal) H G U (ix2 i j)
      = (∑ k : Fin 2048, (H (ix2 i k) : EReal) * (G (ix2 k j) : EReal)) * Ideal.logistic (∑ k : Fin 2048, (H (ix2 i k) : EReal) * (G (ix2 k j) : EReal))
        * ∑ k : Fin 2048, (H (ix2 i k) : EReal) * (U (ix2 k j) : EReal) := by
  have hl : ∀ k : Fin 2048, lidx_main_v1 (ix2 i j) k = ix2 i k := fun k => ValueIdx.eq_ix2 _
  have hr : ∀ k : Fin 2048, ridx_main_v1 (ix2 i j) k = ix2 k j := fun k => ValueIdx.eq_ix2 _
  have e1 : val_main_v1 (F := Ideal) H G (ix2 i j) = ∑ k : Fin 2048, (H (ix2 i k) : EReal) * (G (ix2 k j) : EReal) := by
    rw [val_main_v1_apply]; exact Finset.sum_congr rfl fun k _ => by rw [hl, hr]; rfl
  have e3 : val_main_v3 (F := Ideal) H U (ix2 i j) = ∑ k : Fin 2048, (H (ix2 i k) : EReal) * (U (ix2 k j) : EReal) := by
    rw [val_main_v3_apply]; exact Finset.sum_congr rfl fun k _ => by
      rw [show lidx_main_v3 (ix2 i j) k = ix2 i k from ValueIdx.eq_ix2 _, show ridx_main_v3 (ix2 i j) k = ix2 k j from ValueIdx.eq_ix2 _]; rfl
  rw [← e1, ← e3, ← logistic_host]
  rfl

/-- The array the kernel leaves is the reference's. -/
theorem final : (dats m 0 c).arrAt 3 cfg0.N = Cert.ReferenceUpIdeal.Read.val_main_v5 (F := Ideal) (argH m c) (argG m c) (argU m c) := by
  refine (dats m 0 c).arrAt_eq_of_covers 3 _ (by decide +kernel) fun t _ y => ?_
  blk_simp
  rw [after0_3, block_eq]
  obtain ⟨r, j, rfl⟩ : ∃ (r : Fin 1024) (j : Fin 512), y = ix2 r j := ⟨y 0, y 1, ValueIdx.eq_ix2 y⟩
  refine (pay_apply (iblk m c 0 t) (iblk m c 1 t) (iblk m c 2 t) r j).trans ?_
  have e : ∀ (w : Vec Ideal S2048x512 .bf16) (W : FVec Ideal S2048x5632 .f32), (∀ k j, w (ix2 k j) = W (ix2 k (ptC t j))) →
      dotAt (iblk m c 0 t) w r j = ∑ k : Fin 2048, (argH m c (ix2 (ptR t r) k) : EReal) * (W (ix2 k (ptC t j)) : EReal) :=
    fun w W h => Finset.sum_congr rfl fun k _ => by rw [blockH, h]
  rw [e _ _ (blockG m c t), e _ _ (blockU m c t), ← ref_apply]
  refine congrArg _ (funext fun a => Fin.ext ?_)
  match a with
  | ⟨0, _⟩ => blk_simp [index3]; rfl
  | ⟨1, _⟩ => blk_simp [index3]; rfl

end Cert.Up

end
-- ==== Proof.Up.Claims.lean ====
/-
  The claims about the feed-forward's gate and up projections: the three runs leave their arguments and the counters as they were, and the kernel and the
  reference leave the same array.
-/
module

public import proofs.«01_k».proof.Defs
public import proofs.«01_k».proof.Proof.Gen.KernelUp.Frame
public import proofs.«01_k».proof.Proof.Gen.ReferenceUpIdeal.Run
public import proofs.«01_k».proof.Proof.Up.Value
public import Idealize.ShloMosaic.Lib.Quiescent

@[expose] public section

noncomputable section

open Idealize.ShloMosaic Idealize.SL.Sem

namespace Cert.Up

theorem frame_kernel : Cert.quiescent_KernelUp (hKernelUp := Cert.KernelUp.Gen.facts) := fun m ρ _ => Cert.KernelUp.Gen.frame m ρ
theorem frame_ideal : Cert.quiescent_KernelUpIdeal (hKernelUpIdeal := Cert.KernelUpIdeal.Gen.facts) := fun m ρ _ => Cert.KernelUpIdeal.Gen.frame m ρ
theorem frame_ref : Cert.quiescent_ReferenceUpIdeal (hReferenceUpIdeal := Cert.ReferenceUpIdeal.Gen.facts) := fun m ρ _ =>
  (θ_run _ _ _).mono (fun r h => ⟨fun c => (h c).2, sem_eq_zero_of_no_sems (by decide) r.2⟩) (Cert.ReferenceUpIdeal.Value.run (F := Ideal) m ρ)

/-- What the idealization names is what it says. -/
theorem preserves : Cert.preserves_KernelUp_KernelUpIdeal := trivial

/-- The kernel's result is the reference's. -/
theorem algebraic : Cert.algebraic_KernelUpIdeal_ReferenceUpIdeal (hKernelUpIdeal := Cert.KernelUpIdeal.Gen.facts)
    (hReferenceUpIdeal := Cert.ReferenceUpIdeal.Gen.facts) := fun m ρ m' ρ' _ hm =>
  ⟨fun c => Cert.ReferenceUpIdeal.Read.val_main_v5 (F := Ideal) (argH m c) (argG m c) (argU m c),
    (θ_run _ _ _).mono (fun r h c => ⟨(h c).1.trans (final m c), (h c).2⟩) (Cert.KernelUpIdeal.Value.run_blocks (F := Ideal) m ρ),
    (θ_run _ _ _).mono (fun r h c => ⟨(h c).1.trans (by rw [Cert.ReferenceUpIdeal.Read.val_main_v5_eq, (hm c).1, (hm c).2.1, (hm c).2.2]),
        (h c).2⟩)
      (Cert.ReferenceUpIdeal.Value.run (F := Ideal) m' ρ')⟩

end Cert.Up

end
-- ==== Proof.Main.Value.lean ====
/-
  The input projection's wide part. `packed_apply`: which column of the weights a column of the kernel's weights is;
  `ref_col`: the same of the reference's result; `final`: the array the kernel leaves is the reference's.
-/
module

public import proofs.«01_k».proof.Proof.Gen.KernelMainIdeal.Value
public import proofs.«01_k».proof.Proof.Gen.ReferenceMainIdeal.Read
public import proofs.«01_k».proof.Proof.Common
public import Idealize.ShloMosaic.Lib.MatmulPlain
public import Idealize.ShloMosaic.Lib.Pipeline.ValueKit

@[expose] public section

noncomputable section

open Idealize.ShloMosaic hiding ix1 ix2 ix3 ix4
open Idealize.ShloMosaic.TcCoe Idealize.ShloMosaic.ValueIdx Cert.Common

namespace Cert.Main

open Cert.KernelMainIdeal Cert.KernelMainIdeal.Gen

/-- The product of row `r` of `a` and column `j` of `w`. -/
def dotAt (a : Vec Ideal S1024x2048 .bf16) (w : Vec Ideal S2048x1024 .bf16) (r : Fin 1024) (j : Fin 1024) : EReal :=
  ∑ k : Fin 2048, (a (ix2 r k) : EReal) * (w (ix2 k j) : EReal)

/-- The kernel's product holds these sums. -/
theorem mm_apply (a : Vec Ideal S1024x2048 .bf16) (w : Vec Ideal S2048x1024 .bf16) (r : Fin 1024) (j : Fin 1024) :
    matmul (F := Ideal) (φ₁ := .bf16) (φ₂ := .bf16) dot_S1024x2048_S2048x1024_S1024x1024_1_0_0_1_n_n none a
      (shapeCast S2048x1024 w shapeCasts_S2048x1024_S2048x1024) (constant (F := Ideal) S1024x1024 .f32 0x00000000#32) (ix2 r j) = dotAt a w r j := by
  rw [shapeCast_self]
  refine (Ideal.matmul_plain_apply (M := 1024) (K := 2048) (N := 1024) none _ _ _ r j).trans ?_
  show Ideal.ofBits .f32 0x00000000#32 + _ = _
  rw [Ideal.ofBits_zero_f32, zero_add]
  rfl

/-- The block written holds them. -/
theorem pay_apply (a : Vec Ideal S1024x2048 .bf16) (w : Vec Ideal S2048x1024 .bf16) (r : Fin 1024) (j : Fin 1024) :
    k0_pay1 (F := Ideal) a w (ix2 r j) = dotAt a w r j := by
  unfold k0_pay1
  rw [← mm_apply a w r j]
  rfl

/-- The block the body leaves is the payload of the whole input blocks. -/
theorem block_eq (a : Vec Ideal S1024x2048 .bf16) (w : Vec Ideal S2048x1024 .bf16) : out0_2 (F := Ideal) a w = k0_pay1 a w := by
  unfold out0_2
  rw [View.canon_unit_zero hz2, View.ld_unit_zero (S := S1024x2048) hz2, View.ld_unit_zero (S := S2048x1024) hz2]

/-- The weights' columns the kernel keeps, side by side: those before the heads' time steps, and the two gates'. -/
def packed (W : FVec Ideal S2048x15552 .f32) : FVec Ideal S2048x14336 .f32 :=
  concatenate S2048x14336 1 [⟨S2048x10240, extractStridedSlice S2048x10240 ![0, 0] W slices_S2048x15552_S2048x10240_0_0⟩,
    ⟨S2048x4096, extractStridedSlice S2048x4096 ![0, 11456] W slices_S2048x15552_S2048x4096_0_11456⟩] concatenates_S2048x10240_S2048x4096_S2048x14336_d1

/-- The column of the weights that column `j` of the result comes from. -/
def col (j : Fin 14336) : Fin 15552 := ⟨if j.val < 10240 then j.val else j.val + 1216, by have := j.isLt; split <;> omega⟩

theorem packed_apply (W : FVec Ideal S2048x15552 .f32) (k : Fin 2048) (j : Fin 14336) : packed W (ix2 k j) = W (ix2 k (col j)) := by
  have hj := j.isLt
  unfold packed
  by_cases h : j.val < 10240
  · refine (beside_apply _ _ 0 (by simp) _ rfl 0 rfl k j (⟨j.val, h⟩ : Fin 10240) (by simp)).trans ?_
    exact extractStridedSlice_apply ![0, 0] W _ _ (ix2 k (col j)) fun a => match a with
      | ⟨0, _⟩ => by show k.val = 0 + k.val; omega
      | ⟨1, _⟩ => by show (if j.val < 10240 then j.val else j.val + 1216) = 0 + j.val; rw [if_pos h]; omega
  · refine (beside_apply _ _ 1 (by simp) _ rfl 10240 rfl k j (⟨j.val - 10240, by omega⟩ : Fin 4096) (by show 10240 + (j.val - 10240) = _; omega)).trans ?_
    exact extractStridedSlice_apply ![0, 11456] W _ _ (ix2 k (col j)) fun a => match a with
      | ⟨0, _⟩ => by show k.val = 0 + k.val; omega
      | ⟨1, _⟩ => by show (if j.val < 10240 then j.val else j.val + 1216) = 11456 + (j.val - 10240); rw [if_neg h]; omega

variable (m : (ℓ : Loc nD τ sig) → Buf (Elt Ideal) ℓ) (c : Dev nD)

/-- The arguments: rows and the projection's weights. -/
abbrev argH : FVec Ideal S32768x2048 .bf16 := m ((c.tc : Thread nD τ).loc main_arg0)
abbrev argW : FVec Ideal S2048x15552 .f32 := m ((c.tc : Thread nD τ).loc main_arg1)

/-- The weights' array at the launch: the packed weights, rounded. -/
theorem V_w : (V m c main_v3 : FVec Ideal S2048x14336 .bf16) = truncf .bf16 (packed (argW m c)) bitsLt_bf16_f32 := by
  unfold packed
  unfold_abbrev_sides
  after_results

theorem index0 : ∀ t : Fin cfg0.N, win0_0.index t = ![t.val % 32, 0] := (by decide +kernel : ∀ t : Fin grid0.N, win0_0.index t = ![t.val % 32, 0])
theorem index1 : ∀ t : Fin cfg0.N, win0_1.index t = ![0, t.val / 32] := (by decide +kernel : ∀ t : Fin grid0.N, win0_1.index t = ![0, t.val / 32])
theorem index2 : ∀ t : Fin cfg0.N, win0_2.index t = ![t.val % 32, t.val / 32] :=
  (by decide +kernel : ∀ t : Fin grid0.N, win0_2.index t = ![t.val % 32, t.val / 32])

variable (t : Fin cfg0.N)
theorem lt_N : t.val < 448 := Nat.lt_of_lt_of_eq t.isLt (by decide)

/-- Row and column of a block's entry in the arrays. -/
def ptR (r : Fin 1024) : Fin 32768 := ⟨t.val % 32 * 1024 + r.val, by have := r.isLt; omega⟩
def ptC (j : Fin 1024) : Fin 14336 := ⟨t.val / 32 * 1024 + j.val, by have := j.isLt; have := lt_N t; omega⟩

theorem blockH (r : Fin 1024) (k : Fin 2048) : iblk m c 0 t (ix2 r k) = argH m c (ix2 (ptR t r) k) := by
  blk_simp [iblk]
  rw [V_main_arg0]
  refine congrArg (argH m c) (funext fun a => Fin.ext ?_)
  match a with
  | ⟨0, _⟩ => blk_simp [index0]; rfl
  | ⟨1, _⟩ => blk_simp [index0]
theorem blockW (k : Fin 2048) (j : Fin 1024) : iblk m c 1 t (ix2 k j) = packed (argW m c) (ix2 k (ptC t j)) := by
  blk_simp [iblk]
  refine (congrFun (V_w m c) _).trans ?_
  refine congrArg (packed (argW m c)) (funext fun a => Fin.ext ?_)
  match a with
  | ⟨0, _⟩ => blk_simp [index1]
  | ⟨1, _⟩ => blk_simp [index1]; rfl

open Cert.ReferenceMainIdeal.Read in
/-- The reference's product at a row and column. -/
theorem prod_apply (H : FVec Ideal S32768x2048 .bf16) (W : FVec Ideal S2048x15552 .f32) (i : Fin 32768) (j : Fin 15552) :
    val_main_v1 (F := Ideal) H W (ix2 i j) = ∑ k : Fin 2048, (H (ix2 i k) : EReal) * (W (ix2 k j) : EReal) := by
  rw [val_main_v1_apply]
  exact Finset.sum_congr rfl fun k _ => by
    rw [show lidx_main_v1 (ix2 i j) k = ix2 i k from ValueIdx.eq_ix2 _, show ridx_main_v1 (ix2 i j) k = ix2 k j from ValueIdx.eq_ix2 _]; rfl

open Cert.ReferenceMainIdeal.Read in
/-- The reference's entry: the product at the column it comes from. -/
theorem ref_col (H : FVec Ideal S32768x2048 .bf16) (W : FVec Ideal S2048x15552 .f32) (i : Fin 32768) (j : Fin 14336) :
    val_main_v10 (F := Ideal) H W (ix2 i j) = val_main_v1 (F := Ideal) H W (ix2 i (col j)) := by
  have hj := j.isLt
  rw [val_main_v10_apply]
  show val_main_v9 (F := Ideal) H W (ix2 i j) = _
  unfold val_main_v9
  have hc : (col j).val = if j.val < 10240 then j.val else j.val + 1216 := rfl
  by_cases h1 : j.val < 4096
  · refine (beside_apply _ _ 0 (by simp) _ rfl 0 rfl i j (⟨j.val, h1⟩ : Fin 4096) (by simp)).trans ?_
    rw [val_main_v2_apply]
    refine congrArg _ ((ValueIdx.eq_ix2 _).trans (congrArg (ix2 i) (Fin.ext ?_)))
    rw [hc, if_pos (by omega)]
  by_cases h2 : j.val < 10240
  · refine (beside_apply _ _ 1 (by simp) _ rfl 4096 rfl i j (⟨j.val - 4096, by omega⟩ : Fin 6144) (by show 4096 + (j.val - 4096) = _; omega)).trans ?_
    rw [val_main_v3_apply]
    refine congrArg _ ((ValueIdx.eq_ix2 _).trans (congrArg (ix2 i) (Fin.ext ?_)))
    rw [hc, if_pos (by omega)]; show 4096 + (j.val - 4096) = j.val; omega
  by_cases h3 : j.val < 12288
  · refine (beside_apply _ _ 2 (by simp) _ rfl 10240 rfl i j (⟨j.val - 10240, by omega⟩ : Fin 2048) (by show 10240 + (j.val - 10240) = _; omega)).trans ?_
    rw [val_main_v7_apply]
    refine congrArg _ ((ValueIdx.eq_ix2 _).trans (congrArg (ix2 i) (Fin.ext ?_)))
    rw [hc, if_neg (by omega)]; show 11456 + (j.val - 10240) = j.val + 1216; omega
  · refine (beside_apply _ _ 3 (by simp) _ rfl 12288 rfl i j (⟨j.val - 12288, by omega⟩ : Fin 2048) (by show 12288 + (j.val - 12288) = _; omega)).trans ?_
    rw [val_main_v8_apply]
    refine congrArg _ ((ValueIdx.eq_ix2 _).trans (congrArg (ix2 i) (Fin.ext ?_)))
    rw [hc, if_neg (by omega)]; show 13504 + (j.val - 12288) = j.val + 1216; omega

/-- The reference's entry as a sum over the packed weights. -/
theorem ref_apply (H : FVec Ideal S32768x2048 .bf16) (W : FVec Ideal S2048x15552 .f32) (i : Fin 32768) (j : Fin 14336) :
    Cert.ReferenceMainIdeal.Read.val_main_v10 (F := Ideal) H W (ix2 i j) = ∑ k : Fin 2048, (H (ix2 i k) : EReal) * (packed W (ix2 k j) : EReal) := by
  rw [ref_col, prod_apply]
  exact Finset.sum_congr rfl fun k _ => by rw [packed_apply]

/-- The array the kernel leaves is the reference's. -/
theorem final : (dats m 0 c).arrAt 2 cfg0.N = Cert.ReferenceMainIdeal.Read.val_main_v10 (F := Ideal) (argH m c) (argW m c) := by
  refine (dats m 0 c).arrAt_eq_of_covers 2 _ (by decide +kernel) fun t _ y => ?_
  blk_simp
  rw [after0_2, block_eq]
  obtain ⟨r, j, rfl⟩ : ∃ (r : Fin 1024) (j : Fin 1024), y = ix2 r j := ⟨y 0, y 1, ValueIdx.eq_ix2 y⟩
  refine (pay_apply (iblk m c 0 t) (iblk m c 1 t) r j).trans ?_
  have e : dotAt (iblk m c 0 t) (iblk m c 1 t) r j
      = ∑ k : Fin 2048, (argH m c (ix2 (ptR t r) k) : EReal) * (packed (argW m c) (ix2 k (ptC t j)) : EReal) :=
    Finset.sum_congr rfl fun k _ => by rw [blockH, blockW]
  rw [e, ← ref_apply]
  refine congrArg _ (funext fun a => Fin.ext ?_)
  match a with
  | ⟨0, _⟩ => blk_simp [index2]; rfl
  | ⟨1, _⟩ => blk_simp [index2]; rfl

end Cert.Main

end
-- ==== Proof.Main.Claims.lean ====
/-
  The claims about the large input projection: the three runs leave their arguments and the counters as they were, and the kernel and the
  reference leave the same array.
-/
module

public import proofs.«01_k».proof.Defs
public import proofs.«01_k».proof.Proof.Gen.KernelMain.Frame
public import proofs.«01_k».proof.Proof.Gen.ReferenceMainIdeal.Run
public import proofs.«01_k».proof.Proof.Main.Value
public import Idealize.ShloMosaic.Lib.Quiescent

@[expose] public section

noncomputable section

open Idealize.ShloMosaic Idealize.SL.Sem

namespace Cert.Main

theorem frame_kernel : Cert.quiescent_KernelMain (hKernelMain := Cert.KernelMain.Gen.facts) := fun m ρ _ => Cert.KernelMain.Gen.frame m ρ
theorem frame_ideal : Cert.quiescent_KernelMainIdeal (hKernelMainIdeal := Cert.KernelMainIdeal.Gen.facts) := fun m ρ _ => Cert.KernelMainIdeal.Gen.frame m ρ
theorem frame_ref : Cert.quiescent_ReferenceMainIdeal (hReferenceMainIdeal := Cert.ReferenceMainIdeal.Gen.facts) := fun m ρ _ =>
  (θ_run _ _ _).mono (fun r h => ⟨fun c => (h c).2, sem_eq_zero_of_no_sems (by decide) r.2⟩) (Cert.ReferenceMainIdeal.Value.run (F := Ideal) m ρ)

/-- What the idealization names is what it says. -/
theorem preserves : Cert.preserves_KernelMain_KernelMainIdeal := trivial

/-- The kernel's result is the reference's. -/
theorem algebraic : Cert.algebraic_KernelMainIdeal_ReferenceMainIdeal (hKernelMainIdeal := Cert.KernelMainIdeal.Gen.facts)
    (hReferenceMainIdeal := Cert.ReferenceMainIdeal.Gen.facts) := fun m ρ m' ρ' _ hm =>
  ⟨fun c => Cert.ReferenceMainIdeal.Read.val_main_v10 (F := Ideal) (argH m c) (argW m c),
    (θ_run _ _ _).mono (fun r h c => ⟨(h c).1.trans (final m c), (h c).2⟩) (Cert.KernelMainIdeal.Value.run_blocks (F := Ideal) m ρ),
    (θ_run _ _ _).mono (fun r h c => ⟨(h c).1.trans (by rw [Cert.ReferenceMainIdeal.Read.val_main_v10_eq, (hm c).1, (hm c).2]),
        (h c).2⟩)
      (Cert.ReferenceMainIdeal.Value.run (F := Ideal) m' ρ')⟩

end Cert.Main

end
-- ==== Proof.Small.Value.lean ====
/-
  The input projection's narrow part. `packed_apply`, `packed_zero`: which column of the weights a column of the kernel's
  weights is; `ref_col`, `ref_zero`: the same of the reference's result; `final`: the kernel's array is the reference's.
-/
module

public import proofs.«01_k».proof.Proof.Gen.KernelSmallIdeal.Value
public import proofs.«01_k».proof.Proof.Gen.ReferenceSmallIdeal.Read
public import proofs.«01_k».proof.Proof.Common
public import Idealize.ShloMosaic.Lib.MatmulPlain
public import Idealize.ShloMosaic.Lib.Pipeline.ValueKit

@[expose] public section

noncomputable section

open Idealize.ShloMosaic hiding ix1 ix2 ix3 ix4
open Idealize.ShloMosaic.TcCoe Idealize.ShloMosaic.ValueIdx Cert.Common

namespace Cert.Small

open Cert.KernelSmallIdeal Cert.KernelSmallIdeal.Gen

/-- The product of row `r` of `a` and column `j` of `w`. -/
def dotAt (a : Vec Ideal S1024x2048 .bf16) (w : Vec Ideal S2048x1280 .bf16) (r : Fin 1024) (j : Fin 1280) : EReal :=
  ∑ k : Fin 2048, (a (ix2 r k) : EReal) * (w (ix2 k j) : EReal)

/-- The block written holds these sums. -/
theorem pay_apply (a : Vec Ideal S1024x2048 .bf16) (w : Vec Ideal S2048x1280 .bf16) (r : Fin 1024) (j : Fin 1280) :
    k0_pay1 (F := Ideal) a w (ix2 r j) = dotAt a w r j := by
  unfold k0_pay1
  rw [shapeCast_self]
  refine (Ideal.matmul_plain_apply (M := 1024) (K := 2048) (N := 1280) none a w _ r j).trans ?_
  show Ideal.ofBits .f32 0x00000000#32 + _ = _
  rw [Ideal.ofBits_zero_f32, zero_add]
  rfl

/-- The block the body leaves is the payload of the whole input blocks. -/
theorem block_eq (a : Vec Ideal S1024x2048 .bf16) (w : Vec Ideal S2048x1280 .bf16) : out0_2 (F := Ideal) a w = k0_pay1 a w := by
  unfold out0_2
  rw [View.canon_unit_zero hz2, View.ld_unit_zero (S := S1024x2048) hz2, View.ld_unit_zero (S := S2048x1280) hz2]

/-- The weights' columns the kernel keeps, side by side, and 64 columns of zeros. -/
def packed (W : FVec Ideal S2048x15552 .f32) : FVec Ideal S2048x1280 .f32 :=
  concatenate S2048x1280 1 [⟨S2048x512, extractStridedSlice S2048x512 ![0, 10368] W slices_S2048x15552_S2048x512_0_10368⟩,
    ⟨S2048x512, extractStridedSlice S2048x512 ![0, 10880] W slices_S2048x15552_S2048x512_0_10880⟩,
    ⟨S2048x128, extractStridedSlice S2048x128 ![0, 10240] W slices_S2048x15552_S2048x128_0_10240⟩,
    ⟨S2048x64, extractStridedSlice S2048x64 ![0, 11392] W slices_S2048x15552_S2048x64_0_11392⟩,
    ⟨S2048x64, broadcastInDim S2048x64 ![] bcast_S_S2048x64 (constant (F := Ideal) S_ .f32 0x00000000#32)⟩]
    concatenates_S2048x512_S2048x512_S2048x128_S2048x64_S2048x64_S2048x1280_d1

/-- The column of the weights that column `j` of the result comes from, the last 64 apart. -/
def col (j : Fin 1280) (h : j.val < 1216) : Fin 15552 :=
  ⟨if j.val < 1024 then j.val + 10368 else if j.val < 1152 then j.val + 9216 else j.val + 10240, by split <;> [skip; split] <;> omega⟩

theorem packed_apply (W : FVec Ideal S2048x15552 .f32) (k : Fin 2048) (j : Fin 1280) (h : j.val < 1216) : packed W (ix2 k j) = W (ix2 k (col j h)) := by
  unfold packed
  have hc : (col j h).val = if j.val < 1024 then j.val + 10368 else if j.val < 1152 then j.val + 9216 else j.val + 10240 := rfl
  by_cases h0 : j.val < 512
  · refine (beside_apply _ _ 0 (by simp) _ rfl 0 rfl k j (⟨j.val - 0, by omega⟩ : Fin 512) (by show 0 + (j.val - 0) = _; omega)).trans ?_
    exact extractStridedSlice_apply ![0, 10368] W _ _ (ix2 k (col j h)) fun a => match a with
      | ⟨0, _⟩ => by show k.val = 0 + k.val; omega
      | ⟨1, _⟩ => by show (col j h).val = 10368 + (j.val - 0); rw [hc]; rw [if_pos (by omega)]; omega
  by_cases h1 : j.val < 1024
  · refine (beside_apply _ _ 1 (by simp) _ rfl 512 rfl k j (⟨j.val - 512, by omega⟩ : Fin 512) (by show 512 + (j.val - 512) = _; omega)).trans ?_
    exact extractStridedSlice_apply ![0, 10880] W _ _ (ix2 k (col j h)) fun a => match a with
      | ⟨0, _⟩ => by show k.val = 0 + k.val; omega
      | ⟨1, _⟩ => by show (col j h).val = 10880 + (j.val - 512); rw [hc]; rw [if_pos (by omega)]; omega
  by_cases h2 : j.val < 1152
  · refine (beside_apply _ _ 2 (by simp) _ rfl 1024 rfl k j (⟨j.val - 1024, by omega⟩ : Fin 128) (by show 1024 + (j.val - 1024) = _; omega)).trans ?_
    exact extractStridedSlice_apply ![0, 10240] W _ _ (ix2 k (col j h)) fun a => match a with
      | ⟨0, _⟩ => by show k.val = 0 + k.val; omega
      | ⟨1, _⟩ => by show (col j h).val = 10240 + (j.val - 1024); rw [hc]; rw [if_neg (by omega), if_pos h2]; omega
  · refine (beside_apply _ _ 3 (by simp) _ rfl 1152 rfl k j (⟨j.val - 1152, by omega⟩ : Fin 64) (by show 1152 + (j.val - 1152) = _; omega)).trans ?_
    exact extractStridedSlice_apply ![0, 11392] W _ _ (ix2 k (col j h)) fun a => match a with
      | ⟨0, _⟩ => by show k.val = 0 + k.val; omega
      | ⟨1, _⟩ => by show (col j h).val = 11392 + (j.val - 1152); rw [hc]; rw [if_neg (by omega), if_neg h2]; omega

theorem packed_zero (W : FVec Ideal S2048x15552 .f32) (k : Fin 2048) (j : Fin 1280) (h : ¬j.val < 1216) : (packed W (ix2 k j) : EReal) = 0 := by
  have hj := j.isLt
  unfold packed
  refine (beside_apply _ _ 4 (by simp) _ rfl 1216 rfl k j (⟨j.val - 1216, by omega⟩ : Fin 64) (by show 1216 + (j.val - 1216) = _; omega)).trans ?_
  exact Ideal.ofBits_zero_f32

variable (m : (ℓ : Loc nD τ sig) → Buf (Elt Ideal) ℓ) (c : Dev nD)

/-- The arguments: rows and the projection's weights. -/
abbrev argH : FVec Ideal S32768x2048 .bf16 := m ((c.tc : Thread nD τ).loc main_arg0)
abbrev argW : FVec Ideal S2048x15552 .f32 := m ((c.tc : Thread nD τ).loc main_arg1)

/-- The weights' array at the launch: the packed weights, rounded. -/
theorem V_w : (V m c main_v6 : FVec Ideal S2048x1280 .bf16) = truncf .bf16 (packed (argW m c)) bitsLt_bf16_f32 := by
  unfold packed
  unfold_abbrev_sides
  after_results <;> rfl

theorem index0 : ∀ t : Fin cfg0.N, win0_0.index t = ![t.val % 32, 0] := (by decide +kernel : ∀ t : Fin grid0.N, win0_0.index t = ![t.val % 32, 0])
theorem index1 : ∀ t : Fin cfg0.N, win0_1.index t = ![0, t.val / 32] := (by decide +kernel : ∀ t : Fin grid0.N, win0_1.index t = ![0, t.val / 32])
theorem index2 : ∀ t : Fin cfg0.N, win0_2.index t = ![t.val % 32, t.val / 32] :=
  (by decide +kernel : ∀ t : Fin grid0.N, win0_2.index t = ![t.val % 32, t.val / 32])

variable (t : Fin cfg0.N)
theorem lt_N : t.val < 32 := Nat.lt_of_lt_of_eq t.isLt (by decide)

/-- Row and column of a block's entry in the arrays. -/
def ptR (r : Fin 1024) : Fin 32768 := ⟨t.val % 32 * 1024 + r.val, by have := r.isLt; omega⟩
def ptC (j : Fin 1280) : Fin 1280 := ⟨t.val / 32 * 1280 + j.val, by have := j.isLt; have := lt_N t; omega⟩

theorem blockH (r : Fin 1024) (k : Fin 2048) : iblk m c 0 t (ix2 r k) = argH m c (ix2 (ptR t r) k) := by
  blk_simp [iblk]
  rw [V_main_arg0]
  refine congrArg (argH m c) (funext fun a => Fin.ext ?_)
  match a with
  | ⟨0, _⟩ => blk_simp [index0]; rfl
  | ⟨1, _⟩ => blk_simp [index0]
theorem blockW (k : Fin 2048) (j : Fin 1280) : iblk m c 1 t (ix2 k j) = packed (argW m c) (ix2 k (ptC t j)) := by
  blk_simp [iblk]
  refine (congrFun (V_w m c) _).trans ?_
  refine congrArg (packed (argW m c)) (funext fun a => Fin.ext ?_)
  match a with
  | ⟨0, _⟩ => blk_simp [index1]
  | ⟨1, _⟩ => blk_simp [index1]; rfl

open Cert.ReferenceSmallIdeal.Read in
/-- The reference's product at a row and column. -/
theorem prod_apply (H : FVec Ideal S32768x2048 .bf16) (W : FVec Ideal S2048x15552 .f32) (i : Fin 32768) (j : Fin 15552) :
    val_main_v1 (F := Ideal) H W (ix2 i j) = ∑ k : Fin 2048, (H (ix2 i k) : EReal) * (W (ix2 k j) : EReal) := by
  rw [val_main_v1_apply]
  exact Finset.sum_congr rfl fun k _ => by
    rw [show lidx_main_v1 (ix2 i j) k = ix2 i k from ValueIdx.eq_ix2 _, show ridx_main_v1 (ix2 i j) k = ix2 k j from ValueIdx.eq_ix2 _]; rfl

open Cert.ReferenceSmallIdeal.Read in
/-- The reference's entry: the product at the column it comes from. -/
theorem ref_col (H : FVec Ideal S32768x2048 .bf16) (W : FVec Ideal S2048x15552 .f32) (i : Fin 32768) (j : Fin 1280) (h : j.val < 1216) :
    val_main_v12 (F := Ideal) H W (ix2 i j) = val_main_v1 (F := Ideal) H W (ix2 i (col j h)) := by
  unfold val_main_v12
  have hc : (col j h).val = if j.val < 1024 then j.val + 10368 else if j.val < 1152 then j.val + 9216 else j.val + 10240 := rfl
  by_cases h0 : j.val < 512
  · refine (beside_apply _ _ 0 (by simp) _ rfl 0 rfl i j (⟨j.val - 0, by omega⟩ : Fin 512) (by show 0 + (j.val - 0) = _; omega)).trans ?_
    rw [val_main_v5_apply]
    refine congrArg _ ((ValueIdx.eq_ix2 _).trans (congrArg (ix2 i) (Fin.ext ?_)))
    rw [hc]; rw [if_pos (by omega)]; show 10368 + (j.val - 0) = _; omega
  by_cases h1 : j.val < 1024
  · refine (beside_apply _ _ 1 (by simp) _ rfl 512 rfl i j (⟨j.val - 512, by omega⟩ : Fin 512) (by show 512 + (j.val - 512) = _; omega)).trans ?_
    rw [val_main_v10_apply, val_main_v6_apply]
    refine congrArg _ ((ValueIdx.eq_ix2 _).trans (congrArg (ix2 i) (Fin.ext ?_)))
    rw [hc]; rw [if_pos (by omega)]; show 10880 + (j.val - 512) = _; omega
  by_cases h2 : j.val < 1152
  · refine (beside_apply _ _ 2 (by simp) _ rfl 1024 rfl i j (⟨j.val - 1024, by omega⟩ : Fin 128) (by show 1024 + (j.val - 1024) = _; omega)).trans ?_
    rw [val_main_v4_apply]
    refine congrArg _ ((ValueIdx.eq_ix2 _).trans (congrArg (ix2 i) (Fin.ext ?_)))
    rw [hc]; rw [if_neg (by omega), if_pos h2]; show 10240 + (j.val - 1024) = _; omega
  · refine (beside_apply _ _ 3 (by simp) _ rfl 1152 rfl i j (⟨j.val - 1152, by omega⟩ : Fin 64) (by show 1152 + (j.val - 1152) = _; omega)).trans ?_
    rw [val_main_v11_apply, val_main_v6_apply]
    refine congrArg _ ((ValueIdx.eq_ix2 _).trans (congrArg (ix2 i) (Fin.ext ?_)))
    rw [hc]; rw [if_neg (by omega), if_neg h2]; show 10880 + (512 + (j.val - 1152)) = _; omega

open Cert.ReferenceSmallIdeal.Read in
/-- The reference's last 64 columns are zeros. -/
theorem ref_zero (H : FVec Ideal S32768x2048 .bf16) (W : FVec Ideal S2048x15552 .f32) (i : Fin 32768) (j : Fin 1280) (h : ¬j.val < 1216) :
    (val_main_v12 (F := Ideal) H W (ix2 i j) : EReal) = 0 := by
  have hj := j.isLt
  unfold val_main_v12
  refine (beside_apply _ _ 4 (by simp) _ rfl 1216 rfl i j (⟨j.val - 1216, by omega⟩ : Fin 64) (by show 1216 + (j.val - 1216) = _; omega)).trans ?_
  exact Ideal.ofBits_zero_f32

/-- The reference's entry as a sum over the packed weights. -/
theorem ref_apply (H : FVec Ideal S32768x2048 .bf16) (W : FVec Ideal S2048x15552 .f32) (i : Fin 32768) (j : Fin 1280) :
    Cert.ReferenceSmallIdeal.Read.val_main_v12 (F := Ideal) H W (ix2 i j) = ∑ k : Fin 2048, (H (ix2 i k) : EReal) * (packed W (ix2 k j) : EReal) := by
  by_cases h : j.val < 1216
  · rw [ref_col H W i j h, prod_apply]
    exact Finset.sum_congr rfl fun k _ => by rw [packed_apply W k j h]
  · rw [ref_zero H W i j h]
    exact (Finset.sum_eq_zero fun k _ => by rw [packed_zero W k j h, mul_zero]).symm

/-- The array the kernel leaves is the reference's. -/
theorem final : (dats m 0 c).arrAt 2 cfg0.N = Cert.ReferenceSmallIdeal.Read.val_main_v12 (F := Ideal) (argH m c) (argW m c) := by
  refine (dats m 0 c).arrAt_eq_of_covers 2 _ (by decide +kernel) fun t _ y => ?_
  blk_simp
  rw [after0_2, block_eq]
  obtain ⟨r, j, rfl⟩ : ∃ (r : Fin 1024) (j : Fin 1280), y = ix2 r j := ⟨y 0, y 1, ValueIdx.eq_ix2 y⟩
  refine (pay_apply (iblk m c 0 t) (iblk m c 1 t) r j).trans ?_
  have e : dotAt (iblk m c 0 t) (iblk m c 1 t) r j
      = ∑ k : Fin 2048, (argH m c (ix2 (ptR t r) k) : EReal) * (packed (argW m c) (ix2 k (ptC t j)) : EReal) :=
    Finset.sum_congr rfl fun k _ => by rw [blockH, blockW]
  rw [e, ← ref_apply]
  refine congrArg _ (funext fun a => Fin.ext ?_)
  match a with
  | ⟨0, _⟩ => blk_simp [index2]; rfl
  | ⟨1, _⟩ => blk_simp [index2]; rfl

end Cert.Small

end
-- ==== Proof.Small.Claims.lean ====
/-
  The claims about the small input projection: the three runs leave their arguments and the counters as they were, and the kernel and the
  reference leave the same array.
-/
module

public import proofs.«01_k».proof.Defs
public import proofs.«01_k».proof.Proof.Gen.KernelSmall.Frame
public import proofs.«01_k».proof.Proof.Gen.ReferenceSmallIdeal.Run
public import proofs.«01_k».proof.Proof.Small.Value
public import Idealize.ShloMosaic.Lib.Quiescent

@[expose] public section

noncomputable section

open Idealize.ShloMosaic Idealize.SL.Sem

namespace Cert.Small

theorem frame_kernel : Cert.quiescent_KernelSmall (hKernelSmall := Cert.KernelSmall.Gen.facts) := fun m ρ _ => Cert.KernelSmall.Gen.frame m ρ
theorem frame_ideal : Cert.quiescent_KernelSmallIdeal (hKernelSmallIdeal := Cert.KernelSmallIdeal.Gen.facts) := fun m ρ _ => Cert.KernelSmallIdeal.Gen.frame m ρ
theorem frame_ref : Cert.quiescent_ReferenceSmallIdeal (hReferenceSmallIdeal := Cert.ReferenceSmallIdeal.Gen.facts) := fun m ρ _ =>
  (θ_run _ _ _).mono (fun r h => ⟨fun c => (h c).2, sem_eq_zero_of_no_sems (by decide) r.2⟩) (Cert.ReferenceSmallIdeal.Value.run (F := Ideal) m ρ)

/-- What the idealization names is what it says. -/
theorem preserves : Cert.preserves_KernelSmall_KernelSmallIdeal := trivial

/-- The kernel's result is the reference's. -/
theorem algebraic : Cert.algebraic_KernelSmallIdeal_ReferenceSmallIdeal (hKernelSmallIdeal := Cert.KernelSmallIdeal.Gen.facts)
    (hReferenceSmallIdeal := Cert.ReferenceSmallIdeal.Gen.facts) := fun m ρ m' ρ' _ hm =>
  ⟨fun c => Cert.ReferenceSmallIdeal.Read.val_main_v12 (F := Ideal) (argH m c) (argW m c),
    (θ_run _ _ _).mono (fun r h c => ⟨(h c).1.trans (final m c), (h c).2⟩) (Cert.KernelSmallIdeal.Value.run_blocks (F := Ideal) m ρ),
    (θ_run _ _ _).mono (fun r h c => ⟨(h c).1.trans (by rw [Cert.ReferenceSmallIdeal.Read.val_main_v12_eq, (hm c).1, (hm c).2]),
        (h c).2⟩)
      (Cert.ReferenceSmallIdeal.Value.run (F := Ideal) m' ρ')⟩

end Cert.Small

end
-- ==== Proof.Merge.Value.lean ====
/-
  The merge of the two branches. `pay_apply` reads the block written; `blockY` … `blockM` read the six input blocks in
  the argument arrays; `final`: the array the kernel leaves is the reference's.
-/
module

public import proofs.«01_k».proof.Proof.Gen.KernelMergeIdeal.Value
public import proofs.«01_k».proof.Proof.Gen.ReferenceMergeIdeal.Read
public import proofs.«01_k».proof.Proof.Common
public import Idealize.ShloMosaic.Lib.MatmulPlain
public import Idealize.ShloMosaic.Lib.Pipeline.ValueKit

@[expose] public section

noncomputable section

open Idealize.ShloMosaic hiding ix1 ix2 ix3 ix4
open Idealize.ShloMosaic.TcCoe Idealize.ShloMosaic.ValueIdx Cert.Common

namespace Cert.Merge

open Cert.KernelMergeIdeal Cert.KernelMergeIdeal.Gen

/-- The gated sum of the two products, at row `r` and column `j`. -/
def mixAt {R C : Nat} (y : Fin R → Fin 4096 → EReal) (ws : Fin 4096 → Fin C → EReal) (a : Fin R → Fin 2048 → EReal) (wm : Fin 2048 → Fin C → EReal)
    (gs gm : Fin R → Fin C → EReal) (r : Fin R) (j : Fin C) : EReal :=
  Ideal.logistic (gs r j) * (∑ k : Fin 4096, y r k * ws k j) + Ideal.logistic (gm r j) * ∑ k : Fin 2048, a r k * wm k j

theorem mm1_apply (a : Vec Ideal S512x4096 .bf16) (w : Vec Ideal S4096x512 .bf16) (r : Fin 512) (j : Fin 512) :
    matmul (F := Ideal) (φ₁ := .bf16) (φ₂ := .bf16) dot_S512x4096_S4096x512_S512x512_1_0_0_1_n_n none a
      (shapeCast S4096x512 w shapeCasts_S4096x512_S4096x512) (constant (F := Ideal) S512x512 .f32 0x00000000#32) (ix2 r j)
      = ∑ k : Fin 4096, (a (ix2 r k) : EReal) * (w (ix2 k j) : EReal) := by
  rw [shapeCast_self]
  refine (Ideal.matmul_plain_apply (M := 512) (K := 4096) (N := 512) none _ _ _ r j).trans ?_
  show Ideal.ofBits .f32 0x00000000#32 + _ = _
  rw [Ideal.ofBits_zero_f32, zero_add]
theorem mm2_apply (a : Vec Ideal S512x2048 .bf16) (w : Vec Ideal S2048x512 .bf16) (r : Fin 512) (j : Fin 512) :
    matmul (F := Ideal) (φ₁ := .bf16) (φ₂ := .bf16) dot_S512x2048_S2048x512_S512x512_1_0_0_1_n_n none a
      (shapeCast S2048x512 w shapeCasts_S2048x512_S2048x512) (constant (F := Ideal) S512x512 .f32 0x00000000#32) (ix2 r j)
      = ∑ k : Fin 2048, (a (ix2 r k) : EReal) * (w (ix2 k j) : EReal) := by
  rw [shapeCast_self]
  refine (Ideal.matmul_plain_apply (M := 512) (K := 2048) (N := 512) none _ _ _ r j).trans ?_
  show Ideal.ofBits .f32 0x00000000#32 + _ = _
  rw [Ideal.ofBits_zero_f32, zero_add]

/-- The block written. -/
theorem pay_apply (y : Vec Ideal S512x4096 .bf16) (ws : Vec Ideal S4096x512 .bf16) (a : Vec Ideal S512x2048 .bf16) (wm : Vec Ideal S2048x512 .bf16)
    (gs gm : Vec Ideal S512x512 .bf16) (r j : Fin 512) :
    k0_pay1 (F := Ideal) y ws a wm gs gm (ix2 r j)
      = mixAt (fun r k => y (ix2 r k)) (fun k j => ws (ix2 k j)) (fun r k => a (ix2 r k)) (fun k j => wm (ix2 k j)) (fun r j => gs (ix2 r j))
          (fun r j => gm (ix2 r j)) r j := by
  unfold k0_pay1 mixAt
  rw [← mm1_apply y ws r j, ← mm2_apply a wm r j]
  rfl

/-- The block the body leaves is the payload of the whole input blocks. -/
theorem block_eq (y : Vec Ideal S512x4096 .bf16) (ws : Vec Ideal S4096x512 .bf16) (a : Vec Ideal S512x2048 .bf16) (wm : Vec Ideal S2048x512 .bf16)
    (gs gm : Vec Ideal S512x512 .bf16) : out0_6 (F := Ideal) y ws a wm gs gm = k0_pay1 y ws a wm gs gm := by
  unfold out0_6
  rw [View.canon_unit_zero hz2, View.ld_unit_zero (S := S512x4096) hz2, View.ld_unit_zero (S := S4096x512) hz2, View.ld_unit_zero (S := S512x2048) hz2,
    View.ld_unit_zero (S := S2048x512) hz2, View.ld_unit_zero (S := S512x512) hz2, View.ld_unit_zero (S := S512x512) hz2]

variable (m : (ℓ : Loc nD τ sig) → Buf (Elt Ideal) ℓ) (c : Dev nD)

/-- The arguments: the scan's rows and weights, the attention's rows and weights, the array that holds the gates. -/
abbrev argY : FVec Ideal S32768x4096 .bf16 := m ((c.tc : Thread nD τ).loc main_arg0)
abbrev argS : FVec Ideal S4096x2048 .f32 := m ((c.tc : Thread nD τ).loc main_arg1)
abbrev argA : FVec Ideal S32768x2048 .bf16 := m ((c.tc : Thread nD τ).loc main_arg2)
abbrev argL : FVec Ideal S2048x2048 .f32 := m ((c.tc : Thread nD τ).loc main_arg3)
abbrev argM : FVec Ideal S32768x14336 .bf16 := m ((c.tc : Thread nD τ).loc main_arg4)

/-- The weights' arrays at the launch: the arguments, rounded. -/
theorem V_s : (V m c main_v0 : FVec Ideal S4096x2048 .bf16) = truncf .bf16 (argS m c) bitsLt_bf16_f32 := by
  unfold_abbrev_sides
  after_results
theorem V_l : (V m c main_v1 : FVec Ideal S2048x2048 .bf16) = truncf .bf16 (argL m c) bitsLt_bf16_f32 := by
  unfold_abbrev_sides
  after_results

theorem index0 : ∀ t : Fin cfg0.N, win0_0.index t = ![t.val % 64, 0] :=
  (by decide +kernel : ∀ t : Fin grid0.N, win0_0.index t = ![t.val % 64, 0])
theorem index1 : ∀ t : Fin cfg0.N, win0_1.index t = ![0, t.val / 64] :=
  (by decide +kernel : ∀ t : Fin grid0.N, win0_1.index t = ![0, t.val / 64])
theorem index2 : ∀ t : Fin cfg0.N, win0_2.index t = ![t.val % 64, 0] :=
  (by decide +kernel : ∀ t : Fin grid0.N, win0_2.index t = ![t.val % 64, 0])
theorem index3 : ∀ t : Fin cfg0.N, win0_3.index t = ![0, t.val / 64] :=
  (by decide +kernel : ∀ t : Fin grid0.N, win0_3.index t = ![0, t.val / 64])
theorem index4 : ∀ t : Fin cfg0.N, win0_4.index t = ![t.val % 64, 20 + t.val / 64] :=
  (by decide +kernel : ∀ t : Fin grid0.N, win0_4.index t = ![t.val % 64, 20 + t.val / 64])
theorem index5 : ∀ t : Fin cfg0.N, win0_5.index t = ![t.val % 64, 24 + t.val / 64] :=
  (by decide +kernel : ∀ t : Fin grid0.N, win0_5.index t = ![t.val % 64, 24 + t.val / 64])
theorem index6 : ∀ t : Fin cfg0.N, win0_6.index t = ![t.val % 64, t.val / 64] :=
  (by decide +kernel : ∀ t : Fin grid0.N, win0_6.index t = ![t.val % 64, t.val / 64])

variable (t : Fin cfg0.N)
theorem lt_N : t.val < 256 := Nat.lt_of_lt_of_eq t.isLt (by decide)

/-- Row and column of a block's entry in the arrays; the columns of the two gates. -/
def ptR (r : Fin 512) : Fin 32768 := ⟨t.val % 64 * 512 + r.val, by have := r.isLt; omega⟩
def ptC (j : Fin 512) : Fin 2048 := ⟨t.val / 64 * 512 + j.val, by have := j.isLt; have := lt_N t; omega⟩
def colS (j : Fin 2048) : Fin 14336 := ⟨10240 + j.val, by have := j.isLt; omega⟩
def colL (j : Fin 2048) : Fin 14336 := ⟨12288 + j.val, by have := j.isLt; omega⟩

theorem blockY (r : Fin 512) (k : Fin 4096) : iblk m c 0 t (ix2 r k) = argY m c (ix2 (ptR t r) k) := by
  blk_simp [iblk]
  rw [V_main_arg0]
  refine congrArg (argY m c) (funext fun a => Fin.ext ?_)
  match a with
  | ⟨0, _⟩ => blk_simp [index0]; rfl
  | ⟨1, _⟩ => blk_simp [index0]
theorem blockS (k : Fin 4096) (j : Fin 512) : iblk m c 1 t (ix2 k j) = argS m c (ix2 k (ptC t j)) := by
  blk_simp [iblk]
  refine (congrFun (V_s m c) _).trans ?_
  refine congrArg (argS m c) (funext fun a => Fin.ext ?_)
  match a with
  | ⟨0, _⟩ => blk_simp [index1]
  | ⟨1, _⟩ => blk_simp [index1]; rfl
theorem blockA (r : Fin 512) (k : Fin 2048) : iblk m c 2 t (ix2 r k) = argA m c (ix2 (ptR t r) k) := by
  blk_simp [iblk]
  rw [V_main_arg2]
  refine congrArg (argA m c) (funext fun a => Fin.ext ?_)
  match a with
  | ⟨0, _⟩ => blk_simp [index2]; rfl
  | ⟨1, _⟩ => blk_simp [index2]
theorem blockL (k : Fin 2048) (j : Fin 512) : iblk m c 3 t (ix2 k j) = argL m c (ix2 k (ptC t j)) := by
  blk_simp [iblk]
  refine (congrFun (V_l m c) _).trans ?_
  refine congrArg (argL m c) (funext fun a => Fin.ext ?_)
  match a with
  | ⟨0, _⟩ => blk_simp [index3]
  | ⟨1, _⟩ => blk_simp [index3]; rfl
theorem blockGs (r j : Fin 512) : iblk m c 4 t (ix2 r j) = argM m c (ix2 (ptR t r) (colS (ptC t j))) := by
  blk_simp [iblk]
  rw [V_main_arg4]
  refine congrArg (argM m c) (funext fun a => Fin.ext ?_)
  match a with
  | ⟨0, _⟩ => blk_simp [index4]; rfl
  | ⟨1, _⟩ => blk_simp [index4]; show (20 + t.val / 64) * 512 + j.val = 10240 + (t.val / 64 * 512 + j.val); omega
theorem blockGm (r j : Fin 512) : iblk m c 5 t (ix2 r j) = argM m c (ix2 (ptR t r) (colL (ptC t j))) := by
  blk_simp [iblk]
  rw [V_main_arg4]
  refine congrArg (argM m c) (funext fun a => Fin.ext ?_)
  match a with
  | ⟨0, _⟩ => blk_simp [index5]; rfl
  | ⟨1, _⟩ => blk_simp [index5]; show (24 + t.val / 64) * 512 + j.val = 12288 + (t.val / 64 * 512 + j.val); omega

open Cert.ReferenceMergeIdeal.Read in
/-- The reference's entry at a row and column. -/
theorem ref_apply (Y : FVec Ideal S32768x4096 .bf16) (S : FVec Ideal S4096x2048 .f32) (A : FVec Ideal S32768x2048 .bf16) (L : FVec Ideal S2048x2048 .f32)
    (G : FVec Ideal S32768x14336 .bf16) (i : Fin 32768) (j : Fin 2048) :
    val_main_v23 (F := Ideal) Y S A L G (ix2 i j)
      = mixAt (fun r k => Y (ix2 r k)) (fun k j => S (ix2 k j)) (fun r k => A (ix2 r k)) (fun k j => L (ix2 k j)) (fun r j => G (ix2 r (colS j)))
          (fun r j => G (ix2 r (colL j))) i j := by
  have e5 : val_main_v5 (F := Ideal) Y S (ix2 i j) = ∑ k : Fin 4096, (Y (ix2 i k) : EReal) * (S (ix2 k j) : EReal) := by
    rw [val_main_v5_apply]; exact Finset.sum_congr rfl fun k _ => by
      rw [show lidx_main_v5 (ix2 i j) k = ix2 i k from ValueIdx.eq_ix2 _, show ridx_main_v5 (ix2 i j) k = ix2 k j from ValueIdx.eq_ix2 _]; rfl
  have e7 : val_main_v7 (F := Ideal) A L (ix2 i j) = ∑ k : Fin 2048, (A (ix2 i k) : EReal) * (L (ix2 k j) : EReal) := by
    rw [val_main_v7_apply]; exact Finset.sum_congr rfl fun k _ => by
      rw [show lidx_main_v7 (ix2 i j) k = ix2 i k from ValueIdx.eq_ix2 _, show ridx_main_v7 (ix2 i j) k = ix2 k j from ValueIdx.eq_ix2 _]; rfl
  have e1 : val_main_v1 (F := Ideal) G (ix2 i j) = (G (ix2 i (colS j)) : EReal) := by
    rw [val_main_v1_apply, val_main_v0_apply, show idx_main_v0 (ix2 i j) = ix2 i (colS j) from ValueIdx.eq_ix2 _]; rfl
  have e3 : val_main_v3 (F := Ideal) G (ix2 i j) = (G (ix2 i (colL j)) : EReal) := by
    rw [val_main_v3_apply, val_main_v2_apply, show idx_main_v2 (ix2 i j) = ix2 i (colL j) from ValueIdx.eq_ix2 _]; rfl
  unfold mixAt
  dsimp only
  rw [← e5, ← e7, ← e1, ← e3, ← logistic_host, ← logistic_host]
  rfl

/-- The array the kernel leaves is the reference's. -/
theorem final : (dats m 0 c).arrAt 6 cfg0.N
    = Cert.ReferenceMergeIdeal.Read.val_main_v23 (F := Ideal) (argY m c) (argS m c) (argA m c) (argL m c) (argM m c) := by
  refine (dats m 0 c).arrAt_eq_of_covers 6 _ (by decide +kernel) fun t _ y => ?_
  blk_simp
  rw [after0_6, block_eq]
  obtain ⟨r, j, rfl⟩ : ∃ (r j : Fin 512), y = ix2 r j := ⟨y 0, y 1, ValueIdx.eq_ix2 y⟩
  refine (pay_apply (iblk m c 0 t) (iblk m c 1 t) (iblk m c 2 t) (iblk m c 3 t) (iblk m c 4 t) (iblk m c 5 t) r j).trans ?_
  refine Eq.trans ?_ (Eq.trans (ref_apply (argY m c) (argS m c) (argA m c) (argL m c) (argM m c) (ptR t r) (ptC t j)).symm ?_)
  · unfold mixAt
    simp only [blockY, blockS, blockA, blockL, blockGs, blockGm]
  · refine congrArg _ (funext fun a => Fin.ext ?_)
    match a with
    | ⟨0, _⟩ => blk_simp [index6]; rfl
    | ⟨1, _⟩ => blk_simp [index6]; rfl

end Cert.Merge

end
-- ==== Proof.Merge.Claims.lean ====
/-
  The claims about the merge of the two branches: the three runs leave their arguments and the counters as they were, and the kernel and the
  reference leave the same array.
-/
module

public import proofs.«01_k».proof.Defs
public import proofs.«01_k».proof.Proof.Gen.KernelMerge.Frame
public import proofs.«01_k».proof.Proof.Gen.ReferenceMergeIdeal.Run
public import proofs.«01_k».proof.Proof.Merge.Value
public import Idealize.ShloMosaic.Lib.Quiescent

@[expose] public section

noncomputable section

open Idealize.ShloMosaic Idealize.SL.Sem

namespace Cert.Merge

theorem frame_kernel : Cert.quiescent_KernelMerge (hKernelMerge := Cert.KernelMerge.Gen.facts) := fun m ρ _ => Cert.KernelMerge.Gen.frame m ρ
theorem frame_ideal : Cert.quiescent_KernelMergeIdeal (hKernelMergeIdeal := Cert.KernelMergeIdeal.Gen.facts) := fun m ρ _ => Cert.KernelMergeIdeal.Gen.frame m ρ
theorem frame_ref : Cert.quiescent_ReferenceMergeIdeal (hReferenceMergeIdeal := Cert.ReferenceMergeIdeal.Gen.facts) := fun m ρ _ =>
  (θ_run _ _ _).mono (fun r h => ⟨fun c => (h c).2, sem_eq_zero_of_no_sems (by decide) r.2⟩) (Cert.ReferenceMergeIdeal.Value.run (F := Ideal) m ρ)

/-- What the idealization names is what it says. -/
theorem preserves : Cert.preserves_KernelMerge_KernelMergeIdeal := trivial

/-- The kernel's result is the reference's. -/
theorem algebraic : Cert.algebraic_KernelMergeIdeal_ReferenceMergeIdeal (hKernelMergeIdeal := Cert.KernelMergeIdeal.Gen.facts)
    (hReferenceMergeIdeal := Cert.ReferenceMergeIdeal.Gen.facts) := fun m ρ m' ρ' _ hm =>
  ⟨fun c => Cert.ReferenceMergeIdeal.Read.val_main_v23 (F := Ideal) (argY m c) (argS m c) (argA m c) (argL m c) (argM m c),
    (θ_run _ _ _).mono (fun r h c => ⟨(h c).1.trans (final m c), (h c).2⟩) (Cert.KernelMergeIdeal.Value.run_blocks (F := Ideal) m ρ),
    (θ_run _ _ _).mono (fun r h c => ⟨(h c).1.trans (by rw [Cert.ReferenceMergeIdeal.Read.val_main_v23_eq, (hm c).1, (hm c).2.1, (hm c).2.2.1, (hm c).2.2.2.1, (hm c).2.2.2.2]),
        (h c).2⟩)
      (Cert.ReferenceMergeIdeal.Value.run (F := Ideal) m' ρ')⟩

end Cert.Merge

end
-- ==== Proof.Out.Value.lean ====
/-
  The mixer's output projection with the residual and the layer norm. `pay_apply` reads the block written; `block…` read
  the input blocks in the argument arrays; `final4`, `final5`: the two arrays the kernel leaves are the reference's.
-/
module

public import proofs.«01_k».proof.Proof.Gen.KernelOutIdeal.Value
public import proofs.«01_k».proof.Proof.Gen.ReferenceOutIdeal.Read
public import proofs.«01_k».proof.Proof.LayerNorm
public import Idealize.ShloMosaic.Lib.MatmulPlain
public import Idealize.ShloMosaic.Lib.Pipeline.ValueKit

@[expose] public section

noncomputable section

open Idealize.ShloMosaic hiding ix1 ix2 ix3 ix4
open Idealize.ShloMosaic.TcCoe Idealize.ShloMosaic.ValueIdx Cert.Common

namespace Cert.Out

open Cert.KernelOutIdeal Cert.KernelOutIdeal.Gen

/-- The factor the kernel names. -/
theorem alpha_named : (Named.named (F := Ideal) (φ := .f32) κ "alpha" 0x3FD744FD#32 : EReal) = alpha := IdealRules.named_const.ideal_named_scalar _ _ _ _ rfl

/-- The kernel's product holds the sums of products. -/
theorem mm_apply (a : Vec Ideal S256x2048 .bf16) (w : Vec Ideal S2048x2048 .bf16) (r : Fin 256) (j : Fin 2048) :
    matmul (F := Ideal) (φ₁ := .bf16) (φ₂ := .bf16) dot_S256x2048_S2048x2048_S256x2048_1_0_0_1_n_n none a
      (shapeCast S2048x2048 w shapeCasts_S2048x2048_S2048x2048) (constant (F := Ideal) S256x2048 .f32 0x00000000#32) (ix2 r j)
      = ∑ k : Fin 2048, (a (ix2 r k) : EReal) * (w (ix2 k j) : EReal) := by
  rw [shapeCast_self]
  refine (Ideal.matmul_plain_apply (M := 256) (K := 2048) (N := 2048) none _ _ _ r j).trans ?_
  show Ideal.ofBits .f32 0x00000000#32 + _ = _
  rw [Ideal.ofBits_zero_f32, zero_add]

/-- The block before the layer norm. -/
def pre (h : Vec Ideal S256x2048 .f32) (a : Vec Ideal S256x2048 .bf16) (w : Vec Ideal S2048x2048 .bf16) : FVec Ideal S256x2048 .f32 :=
  addf (mulf (broadcast S256x2048 (Named.named (F := Ideal) (φ := .f32) κ "alpha" 0x3FD744FD#32)) h)
    (matmul (F := Ideal) (φ₁ := .bf16) (φ₂ := .bf16) dot_S256x2048_S2048x2048_S256x2048_1_0_0_1_n_n none a
      (shapeCast S2048x2048 w shapeCasts_S2048x2048_S2048x2048) (constant (F := Ideal) S256x2048 .f32 0x00000000#32))

theorem pre_apply (h : Vec Ideal S256x2048 .f32) (a : Vec Ideal S256x2048 .bf16) (w : Vec Ideal S2048x2048 .bf16) (r : Fin 256) (j : Fin 2048) :
    pre h a w (ix2 r j) = alpha * (h (ix2 r j) : EReal) + ∑ k : Fin 2048, (a (ix2 r k) : EReal) * (w (ix2 k j) : EReal) := by
  rw [← mm_apply, ← alpha_named]
  rfl

/-- The block written: the layer norm of its rows. -/
theorem pay_apply (h : Vec Ideal S256x2048 .f32) (a : Vec Ideal S256x2048 .bf16) (w : Vec Ideal S2048x2048 .bf16) (g b : Vec Ideal S1x2048 .f32)
    (r : Fin 256) (j : Fin 2048) :
    k0_pay1 (F := Ideal) h a w g b (ix2 r j)
      = lnRow (fun j => alpha * (h (ix2 r j) : EReal) + ∑ k : Fin 2048, (a (ix2 r k) : EReal) * (w (ix2 k j) : EReal))
          (fun k => g (ix2 (0 : Fin 1) k)) (fun k => b (ix2 (0 : Fin 1) k)) j := by
  have e : k0_pay1 (F := Ideal) h a w g b = lnBlock reduces_S256x2048_S256 shapeCasts_S256_S256x1 broadcasts_S256x1_S256x2048
      broadcasts_S1x2048_S256x2048 (pre h a w) g b := by
    unfold k0_pay1 lnBlock centred meanCol pre
    rw [shapeCast_self g, shapeCast_self b]
  rw [e, lnBlock_apply]
  exact congrArg (fun f => lnRow f _ _ j) (funext fun k => pre_apply h a w r k)

/-- The two parameter rows over six rows of zeros. -/
def packed (g b : FVec Ideal S2048 .f32) : FVec Ideal S8x2048 .f32 :=
  concatenate S8x2048 0 [⟨S2x2048, concatenate S2x2048 0 [⟨S1x2048, broadcastInDim S1x2048 ![1] bcast_S2048_S1x2048_1 g⟩,
      ⟨S1x2048, broadcastInDim S1x2048 ![1] bcast_S2048_S1x2048_1 b⟩] concatenates_S1x2048_S1x2048_S2x2048_d0⟩,
    ⟨S6x2048, broadcastInDim S6x2048 ![] bcast_S_S6x2048 (constant (F := Ideal) S_ .f32 0x00000000#32)⟩] concatenates_S2x2048_S6x2048_S8x2048_d0

theorem packed_g (g b : FVec Ideal S2048 .f32) (j : Fin 2048) : packed g b (ix2 (0 : Fin 8) j) = g (ix1 j) := by
  unfold packed
  refine (stacked_apply _ _ 0 (by simp) _ rfl 0 rfl (0 : Fin 8) j (0 : Fin 2) rfl).trans ?_
  refine (stacked_apply _ _ 0 (by simp) _ rfl 0 rfl (0 : Fin 2) j (0 : Fin 1) rfl).trans ?_
  exact broadcastInDim_apply _ _ g _ (ix1 j) (fun a => match a with | ⟨0, _⟩ => rfl)
theorem packed_b (g b : FVec Ideal S2048 .f32) (j : Fin 2048) : packed g b (ix2 (1 : Fin 8) j) = b (ix1 j) := by
  unfold packed
  refine (stacked_apply _ _ 0 (by simp) _ rfl 0 rfl (1 : Fin 8) j (1 : Fin 2) rfl).trans ?_
  refine (stacked_apply _ _ 1 (by simp) _ rfl 1 rfl (1 : Fin 2) j (0 : Fin 1) rfl).trans ?_
  exact broadcastInDim_apply _ _ b _ (ix1 j) (fun a => match a with | ⟨0, _⟩ => rfl)

/-- The rows the body loads of the parameters' block. -/
theorem row0 (p : Vec Ideal S8x2048 .f32) (j : Fin 2048) : View.ld p r0_2 (ix2 (0 : Fin 1) j) = p (ix2 (0 : Fin 8) j) :=
  View.ld_unit_apply_of p _ _ _ _ _ fun a => match a with
    | ⟨0, _⟩ => rfl
    | ⟨1, _⟩ => by show j.val = 0 + j.val; omega
theorem row1 (p : Vec Ideal S8x2048 .f32) (j : Fin 2048) : View.ld p r0_3 (ix2 (0 : Fin 1) j) = p (ix2 (1 : Fin 8) j) :=
  View.ld_unit_apply_of p _ _ _ _ _ fun a => match a with
    | ⟨0, _⟩ => rfl
    | ⟨1, _⟩ => by show j.val = 0 + j.val; omega

/-- The blocks the body leaves are payloads of the input blocks. -/
theorem block4 (a : Vec Ideal S256x2048 .bf16) (w : Vec Ideal S2048x2048 .bf16) (h : Vec Ideal S256x2048 .f32) (p : Vec Ideal S8x2048 .f32) :
    out0_4 (F := Ideal) a w h p = k0_pay1 h a w (View.ld p r0_2) (View.ld p r0_3) := by
  unfold out0_4
  rw [View.canon_unit_zero hz2, View.ld_unit_zero (S := S256x2048) hz2, View.ld_unit_zero (S := S256x2048) hz2, View.ld_unit_zero (S := S2048x2048) hz2]
theorem block5 (a : Vec Ideal S256x2048 .bf16) (w : Vec Ideal S2048x2048 .bf16) (h : Vec Ideal S256x2048 .f32) (p : Vec Ideal S8x2048 .f32) :
    out0_5 (F := Ideal) a w h p = k0_pay2 h a w (View.ld p r0_2) (View.ld p r0_3) := by
  unfold out0_5
  rw [View.canon_unit_zero hz2, View.ld_unit_zero (S := S256x2048) hz2, View.ld_unit_zero (S := S256x2048) hz2, View.ld_unit_zero (S := S2048x2048) hz2]

section Reference

open Cert.ReferenceOutIdeal.Read

variable (A : FVec Ideal S32768x2048 .bf16) (W : FVec Ideal S2048x2048 .f32) (H : FVec Ideal S32768x2048 .f32) (g b : FVec Ideal S2048 .f32)

/-- The row that is normalized: the scaled residual plus the product. -/
def sumAt (i : Fin 32768) (j : Fin 2048) : EReal :=
  alpha * (H (ix2 i j) : EReal) + ∑ k : Fin 2048, (A (ix2 i k) : EReal) * (W (ix2 k j) : EReal)

theorem ref_sum (i : Fin 32768) (j : Fin 2048) : val_main_v6 (F := Ideal) A W H (ix2 i j) = sumAt A W H i j := by
  have e5 : val_main_v5 (F := Ideal) A W (ix2 i j) = ∑ k : Fin 2048, (A (ix2 i k) : EReal) * (W (ix2 k j) : EReal) := by
    rw [val_main_v5_apply]; exact Finset.sum_congr rfl fun k _ => by
      rw [show lidx_main_v5 (ix2 i j) k = ix2 i k from ValueIdx.eq_ix2 _, show ridx_main_v5 (ix2 i j) k = ix2 k j from ValueIdx.eq_ix2 _]; rfl
  have e2 : (val_main_v2 (F := Ideal) (ix2 i j) : EReal) = alpha := by
    rw [val_main_v2_apply]
    exact alpha_host
  unfold sumAt
  rw [← e5, ← e2]
  rfl

theorem ref_mean (i : Fin 32768) : val_main_v10 (F := Ideal) A W H (ix2 i (0 : Fin 1)) = mean (sumAt A W H i) := by
  have e : val_main_v8 (F := Ideal) A W H (ix2 i (0 : Fin 1)) = ∑ k : Fin 2048, sumAt A W H i k := by
    rw [val_main_v8_apply, val_main_v7_apply]
    refine Eq.trans (congrArg (· + _) Ideal.ofBits_zero_f32) ((zero_add _).trans (Finset.sum_congr rfl fun k _ => ?_))
    rw [← ref_sum]
    exact congrArg _ (ValueIdx.eq_ix2 _)
  unfold mean
  rw [← e]
  rfl

theorem ref_centred (i : Fin 32768) (j : Fin 2048) : val_main_v12 (F := Ideal) A W H (ix2 i j) = sumAt A W H i j - mean (sumAt A W H i) := by
  have e11 : val_main_v11 (F := Ideal) A W H (ix2 i j) = mean (sumAt A W H i) := by
    rw [val_main_v11_apply, ← ref_mean]
    exact congrArg (val_main_v10 (F := Ideal) A W H) (ValueIdx.eq_ix2 _)
  rw [← ref_sum, ← e11]
  rfl

theorem ref_var (i : Fin 32768) : val_main_v17 (F := Ideal) A W H (ix2 i (0 : Fin 1))
    = mean (fun k => (sumAt A W H i k - mean (sumAt A W H i)) * (sumAt A W H i k - mean (sumAt A W H i))) := by
  have e : val_main_v15 (F := Ideal) A W H (ix2 i (0 : Fin 1))
      = ∑ k : Fin 2048, (sumAt A W H i k - mean (sumAt A W H i)) * (sumAt A W H i k - mean (sumAt A W H i)) := by
    rw [val_main_v15_apply, val_main_v14_apply]
    refine Eq.trans (congrArg (· + _) Ideal.ofBits_zero_f32) ((zero_add _).trans (Finset.sum_congr rfl fun k _ => ?_))
    rw [← ref_centred]
    exact (congrArg (val_main_v13 (F := Ideal) A W H) (ValueIdx.eq_ix2 _)).trans rfl
  refine Eq.trans ?_ (congrArg (fun y => Ideal.div y width) e)
  rfl

/-- The reference's entry: the layer norm of its row. -/
theorem ref_apply (i : Fin 32768) (j : Fin 2048) :
    val_main_v30 (F := Ideal) A W H g b (ix2 i j) = lnRow (sumAt A W H i) (fun k => g (ix1 k)) (fun k => b (ix1 k)) j := by
  have e23 : val_main_v23 (F := Ideal) A W H (ix2 i j)
      = Ideal.rsqrt (mean (fun k => (sumAt A W H i k - mean (sumAt A W H i)) * (sumAt A W H i k - mean (sumAt A W H i))) + eps) := by
    rw [val_main_v23_apply, ← ref_var]
    exact (congrArg (val_main_v22 (F := Ideal) A W H) (ValueIdx.eq_ix2 _)).trans rfl
  have e19 : val_main_v19 (F := Ideal) A W H (ix2 i j) = sumAt A W H i j - mean (sumAt A W H i) := (ref_centred A W H i j)
  have e26 : val_main_v26 (F := Ideal) g (ix2 i j) = g (ix1 j) := by
    rw [val_main_v26_apply, val_main_v25_apply]; exact congrArg g (ValueIdx.eq_ix1 _)
  have e29 : val_main_v29 (F := Ideal) b (ix2 i j) = b (ix1 j) := by
    rw [val_main_v29_apply, val_main_v28_apply]; exact congrArg b (ValueIdx.eq_ix1 _)
  unfold lnRow
  dsimp only
  rw [← e26, ← e29, ← e23, ← e19]
  rfl

end Reference

variable (m : (ℓ : Loc nD τ sig) → Buf (Elt Ideal) ℓ) (c : Dev nD)

/-- The arguments: rows, weights, the residual, and the layer norm's two rows. -/
abbrev argA : FVec Ideal S32768x2048 .bf16 := m ((c.tc : Thread nD τ).loc main_arg0)
abbrev argW : FVec Ideal S2048x2048 .f32 := m ((c.tc : Thread nD τ).loc main_arg1)
abbrev argH : FVec Ideal S32768x2048 .f32 := m ((c.tc : Thread nD τ).loc main_arg2)
abbrev argG : FVec Ideal S2048 .f32 := m ((c.tc : Thread nD τ).loc main_arg3)
abbrev argB : FVec Ideal S2048 .f32 := m ((c.tc : Thread nD τ).loc main_arg4)

/-- The weights' and the parameters' arrays at the launch. -/
theorem V_w : (V m c main_v0 : FVec Ideal S2048x2048 .bf16) = truncf .bf16 (argW m c) bitsLt_bf16_f32 := by
  unfold_abbrev_sides
  after_results
theorem V_p : (V m c main_v5 : FVec Ideal S8x2048 .f32) = packed (argG m c) (argB m c) := by
  unfold packed
  unfold_abbrev_sides
  after_results

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])

variable (t : Fin cfg0.N)
theorem lt_N : t.val < 128 := Nat.lt_of_lt_of_eq t.isLt (by decide)

/-- Row of a block's entry in the arrays. -/
def ptR (r : Fin 256) : Fin 32768 := ⟨t.val * 256 + r.val, by have := r.isLt; have := lt_N t; omega⟩

theorem blockA (r : Fin 256) (k : Fin 2048) : iblk m c 0 t (ix2 r k) = argA m c (ix2 (ptR t r) k) := by
  blk_simp [iblk]
  rw [V_main_arg0]
  refine congrArg (argA m c) (funext fun a => Fin.ext ?_)
  match a with
  | ⟨0, _⟩ => blk_simp [index0]; rfl
  | ⟨1, _⟩ => blk_simp [index0]
theorem blockW (k : Fin 2048) (j : Fin 2048) : iblk m c 1 t (ix2 k j) = argW m c (ix2 k j) := by
  blk_simp [iblk]
  refine (congrFun (V_w m c) _).trans ?_
  refine congrArg (argW m c) (funext fun a => Fin.ext ?_)
  match a with
  | ⟨0, _⟩ => blk_simp [index1]
  | ⟨1, _⟩ => blk_simp [index1]
theorem blockH (r : Fin 256) (k : Fin 2048) : iblk m c 2 t (ix2 r k) = argH m c (ix2 (ptR t r) k) := by
  blk_simp [iblk]
  rw [V_main_arg2]
  refine congrArg (argH m c) (funext fun a => Fin.ext ?_)
  match a with
  | ⟨0, _⟩ => blk_simp [index2]; rfl
  | ⟨1, _⟩ => blk_simp [index2]
theorem blockP (r : Fin 8) (k : Fin 2048) : iblk m c 3 t (ix2 r k) = packed (argG m c) (argB m c) (ix2 r k) := by
  blk_simp [iblk]
  refine (congrFun (V_p m c) _).trans ?_
  refine congrArg (packed (argG m c) (argB m c)) (funext fun a => Fin.ext ?_)
  match a with
  | ⟨0, _⟩ => blk_simp [index3]
  | ⟨1, _⟩ => blk_simp [index3]

/-- The entry a point writes is the reference's. -/
theorem point_eq (r : Fin 256) (j : Fin 2048) :
    k0_pay1 (F := Ideal) (iblk m c 2 t) (iblk m c 0 t) (iblk m c 1 t) (View.ld (iblk m c 3 t) r0_2) (View.ld (iblk m c 3 t) r0_3) (ix2 r j)
      = Cert.ReferenceOutIdeal.Read.val_main_v30 (F := Ideal) (argA m c) (argW m c) (argH m c) (argG m c) (argB m c) (ix2 (ptR t r) j) := by
  rw [ref_apply]
  refine (pay_apply (iblk m c 2 t) (iblk m c 0 t) (iblk m c 1 t) _ _ r j).trans ?_
  have eg : (fun k => View.ld (iblk m c 3 t : Vec Ideal S8x2048 .f32) r0_2 (ix2 (0 : Fin 1) k)) = fun k => argG m c (ix1 k) := funext fun k =>
    (row0 _ k).trans ((blockP m c t 0 k).trans (packed_g _ _ k))
  have eb : (fun k => View.ld (iblk m c 3 t : Vec Ideal S8x2048 .f32) r0_3 (ix2 (0 : Fin 1) k)) = fun k => argB m c (ix1 k) := funext fun k =>
    (row1 _ k).trans ((blockP m c t 1 k).trans (packed_b _ _ k))
  rw [eg, eb]
  refine congrArg (fun f => lnRow f _ _ j) (funext fun k => ?_)
  unfold sumAt
  simp only [blockA, blockW, blockH]

/-- The two arrays the kernel leaves are the reference's. -/
theorem final4 : (dats m 0 c).arrAt 4 cfg0.N
    = Cert.ReferenceOutIdeal.Read.val_main_v30 (F := Ideal) (argA m c) (argW m c) (argH m c) (argG m c) (argB m c) := by
  refine (dats m 0 c).arrAt_eq_of_covers 4 _ (by decide +kernel) fun t _ y => ?_
  blk_simp
  rw [after0_4, block4]
  obtain ⟨r, j, rfl⟩ : ∃ (r : Fin 256) (j : Fin 2048), y = ix2 r j := ⟨y 0, y 1, ValueIdx.eq_ix2 y⟩
  refine (point_eq m c t r j).trans (congrArg _ (funext fun a => Fin.ext ?_))
  match a with
  | ⟨0, _⟩ => blk_simp [index4]; rfl
  | ⟨1, _⟩ => blk_simp [index4]
theorem final5 : (dats m 0 c).arrAt 5 cfg0.N
    = Cert.ReferenceOutIdeal.Read.val_main_v31 (F := Ideal) (argA m c) (argW m c) (argH m c) (argG m c) (argB m c) := by
  refine (dats m 0 c).arrAt_eq_of_covers 5 _ (by decide +kernel) fun t _ y => ?_
  blk_simp
  rw [after0_5, block5]
  obtain ⟨r, j, rfl⟩ : ∃ (r : Fin 256) (j : Fin 2048), y = ix2 r j := ⟨y 0, y 1, ValueIdx.eq_ix2 y⟩
  refine (point_eq m c t r j).trans (congrArg (Cert.ReferenceOutIdeal.Read.val_main_v30 (F := Ideal) (argA m c) (argW m c) (argH m c) (argG m c) (argB m c))
    (funext fun a => Fin.ext ?_))
  match a with
  | ⟨0, _⟩ => blk_simp [index5]; rfl
  | ⟨1, _⟩ => blk_simp [index5]

end Cert.Out

end
-- ==== Proof.Out.Claims.lean ====
/-
  The claims about the mixer's output projection: the three runs leave their arguments and the counters as they were, and the kernel and the
  reference leave the same arrays.
-/
module

public import proofs.«01_k».proof.Defs
public import proofs.«01_k».proof.Proof.Gen.KernelOut.Frame
public import proofs.«01_k».proof.Proof.Gen.ReferenceOutIdeal.Run
public import proofs.«01_k».proof.Proof.Out.Value
public import Idealize.ShloMosaic.Lib.Quiescent

@[expose] public section

noncomputable section

open Idealize.ShloMosaic Idealize.SL.Sem

namespace Cert.Out

theorem frame_kernel : Cert.quiescent_KernelOut (hKernelOut := Cert.KernelOut.Gen.facts) := fun m ρ _ => Cert.KernelOut.Gen.frame m ρ
theorem frame_ideal : Cert.quiescent_KernelOutIdeal (hKernelOutIdeal := Cert.KernelOutIdeal.Gen.facts) := fun m ρ _ => Cert.KernelOutIdeal.Gen.frame m ρ
theorem frame_ref : Cert.quiescent_ReferenceOutIdeal (hReferenceOutIdeal := Cert.ReferenceOutIdeal.Gen.facts) := fun m ρ _ =>
  (θ_run _ _ _).mono (fun r h => ⟨fun c => (h c).2.2, sem_eq_zero_of_no_sems (by decide) r.2⟩) (Cert.ReferenceOutIdeal.Value.run (F := Ideal) m ρ)

/-- What the idealization names is what it says. -/
theorem preserves : Cert.preserves_KernelOut_KernelOutIdeal := IdealRules.named_const.statement Cert.KernelOutIdeal.κ "alpha" .f32 0x3FD744FD#32 ((Real.sqrt (Real.sqrt 8) : ℝ) : EReal) rfl

/-- The kernel's result is the reference's. -/
theorem algebraic : Cert.algebraic_KernelOutIdeal_ReferenceOutIdeal (hKernelOutIdeal := Cert.KernelOutIdeal.Gen.facts)
    (hReferenceOutIdeal := Cert.ReferenceOutIdeal.Gen.facts) := fun m ρ m' ρ' _ hm =>
  ⟨fun c => Cert.ReferenceOutIdeal.Read.val_main_v30 (F := Ideal) (argA m c) (argW m c) (argH m c) (argG m c) (argB m c), fun c => Cert.ReferenceOutIdeal.Read.val_main_v31 (F := Ideal) (argA m c) (argW m c) (argH m c) (argG m c) (argB m c),
    (θ_run _ _ _).mono (fun r h c => ⟨(h c).1.trans (final4 m c), (h c).2.1.trans (final5 m c), (h c).2.2⟩) (Cert.KernelOutIdeal.Value.run_blocks (F := Ideal) m ρ),
    (θ_run _ _ _).mono (fun r h c => ⟨(h c).1.trans (by rw [Cert.ReferenceOutIdeal.Read.val_main_v30_eq, (hm c).1, (hm c).2.1, (hm c).2.2.1, (hm c).2.2.2.1, (hm c).2.2.2.2]),
        (h c).2.1.trans (by rw [Cert.ReferenceOutIdeal.Read.val_main_v31_eq, (hm c).1, (hm c).2.1, (hm c).2.2.1, (hm c).2.2.2.1, (hm c).2.2.2.2]),
        (h c).2.2⟩)
      (Cert.ReferenceOutIdeal.Value.run (F := Ideal) m' ρ')⟩

end Cert.Out

end
-- ==== Proof.Rope.lean ====
/-
  What the query projection and the key-value projection share: the root-mean-square norm of a row of 512 numbers, and the
  rotary position of a block of 64 numbers. `rmsBlock_apply` and `ropeBlock_apply` read the kernels' blocks at an entry;
  `ropeBlock_table` says that over the kernels' table of cosines and sines a block's row is rotated.
-/
module

public import proofs.«01_k».proof.Proof.Common
public import Idealize.ShloMosaic.Lib.KernelVsHost

@[expose] public section

noncomputable section

open Idealize.ShloMosaic hiding ix1 ix2 ix3 ix4
open Idealize.ShloMosaic.TcCoe Idealize.ShloMosaic.ValueIdx

namespace Cert.Common

/-- The words 512 and 1e-6 as extended reals. -/
def rank : EReal := Ideal.ofBits .f32 0x44000000#32
def rmsEps : EReal := Ideal.ofBits .f32 0x358637BD#32

/-- A row over the square root of its mean square plus epsilon, scaled by `w`. -/
def rmsRow (x w : Fin 512 → EReal) (j : Fin 512) : EReal :=
  x j * Ideal.rsqrt (Ideal.div (∑ k : Fin 512, x k * x k) rank + rmsEps) * w j

section Rms

variable {R : Nat}
variable (hred : (⟨2, ![R, 512]⟩ : Shape).Reduces [1] ⟨1, ![R]⟩) (hc : (⟨1, ![R]⟩ : Shape).ShapeCasts ⟨2, ![R, 1]⟩)
variable (hb : (⟨2, ![R, 1]⟩ : Shape).Broadcasts ⟨2, ![R, 512]⟩) (hg : (⟨2, ![1, 512]⟩ : Shape).Broadcasts ⟨2, ![R, 512]⟩)

/-- The mean squares of a block's rows, as a column. -/
def squareCol (x : FVec Ideal ⟨2, ![R, 512]⟩ .f32) : FVec Ideal ⟨2, ![R, 1]⟩ .f32 :=
  divf (shapeCast _ (multiReduction .add [1] ⟨1, ![R]⟩ (mulf x x) 0x00000000#32 hred (.inl rfl) rfl) hc)
    (broadcast ⟨2, ![R, 1]⟩ (Scalar.ofBits (F := Ideal) .f32 0x44000000#32))

theorem squareCol_apply (x : FVec Ideal ⟨2, ![R, 512]⟩ .f32) (r : Fin R) :
    squareCol hred hc x (ix2 r (0 : Fin 1)) = Ideal.div (∑ k : Fin 512, (x (ix2 r k) : EReal) * (x (ix2 r k) : EReal)) rank := by
  unfold squareCol
  show Ideal.div (shapeCast (⟨2, ![R, 1]⟩ : Shape) _ hc (ix2 r (0 : Fin 1))) rank = _
  refine congrArg (fun y => Ideal.div y rank) ((shapeCast_apply _ _ (ix2 r (0 : Fin 1)) (ix1 r) (by
    rewrite [Shape.rowMajor_val_one, Shape.rowMajor_val_two]
    show r.val = r.val * 1 + 0
    omega)).trans ((Ideal.multiReduction_add_single _ _ hred _ _ (ix1 r)).trans ?_))
  exact Finset.sum_congr rfl fun j _ => congrArg (mulf x x) (funext fun a => match a with | ⟨0, _⟩ => rfl | ⟨1, _⟩ => rfl)

/-- The norm of a block's rows. -/
def rmsBlock (x : FVec Ideal ⟨2, ![R, 512]⟩ .f32) (w : FVec Ideal ⟨2, ![1, 512]⟩ .f32) : FVec Ideal ⟨2, ![R, 512]⟩ .f32 :=
  mulf (mulf x (broadcastTo _ (rsqrt (addf (squareCol hred hc x)
    (broadcast ⟨2, ![R, 1]⟩ (Scalar.ofBits (F := Ideal) .f32 0x358637BD#32)))) hb)) (broadcastTo _ w hg)

theorem rmsBlock_apply (x : FVec Ideal ⟨2, ![R, 512]⟩ .f32) (w : FVec Ideal ⟨2, ![1, 512]⟩ .f32) (r : Fin R) (j : Fin 512) :
    rmsBlock hred hc hb hg x w (ix2 r j) = rmsRow (fun k => x (ix2 r k)) (fun k => w (ix2 (0 : Fin 1) k)) j := by
  unfold rmsBlock rmsRow
  show (x (ix2 r j) : EReal) * (broadcastTo (⟨2, ![R, 512]⟩ : Shape) _ hb (ix2 r j)) * (broadcastTo (⟨2, ![R, 512]⟩ : Shape) w hg (ix2 r j)) = _
  rw [show broadcastTo (⟨2, ![R, 512]⟩ : Shape) w hg (ix2 r j) = w (ix2 (0 : Fin 1) j) from
      broadcastTo_apply w _ (ix2 r j) (ix2 (0 : Fin 1) j) (fun a => match a with | ⟨0, _⟩ => rfl | ⟨1, _⟩ => rfl),
    broadcastTo_apply _ hb (ix2 r j) (ix2 r (0 : Fin 1)) (fun a => match a with
      | ⟨0, _⟩ => by
        by_cases hR : R = 1
        · subst hR; have := r.isLt; show r.val = if (1 : Nat) = 1 then 0 else r.val; rw [if_pos rfl]; omega
        · show r.val = if R = 1 then 0 else r.val; rw [if_neg hR]
      | ⟨1, _⟩ => rfl)]
  refine congrArg (fun y => (x (ix2 r j) : EReal) * y * w (ix2 (0 : Fin 1) j)) ?_
  show Ideal.rsqrt (squareCol hred hc x (ix2 r (0 : Fin 1)) + rmsEps) = _
  rw [squareCol_apply]

end Rms

/-- 64 numbers rotated, as pairs 32 apart, by the angles with these cosines and sines; then 64 zeros. -/
def rotated (t : Fin 64 → EReal) (c s : Fin 32 → EReal) (j : Fin 128) : EReal :=
  if h : j.val < 32 then t ⟨j.val, by omega⟩ * c ⟨j.val, h⟩ - t ⟨j.val + 32, by omega⟩ * s ⟨j.val, h⟩
  else if h' : j.val < 64 then t ⟨j.val, h'⟩ * c ⟨j.val - 32, by omega⟩ + t ⟨j.val - 32, by omega⟩ * s ⟨j.val - 32, by omega⟩
  else 0

/-- Three products with the parts of a row of a table, the second and third of lanes moved by 32. -/
def turn (t : Fin 128 → EReal) (T : Fin 384 → EReal) (j : Fin 128) : EReal :=
  t j * T ⟨j.val, by omega⟩ + t ⟨(j.val + 32) % 128, by omega⟩ * T ⟨128 + j.val, by omega⟩
    + t ⟨(j.val + 96) % 128, by omega⟩ * T ⟨256 + j.val, by omega⟩

section Rope

variable {R : Nat}
variable (h0 : (⟨2, ![R, 384]⟩ : Shape).Slices ![0, 0] ⟨2, ![R, 128]⟩) (h1 : (⟨2, ![R, 384]⟩ : Shape).Slices ![0, 128] ⟨2, ![R, 128]⟩)
variable (h2 : (⟨2, ![R, 384]⟩ : Shape).Slices ![0, 256] ⟨2, ![R, 128]⟩) (hr : (⟨2, ![R, 128]⟩ : Shape).Rotates 1 none)

/-- The kernels' rotation of a block: three products with parts of a table, the second and third of rotated lanes. -/
def ropeBlock (t : FVec Ideal ⟨2, ![R, 128]⟩ .f32) (tab : FVec Ideal ⟨2, ![R, 384]⟩ .f32) : FVec Ideal ⟨2, ![R, 128]⟩ .f32 :=
  addf (addf (mulf t (extractStridedSlice ⟨2, ![R, 128]⟩ ![0, 0] tab h0))
    (mulf (dynamicRotate 1 96#32 none t hr) (extractStridedSlice ⟨2, ![R, 128]⟩ ![0, 128] tab h1)))
    (mulf (dynamicRotate 1 32#32 none t hr) (extractStridedSlice ⟨2, ![R, 128]⟩ ![0, 256] tab h2))

theorem ropeBlock_apply (t : FVec Ideal ⟨2, ![R, 128]⟩ .f32) (tab : FVec Ideal ⟨2, ![R, 384]⟩ .f32) (r : Fin R) (j : Fin 128) :
    ropeBlock h0 h1 h2 hr t tab (ix2 r j) = turn (fun j => t (ix2 r j)) (fun k => tab (ix2 r k)) j := by
  have hj := j.isLt
  have e0 : extractStridedSlice (⟨2, ![R, 128]⟩ : Shape) ![0, 0] tab h0 (ix2 r j) = tab (ix2 r (⟨j.val, by omega⟩ : Fin 384)) :=
    extractStridedSlice_apply ![0, 0] tab _ _ _ fun a => match a with
      | ⟨0, _⟩ => by show r.val = 0 + r.val; omega
      | ⟨1, _⟩ => by show j.val = 0 + j.val; omega
  have e1 : extractStridedSlice (⟨2, ![R, 128]⟩ : Shape) ![0, 128] tab h1 (ix2 r j) = tab (ix2 r (⟨128 + j.val, by omega⟩ : Fin 384)) :=
    extractStridedSlice_apply ![0, 128] tab _ _ _ fun a => match a with
      | ⟨0, _⟩ => by show r.val = 0 + r.val; omega
      | ⟨1, _⟩ => rfl
  have e2 : extractStridedSlice (⟨2, ![R, 128]⟩ : Shape) ![0, 256] tab h2 (ix2 r j) = tab (ix2 r (⟨256 + j.val, by omega⟩ : Fin 384)) :=
    extractStridedSlice_apply ![0, 256] tab _ _ _ fun a => match a with
      | ⟨0, _⟩ => by show r.val = 0 + r.val; omega
      | ⟨1, _⟩ => rfl
  have f1 : dynamicRotate 1 96#32 none t hr (ix2 r j) = t (ix2 r (⟨(j.val + 32) % 128, by omega⟩ : Fin 128)) :=
    dynamicRotate_apply 1 96#32 t hr _ _ fun b => match b with
      | ⟨0, _⟩ => rfl
      | ⟨1, _⟩ => by show (j.val + 32) % 128 = (j.val + 128 - 96 % 128) % 128; omega
  have f2 : dynamicRotate 1 32#32 none t hr (ix2 r j) = t (ix2 r (⟨(j.val + 96) % 128, by omega⟩ : Fin 128)) :=
    dynamicRotate_apply 1 32#32 t hr _ _ fun b => match b with
      | ⟨0, _⟩ => rfl
      | ⟨1, _⟩ => by show (j.val + 96) % 128 = (j.val + 128 - 32 % 128) % 128; omega
  unfold turn
  beta_reduce
  rw [← e0, ← e1, ← e2, ← f1, ← f2]
  rfl

end Rope

/-- Where the table of the positions' angles holds its cosines and sines, and where zeros. -/
structure IsTable (T : FVec Ideal ⟨2, ![16384, 384]⟩ .f32) (c s : FVec Ideal ⟨2, ![16384, 32]⟩ .f32) : Prop where
  cos0 (i : Fin 16384) (k : Fin 384) (k' : Fin 32) (h : k'.val = k.val) : T (ix2 i k) = c (ix2 i k')
  cos1 (i : Fin 16384) (k : Fin 384) (k' : Fin 32) (h : 32 + k'.val = k.val) : T (ix2 i k) = c (ix2 i k')
  sin0 (i : Fin 16384) (k : Fin 384) (k' : Fin 32) (h : 128 + k'.val = k.val) : (T (ix2 i k) : EReal) = -(s (ix2 i k') : EReal)
  sin1 (i : Fin 16384) (k : Fin 384) (k' : Fin 32) (h : 288 + k'.val = k.val) : T (ix2 i k) = s (ix2 i k')
  zero0 (i : Fin 16384) (k : Fin 384) (h : 64 ≤ k.val ∧ k.val < 128) : (T (ix2 i k) : EReal) = 0
  zero1 (i : Fin 16384) (k : Fin 384) (h : 160 ≤ k.val ∧ k.val < 288) : (T (ix2 i k) : EReal) = 0
  zero2 (i : Fin 16384) (k : Fin 384) (h : 320 ≤ k.val) : (T (ix2 i k) : EReal) = 0

/-- The pieces laid side by side are such a table. -/
theorem isTable_of_pieces (c s n z : FVec Ideal ⟨2, ![16384, 32]⟩ .f32) (z64 y64 : FVec Ideal ⟨2, ![16384, 64]⟩ .f32) (z96 : FVec Ideal ⟨2, ![16384, 96]⟩ .f32)
    (hn : ∀ i, (n i : EReal) = -(s i : EReal)) (hz : ∀ i, (z i : EReal) = 0) (hz64 : ∀ i, (z64 i : EReal) = 0) (hy64 : ∀ i, (y64 i : EReal) = 0)
    (hz96 : ∀ i, (z96 i : EReal) = 0)
    (hcat : Shape.Concatenates (List.map (·.1) [(⟨⟨2, ![16384, 32]⟩, c⟩ : (s : Shape) × FVec Ideal s .f32), ⟨⟨2, ![16384, 32]⟩, c⟩, ⟨⟨2, ![16384, 64]⟩, z64⟩,
      ⟨⟨2, ![16384, 32]⟩, n⟩, ⟨⟨2, ![16384, 96]⟩, z96⟩, ⟨⟨2, ![16384, 32]⟩, z⟩, ⟨⟨2, ![16384, 32]⟩, s⟩, ⟨⟨2, ![16384, 64]⟩, y64⟩]) (⟨2, ![16384, 384]⟩ : Shape) 1) :
    IsTable (concatenate ⟨2, ![16384, 384]⟩ 1 [⟨⟨2, ![16384, 32]⟩, c⟩, ⟨⟨2, ![16384, 32]⟩, c⟩, ⟨⟨2, ![16384, 64]⟩, z64⟩,
      ⟨⟨2, ![16384, 32]⟩, n⟩, ⟨⟨2, ![16384, 96]⟩, z96⟩, ⟨⟨2, ![16384, 32]⟩, z⟩, ⟨⟨2, ![16384, 32]⟩, s⟩, ⟨⟨2, ![16384, 64]⟩, y64⟩] hcat) c s where
  cos0 i k k' h := beside_apply _ _ 0 (by simp) _ rfl 0 rfl i k k' (by omega)
  cos1 i k k' h := beside_apply _ _ 1 (by simp) _ rfl 32 rfl i k k' h
  sin0 i k k' h := (beside_apply _ _ 3 (by simp) _ rfl 128 rfl i k k' h).trans (hn _)
  sin1 i k k' h := beside_apply _ _ 6 (by simp) _ rfl 288 rfl i k k' h
  zero0 i k h := (beside_apply _ _ 2 (by simp) _ rfl 64 rfl i k (⟨k.val - 64, by omega⟩ : Fin 64) (by show 64 + (k.val - 64) = _; omega)).trans (hz64 _)
  zero1 i k h := by
    by_cases h' : k.val < 256
    · exact (beside_apply _ _ 4 (by simp) _ rfl 160 rfl i k (⟨k.val - 160, by omega⟩ : Fin 96) (by show 160 + (k.val - 160) = _; omega)).trans (hz96 _)
    · exact (beside_apply _ _ 5 (by simp) _ rfl 256 rfl i k (⟨k.val - 256, by omega⟩ : Fin 32) (by show 256 + (k.val - 256) = _; omega)).trans (hz _)
  zero2 i k h := (beside_apply _ _ 7 (by simp) _ rfl 320 rfl i k (⟨k.val - 320, by have := k.isLt; omega⟩ : Fin 64)
    (by show 320 + (k.val - 320) = _; omega)).trans (hy64 _)

/-- Three products with the table's entries rotate the row's first 64 numbers; what lies behind them is dropped. -/
theorem rotated_of_table (T : FVec Ideal ⟨2, ![16384, 384]⟩ .f32) (c s : FVec Ideal ⟨2, ![16384, 32]⟩ .f32) (hT : IsTable T c s)
    (t : Fin 128 → EReal) (i : Fin 16384) (j : Fin 128) :
    turn t (fun k => T (ix2 i k)) j
      = rotated (fun k => t ⟨k.val, by omega⟩) (fun k => c (ix2 i k)) (fun k => s (ix2 i k)) j := by
  have hj := j.isLt
  unfold turn rotated
  beta_reduce
  by_cases a : j.val < 32
  · rw [dif_pos a, hT.cos0 i _ ⟨j.val, a⟩ rfl, hT.sin0 i _ ⟨j.val, a⟩ rfl, hT.zero1 i _ (by show 160 ≤ 256 + j.val ∧ 256 + j.val < 288; omega),
      mul_zero, add_zero, mul_neg, sub_eq_add_neg, show (⟨(j.val + 32) % 128, by omega⟩ : Fin 128) = ⟨j.val + 32, by omega⟩ from Fin.ext (by show (j.val + 32) % 128 = j.val + 32; omega)]
  · rw [dif_neg a]
    by_cases b : j.val < 64
    · rw [dif_pos b, hT.cos1 i _ ⟨j.val - 32, by omega⟩ (by show 32 + (j.val - 32) = j.val; omega),
        hT.zero1 i _ (by show 160 ≤ 128 + j.val ∧ 128 + j.val < 288; omega),
        hT.sin1 i _ ⟨j.val - 32, by omega⟩ (by show 288 + (j.val - 32) = 256 + j.val; omega), mul_zero, add_zero,
        show (⟨(j.val + 96) % 128, by omega⟩ : Fin 128) = ⟨j.val - 32, by omega⟩ from Fin.ext (by show (j.val + 96) % 128 = j.val - 32; omega)]
    · rw [dif_neg b, hT.zero0 i _ (by show 64 ≤ j.val ∧ j.val < 128; omega), hT.zero1 i _ (by show 160 ≤ 128 + j.val ∧ 128 + j.val < 288; omega),
        hT.zero2 i _ (by show 320 ≤ 256 + j.val; omega), mul_zero, mul_zero, mul_zero, add_zero, add_zero]

/-- Arrays of four axes laid side by side along the last: an entry whose place falls in piece `k`, `pre` places lying before it. -/
theorem last_apply {α : Type} {A B C T n : Nat} (xs : List ((s : Shape) × (s.Idx → α)))
    (h : Shape.Concatenates (xs.map (·.1)) (⟨4, ![A, B, C, T]⟩ : Shape) 3) (k : Nat) (hk : k < xs.length) (x : (⟨4, ![A, B, C, n]⟩ : Shape).Idx → α)
    (hxk : xs[k] = ⟨⟨4, ![A, B, C, n]⟩, x⟩) (pre : Nat)
    (hpre : (((xs.take k).map (·.1)).map fun s => if h : s.rank = 4 then s.size ((3 : Fin 4).cast h.symm) else 0).sum = pre)
    (a : Fin A) (b : Fin B) (c : Fin C) (j : Fin T) (j' : Fin n) (hj : pre + j'.val = j.val) :
    concatenate (⟨4, ![A, B, C, T]⟩ : Shape) 3 xs h (ix4 a b c j) = x (ix4 a b c j') :=
  concatenate_apply_piece (t := ⟨4, ![A, B, C, T]⟩) 3 xs h (ix4 a b c j) k hk ⟨4, ![A, B, C, n]⟩ x hxk rfl pre hpre (ix4 a b c j')
    (fun d hd => match d with
      | ⟨0, _⟩ => rfl
      | ⟨1, _⟩ => rfl
      | ⟨2, _⟩ => rfl
      | ⟨3, _⟩ => absurd rfl hd) hj

/-- The same for arrays of three axes. -/
theorem third_apply {α : Type} {A B T n : Nat} (xs : List ((s : Shape) × (s.Idx → α)))
    (h : Shape.Concatenates (xs.map (·.1)) (⟨3, ![A, B, T]⟩ : Shape) 2) (k : Nat) (hk : k < xs.length) (x : (⟨3, ![A, B, n]⟩ : Shape).Idx → α)
    (hxk : xs[k] = ⟨⟨3, ![A, B, n]⟩, x⟩) (pre : Nat)
    (hpre : (((xs.take k).map (·.1)).map fun s => if h : s.rank = 3 then s.size ((2 : Fin 3).cast h.symm) else 0).sum = pre)
    (a : Fin A) (b : Fin B) (j : Fin T) (j' : Fin n) (hj : pre + j'.val = j.val) :
    concatenate (⟨3, ![A, B, T]⟩ : Shape) 2 xs h (ix3 a b j) = x (ix3 a b j') :=
  concatenate_apply_piece (t := ⟨3, ![A, B, T]⟩) 2 xs h (ix3 a b j) k hk ⟨3, ![A, B, n]⟩ x hxk rfl pre hpre (ix3 a b j')
    (fun d hd => match d with
      | ⟨0, _⟩ => rfl
      | ⟨1, _⟩ => rfl
      | ⟨2, _⟩ => absurd rfl hd) hj

/-- The row of the flat array that holds position `i` of sequence `b`. -/
def flat (b : Fin 2) (i : Fin 16384) : Fin 32768 := ⟨b.val * 16384 + i.val, by omega⟩

end Cert.Common

end
-- ==== Proof.Query.Block.lean ====
/-
  The query projection's block: what the body leaves of the input blocks. `nope_apply` and `rope_apply` read the two halves
  of a head; `block_apply`: every entry of the block left.
-/
module

public import proofs.«01_k».proof.Proof.Gen.KernelQueryIdeal.Value
public import proofs.«01_k».proof.Proof.Rope
public import Idealize.ShloMosaic.Lib.MatmulPlain
public import Idealize.ShloMosaic.Lib.Pipeline.ValueKit
public import Idealize.ShloMosaic.Lib.Pipeline.ReadBack
public import Idealize.ShloMosaic.Lib.Tactic

@[expose] public section

noncomputable section

open Idealize.ShloMosaic hiding ix1 ix2 ix3 ix4
open Idealize.ShloMosaic.TcCoe Idealize.ShloMosaic.ValueIdx Cert.Common Idealize.ShloMosaic.Tactic

namespace Cert.Query

open Cert.KernelQueryIdeal Cert.KernelQueryIdeal.Gen

/-- The scores' scale. -/
def scale : EReal := (((Real.sqrt 192)⁻¹ : ℝ) : EReal)
theorem scale_named : (Named.named (F := Ideal) (φ := .f32) κ "scale" 0x3D93CD3A#32 : EReal) = scale := IdealRules.named_const.ideal_named_scalar _ _ _ _ rfl

/-- The kernel's product holds the sums of products. -/
theorem mm_apply (a : FVec Ideal S512x512 .bf16) (w : Vec Ideal S512x256 .bf16) (r : Fin 512) (j : Fin 256) :
    k0_pay8 (F := Ideal) a w (ix2 r j) = ∑ k : Fin 512, (a (ix2 r k) : EReal) * (w (ix2 k j) : EReal) := by
  unfold k0_pay8
  rw [shapeCast_self]
  refine (Ideal.matmul_plain_apply (M := 512) (K := 512) (N := 256) none _ _ _ r j).trans ?_
  show Ideal.ofBits .f32 0x00000000#32 + _ = _
  rw [Ideal.ofBits_zero_f32, zero_add]

/-- The rows' norm. -/
theorem norm_apply (x : Vec Ideal S512x512 .f32) (w : Vec Ideal S1x512 .f32) (r k : Fin 512) :
    k0_pay2 (F := Ideal) x w (ix2 r k) = rmsRow (fun k => x (ix2 r k)) (fun k => w (ix2 (0 : Fin 1) k)) k := by
  rw [← rmsBlock_apply reduces_S512x512_S512 shapeCasts_S512_S512x1 broadcasts_S512x1_S512x512 broadcasts_S1x512_S512x512]
  unfold k0_pay2 rmsBlock squareCol
  rw [shapeCast_self w]
  rfl

/-- A block's place in the block of one head. -/
theorem unit_cast (v : FVec Ideal S512x128 .bf16) (r : Fin 512) (j : Fin 128) :
    shapeCast S1x1x512x128 v shapeCasts_S512x128_S1x1x512x128 (ix4 (0 : Fin 1) (0 : Fin 1) r j) = v (ix2 r j) :=
  shapeCast_apply _ _ _ _ (by
    rewrite [Shape.rowMajor_val_two, Shape.rowMajor_val_four]
    show r.val * 128 + j.val = ((0 * 1 + 0) * 512 + r.val) * 128 + j.val
    omega)

/-- The left half of a block. -/
theorem left_half (v : FVec Ideal S512x256 .f32) (r : Fin 512) (j : Fin 128) :
    extractStridedSlice S512x128 ![0, 0] v slices_S512x256_o0_0_S512x128 (ix2 r j) = v (ix2 r (⟨j.val, by omega⟩ : Fin 256)) :=
  extractStridedSlice_apply ![0, 0] v _ _ _ fun a => match a with
    | ⟨0, _⟩ => by show r.val = 0 + r.val; omega
    | ⟨1, _⟩ => by show j.val = 0 + j.val; omega

/-- A head's first half. -/
theorem nope_apply (a : FVec Ideal S512x512 .bf16) (w : Vec Ideal S512x256 .bf16) (r : Fin 512) (j : Fin 128) :
    k0_pay9 (F := Ideal) a w (ix4 (0 : Fin 1) (0 : Fin 1) r j)
      = (∑ k : Fin 512, (a (ix2 r k) : EReal) * (w (ix2 k (⟨j.val, by omega⟩ : Fin 256)) : EReal)) * scale := by
  have e : k0_pay9 (F := Ideal) a w = shapeCast S1x1x512x128 (truncf .bf16 (mulf
      (extractStridedSlice S512x128 ![0, 0] (k0_pay8 (F := Ideal) a w) slices_S512x256_o0_0_S512x128)
      (broadcast S512x128 (Named.named (F := Ideal) (φ := .f32) κ "scale" 0x3D93CD3A#32))) bitsLt_bf16_f32) shapeCasts_S512x128_S1x1x512x128 := rfl
  rw [e]
  refine (unit_cast _ r j).trans ?_
  rw [← mm_apply, ← scale_named]
  have e2 : extractStridedSlice S512x128 ![0, 0] (k0_pay8 (F := Ideal) a w) slices_S512x256_o0_0_S512x128 (ix2 r j)
      = k0_pay8 (F := Ideal) a w (ix2 r (⟨j.val, by omega⟩ : Fin 256)) := left_half _ r j
  rw [← e2]
  rfl

/-- A head's second half. -/
theorem rope_apply (a : FVec Ideal S512x512 .bf16) (T : FVec Ideal S512x384 .f32) (w : Vec Ideal S512x256 .bf16) (r : Fin 512) (j : Fin 128) :
    k0_pay10 (F := Ideal) a T w (ix4 (0 : Fin 1) (0 : Fin 1) r j)
      = turn (fun e => ∑ k : Fin 512, (a (ix2 r k) : EReal) * (w (ix2 k (⟨128 + e.val, by omega⟩ : Fin 256)) : EReal)) (fun k => T (ix2 r k)) j * scale := by
  have e : k0_pay10 (F := Ideal) a T w = shapeCast S1x1x512x128 (truncf .bf16 (mulf (ropeBlock slices_S512x384_o0_0_S512x128
      slices_S512x384_o0_128_S512x128 slices_S512x384_o0_256_S512x128 rotates_S512x128_d1
      (extractStridedSlice S512x128 ![0, 128] (k0_pay8 (F := Ideal) a w) slices_S512x256_o0_128_S512x128) T)
      (broadcast S512x128 (Named.named (F := Ideal) (φ := .f32) κ "scale" 0x3D93CD3A#32))) bitsLt_bf16_f32) shapeCasts_S512x128_S1x1x512x128 := rfl
  rw [e]
  refine (unit_cast _ r j).trans ?_
  rw [← scale_named]
  refine congrArg (fun y : EReal => y * (Named.named (F := Ideal) (φ := .f32) κ "scale" 0x3D93CD3A#32 : EReal)) ((ropeBlock_apply _ _ _ _ _ T r j).trans ?_)
  refine congrArg (fun t => turn t (fun k => T (ix2 r k)) j) (funext fun e => ?_)
  rw [← mm_apply]
  exact extractStridedSlice_apply ![0, 128] (k0_pay8 (F := Ideal) a w) _ (ix2 r e) (ix2 r (⟨128 + e.val, by omega⟩ : Fin 256)) fun a => match a with
      | ⟨0, _⟩ => by show r.val = 0 + r.val; omega
      | ⟨1, _⟩ => rfl

section Block

variable (x0 : Vec Ideal S512x512 .f32) (x1 : Vec Ideal S8x512 .f32) (x2 : Vec Ideal S512x4096 .bf16) (x3 : Vec Ideal S512x384 .f32)

/-- The product of a normalized row and a column of the weights' block. -/
def colAt (r : Fin 512) (j : Fin 4096) : EReal :=
  ∑ k : Fin 512, rmsRow (fun k => x0 (ix2 r k)) (fun k => x1 (ix2 (0 : Fin 8) k)) k * (x2 (ix2 k j) : EReal)

/-- An entry of the block left: head, row, place in the head. -/
def headAt (h : Fin 16) (r : Fin 512) (d : Fin 256) : EReal :=
  if hd : d.val < 128 then colAt x0 x1 x2 r ⟨256 * h.val + d.val, by omega⟩ * scale
  else turn (fun e => colAt x0 x1 x2 r ⟨256 * h.val + (128 + e.val), by omega⟩) (fun k => x3 (ix2 r k)) ⟨d.val - 128, by omega⟩ * scale

/-- The block of these entries. -/
def headBlock (y : S1x16x512x256.Idx) : EReal := headAt x0 x1 x2 x3 (y 1) (y 2) (y 3)

/-- The normalized rows times a column of the columns the body loads. -/
theorem col_of (h : Fin 16) (off : Nat) (ho : off = 256 * h.val) (inbW) (r : Fin 512) (e : Fin 256) :
    (∑ k : Fin 512, (k0_pay2 (F := Ideal) x0 (View.ld x1 (Rect.unit ![0, 0] ![1, 512] inb_S8x512_S1x512_0_0)) (ix2 r k) : EReal)
        * (View.ld x2 (Rect.unit (s := S512x4096) ![0, off] ![512, 256] inbW) (ix2 k e) : EReal))
      = colAt x0 x1 x2 r ⟨256 * h.val + e.val, by omega⟩ := by
  unfold colAt
  refine Finset.sum_congr rfl fun k _ => ?_
  rw [norm_apply]
  have e1 : (fun k : Fin 512 => (View.ld x1 (Rect.unit ![0, 0] ![1, 512] inb_S8x512_S1x512_0_0) (ix2 (0 : Fin 1) k) : EReal)) = fun k => x1 (ix2 (0 : Fin 8) k) :=
    funext fun k => View.ld_unit_apply_of x1 _ _ _ _ _ fun a => match a with
      | ⟨0, _⟩ => rfl
      | ⟨1, _⟩ => by show k.val = 0 + k.val; omega
  have e2 : View.ld x2 (Rect.unit (s := S512x4096) ![0, off] ![512, 256] inbW) (ix2 k e) = x2 (ix2 k (⟨256 * h.val + e.val, by omega⟩ : Fin 4096)) :=
    View.ld_unit_apply_of x2 _ _ _ _ _ fun a => match a with
      | ⟨0, _⟩ => by show k.val = 0 + k.val; omega
      | ⟨1, _⟩ => by show 256 * h.val + e.val = off + e.val; omega
  rw [e2]
  exact congrArg (fun w => rmsRow (fun k => x0 (ix2 r k)) w k * (x2 (ix2 k (⟨256 * h.val + e.val, by omega⟩ : Fin 4096)) : EReal)) e1

theorem nope_piece (h : Fin 16) (off : Nat) (ho : off = 256 * h.val) (o : Nat) (ho' : o = h.val) (inbW) (inb) (x : S1x1x512x128.Idx) :
    k0_pay9 (F := Ideal) (k0_pay2 x0 (View.ld x1 (Rect.unit ![0, 0] ![1, 512] inb_S8x512_S1x512_0_0)))
        (View.ld x2 (Rect.unit (s := S512x4096) ![0, off] ![512, 256] inbW)) x
      = headBlock x0 x1 x2 x3 ((Rect.unit (s := S1x16x512x256) ![0, o, 0, 0] ![1, 1, 512, 128] inb).emb x) := by
  obtain ⟨a, b, r, j, rfl⟩ : ∃ (a b : Fin 1) (r : Fin 512) (j : Fin 128), x = ix4 a b r j := ⟨x 0, x 1, x 2, x 3, ValueIdx.eq_ix4 x⟩
  obtain rfl : a = 0 := Subsingleton.elim _ _
  obtain rfl : b = 0 := Subsingleton.elim _ _
  rw [nope_apply, col_of x0 x1 x2 h off ho inbW r ⟨j.val, by omega⟩]
  have e : (Rect.unit (s := S1x16x512x256) ![0, o, 0, 0] ![1, 1, 512, 128] inb).emb (ix4 (0 : Fin 1) (0 : Fin 1) r j) = ix4 (0 : Fin 1) h r (⟨j.val, by omega⟩ : Fin 256) :=
    funext fun a => Fin.ext (match a with
      | ⟨0, _⟩ => rfl
      | ⟨1, _⟩ => by show o + 1 * 0 = h.val; omega
      | ⟨2, _⟩ => by show 0 + 1 * r.val = r.val; omega
      | ⟨3, _⟩ => by show 0 + 1 * j.val = j.val; omega)
  rw [e]
  show _ = headAt x0 x1 x2 x3 h r (⟨j.val, by omega⟩ : Fin 256)
  unfold headAt
  rw [dif_pos (show j.val < 128 from j.isLt)]

theorem rope_piece (h : Fin 16) (off : Nat) (ho : off = 256 * h.val) (o : Nat) (ho' : o = h.val) (inbW) (inb) (x : S1x1x512x128.Idx) :
    k0_pay10 (F := Ideal) (k0_pay2 x0 (View.ld x1 (Rect.unit ![0, 0] ![1, 512] inb_S8x512_S1x512_0_0))) (k0_pay3 x3)
        (View.ld x2 (Rect.unit (s := S512x4096) ![0, off] ![512, 256] inbW)) x
      = headBlock x0 x1 x2 x3 ((Rect.unit (s := S1x16x512x256) ![0, o, 0, 128] ![1, 1, 512, 128] inb).emb x) := by
  obtain ⟨a, b, r, j, rfl⟩ : ∃ (a b : Fin 1) (r : Fin 512) (j : Fin 128), x = ix4 a b r j := ⟨x 0, x 1, x 2, x 3, ValueIdx.eq_ix4 x⟩
  obtain rfl : a = 0 := Subsingleton.elim _ _
  obtain rfl : b = 0 := Subsingleton.elim _ _
  have e3 : k0_pay3 (F := Ideal) x3 = x3 := by unfold k0_pay3; exact shapeCast_self _ _
  rw [rope_apply, e3]
  have e : (Rect.unit (s := S1x16x512x256) ![0, o, 0, 128] ![1, 1, 512, 128] inb).emb (ix4 (0 : Fin 1) (0 : Fin 1) r j) = ix4 (0 : Fin 1) h r (⟨128 + j.val, by omega⟩ : Fin 256) :=
    funext fun a => Fin.ext (match a with
      | ⟨0, _⟩ => rfl
      | ⟨1, _⟩ => by show o + 1 * 0 = h.val; omega
      | ⟨2, _⟩ => by show 0 + 1 * r.val = r.val; omega
      | ⟨3, _⟩ => by show 128 + 1 * j.val = 128 + j.val; omega)
  rw [e]
  show _ = headAt x0 x1 x2 x3 h r (⟨128 + j.val, by omega⟩ : Fin 256)
  unfold headAt
  rw [dif_neg (show ¬ 128 + j.val < 128 by omega), show (⟨128 + j.val - 128, by omega⟩ : Fin 128) = j from Fin.ext (by show 128 + j.val - 128 = j.val; omega)]
  exact congrArg (fun t => turn t (fun k => x3 (ix2 r k)) j * scale) (funext fun e => col_of x0 x1 x2 h off ho inbW r ⟨128 + e.val, by omega⟩)

/-- The body leaves these entries. -/
theorem block_apply (c : Dev nD) (i : grid0.Coords) (arg1 : Memref sig .tc .vmem S512x512 .f32) (harg1 : arg1.IsWhole) (arg2 : Memref sig .tc .vmem S8x512 .f32)
    (harg2 : arg2.IsWhole) (arg3 : Memref sig .tc .vmem S512x4096 .bf16) (harg3 : arg3.IsWhole) (arg4 : Memref sig .tc .vmem S512x384 .f32) (harg4 : arg4.IsWhole)
    (arg5 : Memref sig .tc .vmem S1x16x512x256 .bf16) (harg5 : arg5.IsWhole) (y : S1x16x512x256.Idx) :
    out0_A_4 (F := Ideal) c i arg1 harg1 arg2 harg2 arg3 harg3 arg4 harg4 arg5 harg5 x0 x1 x2 x3 y = headBlock x0 x1 x2 x3 y := by
  have hc := cover0_A_4 c i arg1 harg1 arg2 harg2 arg3 harg3 arg4 harg4 arg5 harg5 x0 x1 x2 x3
  unfold out0_A_4
  rw [View.read_writes_eq_canon _ _ _ hc]
  refine View.canon_apply_of_pieces (headBlock x0 x1 x2 x3) _ (View.PiecesOf.mem ?_) y (hc y)
  unfold kernelRun0_A
  dsimp only
  sl_unfold_words
  simp only [View.PiecesOf, View.readAt_eq_ld, harg1.read_unread, harg2.read_unread, harg3.read_unread, harg4.read_unread, View.ld_unit_zero (S := S512x512) hz2,
    View.ld_unit_zero (S := S512x384) hz2]
  refine ⟨
    fun x => rope_piece x0 x1 x2 x3 15 3840 rfl 15 rfl _ _ x,
    fun x => nope_piece x0 x1 x2 x3 15 3840 rfl 15 rfl _ _ x,
    fun x => rope_piece x0 x1 x2 x3 14 3584 rfl 14 rfl _ _ x,
    fun x => nope_piece x0 x1 x2 x3 14 3584 rfl 14 rfl _ _ x,
    fun x => rope_piece x0 x1 x2 x3 13 3328 rfl 13 rfl _ _ x,
    fun x => nope_piece x0 x1 x2 x3 13 3328 rfl 13 rfl _ _ x,
    fun x => rope_piece x0 x1 x2 x3 12 3072 rfl 12 rfl _ _ x,
    fun x => nope_piece x0 x1 x2 x3 12 3072 rfl 12 rfl _ _ x,
    fun x => rope_piece x0 x1 x2 x3 11 2816 rfl 11 rfl _ _ x,
    fun x => nope_piece x0 x1 x2 x3 11 2816 rfl 11 rfl _ _ x,
    fun x => rope_piece x0 x1 x2 x3 10 2560 rfl 10 rfl _ _ x,
    fun x => nope_piece x0 x1 x2 x3 10 2560 rfl 10 rfl _ _ x,
    fun x => rope_piece x0 x1 x2 x3 9 2304 rfl 9 rfl _ _ x,
    fun x => nope_piece x0 x1 x2 x3 9 2304 rfl 9 rfl _ _ x,
    fun x => rope_piece x0 x1 x2 x3 8 2048 rfl 8 rfl _ _ x,
    fun x => nope_piece x0 x1 x2 x3 8 2048 rfl 8 rfl _ _ x,
    fun x => rope_piece x0 x1 x2 x3 7 1792 rfl 7 rfl _ _ x,
    fun x => nope_piece x0 x1 x2 x3 7 1792 rfl 7 rfl _ _ x,
    fun x => rope_piece x0 x1 x2 x3 6 1536 rfl 6 rfl _ _ x,
    fun x => nope_piece x0 x1 x2 x3 6 1536 rfl 6 rfl _ _ x,
    fun x => rope_piece x0 x1 x2 x3 5 1280 rfl 5 rfl _ _ x,
    fun x => nope_piece x0 x1 x2 x3 5 1280 rfl 5 rfl _ _ x,
    fun x => rope_piece x0 x1 x2 x3 4 1024 rfl 4 rfl _ _ x,
    fun x => nope_piece x0 x1 x2 x3 4 1024 rfl 4 rfl _ _ x,
    fun x => rope_piece x0 x1 x2 x3 3 768 rfl 3 rfl _ _ x,
    fun x => nope_piece x0 x1 x2 x3 3 768 rfl 3 rfl _ _ x,
    fun x => rope_piece x0 x1 x2 x3 2 512 rfl 2 rfl _ _ x,
    fun x => nope_piece x0 x1 x2 x3 2 512 rfl 2 rfl _ _ x,
    fun x => rope_piece x0 x1 x2 x3 1 256 rfl 1 rfl _ _ x,
    fun x => nope_piece x0 x1 x2 x3 1 256 rfl 1 rfl _ _ x,
    fun x => rope_piece x0 x1 x2 x3 0 0 rfl 0 rfl _ _ x,
    fun x => nope_piece x0 x1 x2 x3 0 0 rfl 0 rfl _ _ x,
    trivial⟩

end Block

end Cert.Query

end
-- ==== Proof.Query.Host.lean ====
/-
  What the host code before the query projection makes of its arguments: the norm's weights in a block of eight rows, the
  projection's weights with each head padded to 256 columns, the table of cosines and sines.
-/
module

public import proofs.«01_k».proof.Proof.Gen.KernelQueryIdeal.Value
public import proofs.«01_k».proof.Proof.Rope
public import Idealize.ShloMosaic.Lib.Pipeline.ValueKit
public import Idealize.ShloMosaic.Lib.Tactic
public import Idealize.ShloMosaic.Lib.KernelVsHost

@[expose] public section

noncomputable section

open Idealize.ShloMosaic hiding ix1 ix2 ix3 ix4
open Idealize.ShloMosaic.TcCoe Idealize.ShloMosaic.ValueIdx Cert.Common

namespace Cert.Query

open Cert.KernelQueryIdeal Cert.KernelQueryIdeal.Gen

/-- The angles the kernel's host code makes: positions times powers of 10000. -/
def angles : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
            (mulf (broadcastInDim S32 ![] bcast_S_S32 (constant S_ .f32 0x40000000#32)) (sitofp .f32 (iotaInDim S32 32 0)))))
          (broadcastInDim S32 ![] bcast_S_S32 (constant S_ .f32 0x42800000#32))))))

/-- The table of their cosines and sines. -/
def table : FVec Ideal S16384x384 .f32 :=
  concatenate S16384x384 1 [⟨S16384x32, Host.cos angles⟩, ⟨S16384x32, Host.cos angles⟩,
    ⟨S16384x64, broadcastInDim S16384x64 ![] bcast_S_S16384x64 (constant (F := Ideal) S_ .f32 0x00000000#32)⟩,
    ⟨S16384x32, Host.negf (Host.sin angles)⟩, ⟨S16384x96, broadcastInDim S16384x96 ![] bcast_S_S16384x96 (constant (F := Ideal) S_ .f32 0x00000000#32)⟩,
    ⟨S16384x32, broadcastInDim S16384x32 ![] bcast_S_S16384x32 (constant (F := Ideal) S_ .f32 0x00000000#32)⟩, ⟨S16384x32, Host.sin angles⟩,
    ⟨S16384x64, broadcastInDim S16384x64 ![] bcast_S_S16384x64 (constant (F := Ideal) S_ .f32 0x00000000#32)⟩]
    concatenates_S16384x32_S16384x32_S16384x64_S16384x32_S16384x96_S16384x32_S16384x32_S16384x64_S16384x384_d1

theorem table_is : IsTable table (Host.cos angles) (Host.sin angles) :=
  isTable_of_pieces (Host.cos angles) (Host.sin angles) (Host.negf (Host.sin angles)) _ _ _ _ (fun _ => rfl) (fun _ => Ideal.ofBits_zero_f32)
    (fun _ => Ideal.ofBits_zero_f32) (fun _ => Ideal.ofBits_zero_f32) (fun _ => Ideal.ofBits_zero_f32) _

variable (m : (ℓ : Loc nD τ sig) → Buf (Elt Ideal) ℓ) (c : Dev nD)

/-- The arguments: rows, the norm's weights, the projection's weights. -/
abbrev argA : FVec Ideal S32768x1280 .f32 := m ((c.tc : Thread nD τ).loc main_arg0)
abbrev argG : FVec Ideal S512 .f32 := m ((c.tc : Thread nD τ).loc main_arg1)
abbrev argW : FVec Ideal S512x3072 .f32 := m ((c.tc : Thread nD τ).loc main_arg2)

/-- The norm's weights over seven rows of zeros. -/
def normRows (g : FVec Ideal S512 .f32) : FVec Ideal S8x512 .f32 :=
  concatenate S8x512 0 [⟨S1x512, broadcastInDim S1x512 ![1] bcast_S512_S1x512_1 g⟩,
    ⟨S7x512, broadcastInDim S7x512 ![] bcast_S_S7x512 (constant (F := Ideal) S_ .f32 0x00000000#32)⟩] concatenates_S1x512_S7x512_S8x512_d0

theorem normRows_apply (g : FVec Ideal S512 .f32) (k : Fin 512) : normRows g (ix2 (0 : Fin 8) k) = g (ix1 k) := by
  unfold normRows
  refine (stacked_apply _ _ 0 (by simp) _ rfl 0 rfl (0 : Fin 8) k (0 : Fin 1) rfl).trans ?_
  exact broadcastInDim_apply _ _ g _ (ix1 k) (fun a => match a with | ⟨0, _⟩ => rfl)

/-- The weights with every head's columns padded with zeros to 256. -/
def padded (W : FVec Ideal S512x3072 .f32) : FVec Ideal S512x4096 .f32 :=
  shapeCast S512x4096 (pad S512x16x256 ![0, 0, 0] ![0, 0, 64] ![0, 0, 0] (shapeCast S512x16x192 W shapeCasts_S512x3072_S512x16x192)
    (sitofp (F := Ideal) .f32 (constantI S_ 32 0#32)) pads_S512x16x192_S512x16x256_000_000_0640 h_S_) shapeCasts_S512x16x256_S512x4096

theorem padded_apply (W : FVec Ideal S512x3072 .f32) (k : Fin 512) (h : Fin 16) (d : Fin 192) :
    padded W (ix2 k (⟨256 * h.val + d.val, by omega⟩ : Fin 4096)) = W (ix2 k (⟨192 * h.val + d.val, by omega⟩ : Fin 3072)) := by
  unfold padded
  refine (shapeCast_apply _ _ _ (ix3 k h (⟨d.val, by omega⟩ : Fin 256)) (by
    rewrite [Shape.rowMajor_val_two, Shape.rowMajor_val_three]
    show (k.val * 16 + h.val) * 256 + d.val = k.val * 4096 + (256 * h.val + d.val)
    omega)).trans ?_
  refine (pad_apply_of_inside _ _ _ _ _ _ _ _ (ix3 k h d) fun a => match a with
    | ⟨0, _⟩ => by show k.val = 0 + k.val * (0 + 1); omega
    | ⟨1, _⟩ => by show h.val = 0 + h.val * (0 + 1); omega
    | ⟨2, _⟩ => by show d.val = 0 + d.val * (0 + 1); omega).trans ?_
  exact shapeCast_apply _ _ _ _ (by
    rewrite [Shape.rowMajor_val_two, Shape.rowMajor_val_three]
    show k.val * 3072 + (192 * h.val + d.val) = (k.val * 16 + h.val) * 192 + d.val
    omega)

/-- The arrays at the launch. -/
theorem V_norm : (V m c main_v2 : FVec Ideal S8x512 .f32) = normRows (argG m c) := by
  unfold normRows
  unfold_abbrev_sides
  simp only [hostOps0, hostOps0_1, hostOps0_2, List.flatten_cons, List.flatten_nil, List.append_nil, List.cons_append, List.nil_append, StableHlo.TRef.unary, StableHlo.TRef.binary]
  after_results_simp
  rfl
theorem V_weights : (V m c main_v6 : FVec Ideal S512x4096 .bf16) = truncf .bf16 (padded (argW m c)) bitsLt_bf16_f32 := by
  unfold padded
  unfold_abbrev_sides
  simp only [hostOps0, hostOps0_1, hostOps0_2, List.flatten_cons, List.flatten_nil, List.append_nil, List.cons_append, List.nil_append, StableHlo.TRef.unary, StableHlo.TRef.binary]
  after_results_simp
  rfl
/-- Eight arrays side by side: the table. -/
def sideBySide (a b : FVec Ideal S16384x32 .f32) (z : FVec Ideal S16384x64 .f32) (n : FVec Ideal S16384x32 .f32) (z' : FVec Ideal S16384x96 .f32)
    (y s : FVec Ideal S16384x32 .f32) (y' : FVec Ideal S16384x64 .f32) : FVec Ideal S16384x384 .f32 :=
  concatenate S16384x384 1 [⟨S16384x32, a⟩, ⟨S16384x32, b⟩, ⟨S16384x64, z⟩, ⟨S16384x32, n⟩, ⟨S16384x96, z'⟩, ⟨S16384x32, y⟩, ⟨S16384x32, s⟩, ⟨S16384x64, y'⟩]
    concatenates_S16384x32_S16384x32_S16384x64_S16384x32_S16384x96_S16384x32_S16384x32_S16384x64_S16384x384_d1

/-- The last operation's result, each operand at its own buffer. -/
theorem side_result (hxs hy) (G : Valuation τ sig (Elt Ideal)) :
    (StableHlo.nary (τ := τ) (Val := Elt Ideal) ![main_v23, main_v23, main_v25, main_v26, main_v27, main_v28, main_v24, main_v29] main_v30
      (fun u => (concatenate S16384x384 1 [⟨S16384x32, (u 0 : (⟨S16384x32, .f32⟩ : BufTy).Contents (Elt Ideal))⟩, ⟨S16384x32, (u 1 : (⟨S16384x32, .f32⟩ : BufTy).Contents (Elt Ideal))⟩,
        ⟨S16384x64, (u 2 : (⟨S16384x64, .f32⟩ : BufTy).Contents (Elt Ideal))⟩, ⟨S16384x32, (u 3 : (⟨S16384x32, .f32⟩ : BufTy).Contents (Elt Ideal))⟩,
        ⟨S16384x96, (u 4 : (⟨S16384x96, .f32⟩ : BufTy).Contents (Elt Ideal))⟩, ⟨S16384x32, (u 5 : (⟨S16384x32, .f32⟩ : BufTy).Contents (Elt Ideal))⟩,
        ⟨S16384x32, (u 6 : (⟨S16384x32, .f32⟩ : BufTy).Contents (Elt Ideal))⟩, ⟨S16384x64, (u 7 : (⟨S16384x64, .f32⟩ : BufTy).Contents (Elt Ideal))⟩]
        concatenates_S16384x32_S16384x32_S16384x64_S16384x32_S16384x96_S16384x32_S16384x32_S16384x64_S16384x384_d1 : (⟨S16384x384, .f32⟩ : BufTy).Contents (Elt Ideal)))
      hxs hy).result G (Proc.devRef .tc main_v30)
      = sideBySide (G (Proc.devRef .tc main_v23)) (G (Proc.devRef .tc main_v23)) (G (Proc.devRef .tc main_v25)) (G (Proc.devRef .tc main_v26))
        (G (Proc.devRef .tc main_v27)) (G (Proc.devRef .tc main_v28)) (G (Proc.devRef .tc main_v24)) (G (Proc.devRef .tc main_v29)) := by
  rw [StableHlo.nary_result]
  rfl

theorem V_table : (V m c main_v30 : FVec Ideal S16384x384 .f32) = table := by
  unfold table angles
  unfold_abbrev_sides
  simp only [hostOps0, hostOps0_1, hostOps0_2, List.flatten_cons, List.flatten_nil, List.append_nil, List.cons_append, List.nil_append, StableHlo.TRef.unary, StableHlo.TRef.binary]
  simp only [StableHlo.after_cons, StableHlo.after_nil]
  rw [side_result]
  after_results_simp
  rfl

end Cert.Query

end
-- ==== Proof.Query.Value.lean ====
/-
  The query projection against the reference. `ref_apply` reads the reference's result at an entry; `row…`, `weight…`,
  `table…` read the kernel's blocks in the arguments; `final`: the array the kernel leaves is the reference's.
-/
module

public import proofs.«01_k».proof.Proof.Query.Block
public import proofs.«01_k».proof.Proof.Query.Host
public import proofs.«01_k».proof.Proof.Gen.ReferenceQueryIdeal.Read

@[expose] public section

noncomputable section

open Idealize.ShloMosaic hiding ix1 ix2 ix3 ix4
open Idealize.ShloMosaic.TcCoe Idealize.ShloMosaic.ValueIdx Cert.Common

namespace Cert.Query

open Cert.KernelQueryIdeal Cert.KernelQueryIdeal.Gen

section Reference

open Cert.ReferenceQueryIdeal.Read

variable (A : FVec Ideal S32768x1280 .f32) (g : FVec Ideal S512 .f32) (W : FVec Ideal S512x3072 .f32)

theorem ref_cos : val_main_v16 (F := Ideal) = Host.cos angles := rfl
theorem ref_sin : val_main_v17 (F := Ideal) = Host.sin angles := rfl

/-- A row of the compressed queries, normalized. -/
def normAt (n : Fin 32768) (k : Fin 512) : EReal := rmsRow (fun k => A (ix2 n (⟨k.val, by omega⟩ : Fin 1280))) (fun k => g (ix1 k)) k

theorem ref_row (b : Fin 2) (i : Fin 16384) (k : Fin 512) : val_main_v19 (F := Ideal) A (ix3 b i k) = A (ix2 (flat b i) (⟨k.val, by omega⟩ : Fin 1280)) := by
  rw [val_main_v19_apply, val_main_v18_apply]
  refine congrArg A (funext fun a => Fin.ext ?_)
  match a with
  | ⟨0, _⟩ => show ((b.val * 16384 + i.val) * 512 + k.val) / 512 = b.val * 16384 + i.val; omega
  | ⟨1, _⟩ => show ((b.val * 16384 + i.val) * 512 + k.val) % 512 = k.val; omega

theorem ref_square (b : Fin 2) (i : Fin 16384) : val_main_v24 (F := Ideal) A (ix3 b i (0 : Fin 1))
    = Ideal.div (∑ k : Fin 512, (A (ix2 (flat b i) (⟨k.val, by omega⟩ : Fin 1280)) : EReal) * (A (ix2 (flat b i) (⟨k.val, by omega⟩ : Fin 1280)) : EReal)) rank := by
  have e : val_main_v22 (F := Ideal) A (ix3 b i (0 : Fin 1))
      = ∑ k : Fin 512, (A (ix2 (flat b i) (⟨k.val, by omega⟩ : Fin 1280)) : EReal) * (A (ix2 (flat b i) (⟨k.val, by omega⟩ : Fin 1280)) : EReal) := by
    rw [val_main_v22_apply, val_main_v21_apply]
    refine Eq.trans (congrArg (· + _) Ideal.ofBits_zero_f32) ((zero_add _).trans (Finset.sum_congr rfl fun k _ => ?_))
    rw [← ref_row A b i k]
    exact (congrArg (val_main_v20 (F := Ideal) A) (ValueIdx.eq_ix3 _)).trans rfl
  refine Eq.trans ?_ (congrArg (fun y => Ideal.div y rank) e)
  rfl

theorem ref_norm (b : Fin 2) (i : Fin 16384) (k : Fin 512) : val_main_v32 (F := Ideal) A g (ix3 b i k) = normAt A g (flat b i) k := by
  have e28 : val_main_v28 (F := Ideal) A (ix3 b i k) = Ideal.rsqrt (val_main_v24 (F := Ideal) A (ix3 b i (0 : Fin 1)) + rmsEps) := by
    rw [val_main_v28_apply, show idx_main_v28 (ix3 b i k) = ix3 b i (0 : Fin 1) from ValueIdx.eq_ix3 _]
    rfl
  have e31 : val_main_v31 (F := Ideal) g (ix3 b i k) = g (ix1 k) := by
    rw [val_main_v31_apply, val_main_v30_apply]
    exact congrArg g (funext fun a => match a with | ⟨0, _⟩ => rfl)
  unfold normAt rmsRow
  beta_reduce
  rw [← ref_square, ← e28, ← e31, ← ref_row A b i k]
  rfl

/-- A normalized row times a column of the weights. -/
def dotAt (n : Fin 32768) (j : Fin 3072) : EReal := ∑ k : Fin 512, normAt A g n k * (W (ix2 k j) : EReal)

theorem ref_dot (b : Fin 2) (i : Fin 16384) (j : Fin 3072) : val_main_v33 (F := Ideal) A g W (ix3 b i j) = dotAt A g W (flat b i) j := by
  rw [val_main_v33_apply]
  refine Finset.sum_congr rfl fun k _ => ?_
  rw [show lidx_main_v33 (ix3 b i j) k = ix3 b i k from ValueIdx.eq_ix3 _, show ridx_main_v33 (ix3 b i j) k = ix2 k j from ValueIdx.eq_ix2 _, ref_norm]

theorem ref_head (b : Fin 2) (i : Fin 16384) (h : Fin 16) (e : Fin 192) :
    val_main_v34 (F := Ideal) A g W (ix4 b i h e) = dotAt A g W (flat b i) ⟨192 * h.val + e.val, by omega⟩ := by
  rw [val_main_v34_apply, ← ref_dot]
  refine congrArg (val_main_v33 (F := Ideal) A g W) (funext fun a => Fin.ext ?_)
  have := b.isLt; have := i.isLt; have := h.isLt; have := e.isLt
  match a with
  | ⟨0, _⟩ => show (((b.val * 16384 + i.val) * 16 + h.val) * 192 + e.val) / 50331648 = b.val; omega
  | ⟨1, _⟩ => show (((b.val * 16384 + i.val) * 16 + h.val) * 192 + e.val) / 3072 % 16384 = i.val; omega
  | ⟨2, _⟩ => show (((b.val * 16384 + i.val) * 16 + h.val) * 192 + e.val) % 3072 = 192 * h.val + e.val; omega

/-- The head's first half, and the two halves of its 64 places that are rotated. -/
theorem ref_nope (b : Fin 2) (i : Fin 16384) (h : Fin 16) (e : Fin 128) :
    val_main_v35 (F := Ideal) A g W (ix4 b i h e) = dotAt A g W (flat b i) ⟨192 * h.val + e.val, by omega⟩ := by
  rw [val_main_v35_apply, ← ref_head A g W b i h ⟨e.val, by omega⟩]
  exact congrArg _ (ValueIdx.eq_ix4 _)
theorem ref_low (b : Fin 2) (i : Fin 16384) (h : Fin 16) (e : Fin 32) :
    val_main_v39 (F := Ideal) A g W (ix4 b i h e) = dotAt A g W (flat b i) ⟨192 * h.val + (128 + e.val), by omega⟩ := by
  rw [val_main_v39_apply, val_main_v36_apply, ← ref_head A g W b i h ⟨128 + e.val, by omega⟩]
  exact congrArg _ (ValueIdx.eq_ix4 _)
theorem ref_high (b : Fin 2) (i : Fin 16384) (h : Fin 16) (e : Fin 32) :
    val_main_v40 (F := Ideal) A g W (ix4 b i h e) = dotAt A g W (flat b i) ⟨192 * h.val + (128 + (e.val + 32)), by omega⟩ := by
  rw [val_main_v40_apply, val_main_v36_apply, ← ref_head A g W b i h ⟨128 + (e.val + 32), by omega⟩]
  refine congrArg _ (funext fun a => Fin.ext ?_)
  match a with
  | ⟨0, _⟩ => rfl
  | ⟨1, _⟩ => rfl
  | ⟨2, _⟩ => rfl
  | ⟨3, _⟩ => show 128 + (32 + e.val) = 128 + (e.val + 32); omega

theorem ref_cos1 (b : Fin 2) (i : Fin 16384) (h : Fin 16) (e : Fin 32) : val_main_v42 (F := Ideal) (ix4 b i h e) = Host.cos angles (ix2 i e) := by
  rw [val_main_v42_apply, val_main_v41_apply, val_main_v37_apply, ref_cos]; exact congrArg _ (ValueIdx.eq_ix2 _)
theorem ref_sin1 (b : Fin 2) (i : Fin 16384) (h : Fin 16) (e : Fin 32) : val_main_v45 (F := Ideal) (ix4 b i h e) = Host.sin angles (ix2 i e) := by
  rw [val_main_v45_apply, val_main_v44_apply, val_main_v38_apply, ref_sin]; exact congrArg _ (ValueIdx.eq_ix2 _)
theorem ref_cos2 (b : Fin 2) (i : Fin 16384) (h : Fin 16) (e : Fin 32) : val_main_v49 (F := Ideal) (ix4 b i h e) = Host.cos angles (ix2 i e) := by
  rw [val_main_v49_apply, val_main_v48_apply, val_main_v37_apply, ref_cos]; exact congrArg _ (ValueIdx.eq_ix2 _)
theorem ref_sin2 (b : Fin 2) (i : Fin 16384) (h : Fin 16) (e : Fin 32) : val_main_v52 (F := Ideal) (ix4 b i h e) = Host.sin angles (ix2 i e) := by
  rw [val_main_v52_apply, val_main_v51_apply, val_main_v38_apply, ref_sin]; exact congrArg _ (ValueIdx.eq_ix2 _)

/-- The places of a head that are rotated. -/
def ropeAt (b : Fin 2) (h : Fin 16) (i : Fin 16384) (j : Fin 128) : EReal :=
  rotated (fun e => dotAt A g W (flat b i) ⟨192 * h.val + (128 + e.val), by omega⟩) (fun k => Host.cos angles (ix2 i k)) (fun k => Host.sin angles (ix2 i k)) j

theorem ref_rope (b : Fin 2) (i : Fin 16384) (h : Fin 16) (j : Fin 64) :
    val_main_v55 (F := Ideal) A g W (ix4 b i h j) = ropeAt A g W b h i ⟨j.val, by omega⟩ := by
  have hj := j.isLt
  unfold val_main_v55 ropeAt rotated
  by_cases a : j.val < 32
  · refine (last_apply _ _ 0 (by simp) _ rfl 0 rfl b i h j (⟨j.val, a⟩ : Fin 32) (by simp)).trans ?_
    rw [dif_pos a]
    dsimp only
    rw [← ref_low A g W b i h ⟨j.val, a⟩, ← ref_high A g W b i h ⟨j.val, a⟩, ← ref_cos1 b i h ⟨j.val, a⟩, ← ref_sin1 b i h ⟨j.val, a⟩]
    rfl
  · refine (last_apply _ _ 1 (by simp) _ rfl 32 rfl b i h j (⟨j.val - 32, by omega⟩ : Fin 32) (by show 32 + (j.val - 32) = j.val; omega)).trans ?_
    have eh := ref_high A g W b i h ⟨j.val - 32, by omega⟩
    rw [show (⟨192 * h.val + (128 + (j.val - 32 + 32)), by omega⟩ : Fin 3072) = ⟨192 * h.val + (128 + j.val), by omega⟩ from
      Fin.ext (by show 192 * h.val + (128 + (j.val - 32 + 32)) = 192 * h.val + (128 + j.val); omega)] at eh
    rw [dif_neg a, dif_pos hj]
    dsimp only
    rw [← eh, ← ref_low A g W b i h ⟨j.val - 32, by omega⟩, ← ref_cos2 b i h ⟨j.val - 32, by omega⟩, ← ref_sin2 b i h ⟨j.val - 32, by omega⟩]
    rfl

/-- An entry of the padded heads before the scale. -/
def entryAt (b : Fin 2) (h : Fin 16) (i : Fin 16384) (d : Fin 256) : EReal :=
  if hd : d.val < 128 then dotAt A g W (flat b i) ⟨192 * h.val + d.val, by omega⟩ else ropeAt A g W b h i ⟨d.val - 128, by omega⟩

theorem ref_entry (b : Fin 2) (i : Fin 16384) (h : Fin 16) (d : Fin 256) :
    val_main_v58 (F := Ideal) A g W (ix4 b i h d) = entryAt A g W b h i d := by
  have hd := d.isLt
  unfold val_main_v58 entryAt
  by_cases a : d.val < 128
  · rw [dif_pos a, ← ref_nope A g W b i h ⟨d.val, a⟩]
    exact last_apply _ _ 0 (by simp) _ rfl 0 rfl b i h d (⟨d.val, a⟩ : Fin 128) (by simp)
  · rw [dif_neg a]
    by_cases a' : d.val < 192
    · rw [← ref_rope A g W b i h ⟨d.val - 128, by omega⟩]
      exact last_apply _ _ 1 (by simp) _ rfl 128 rfl b i h d (⟨d.val - 128, by omega⟩ : Fin 64) (by show 128 + (d.val - 128) = d.val; omega)
    · refine (last_apply _ _ 2 (by simp) _ rfl 192 rfl b i h d (⟨d.val - 192, by omega⟩ : Fin 64) (by show 192 + (d.val - 192) = d.val; omega)).trans ?_
      unfold ropeAt rotated
      rw [dif_neg (show ¬ d.val - 128 < 32 by omega), dif_neg (show ¬ d.val - 128 < 64 by omega)]
      rw [val_main_v56_apply]
      exact Ideal.ofBits_zero_f32

/-- The scale the reference takes is the kernel's. -/
theorem scale_host : Ideal.rsqrt (Ideal.ofBits .f32 0x43400000#32) = scale := by
  rw [show Ideal.ofBits .f32 0x43400000#32 = ((192 : ℝ) : EReal) by simp [Ideal.ofBits, Ideal.ieee, -EReal.coe_mul]; norm_num]
  rw [Ideal.rsqrt_coe, if_neg (by norm_num), if_neg (by norm_num)]
  rfl

/-- The reference's entry. -/
theorem ref_apply (b : Fin 2) (h : Fin 16) (i : Fin 16384) (d : Fin 256) :
    val_main_v62 (F := Ideal) A g W (ix4 b h i d) = entryAt A g W b h i d * scale := by
  have e61 : val_main_v61 (F := Ideal) A g W (ix4 b h i d) = val_main_v60 (F := Ideal) A g W (ix4 b i h d) := by
    rw [val_main_v61_apply]; exact congrArg _ (ValueIdx.eq_ix4 _)
  have e59 : val_main_v59 (F := Ideal) (ix4 b i h d) = scale := by
    rw [val_main_v59_apply]; exact scale_host
  rw [← ref_entry, ← e59]
  exact e61

end Reference

variable (m : (ℓ : Loc nD τ sig) → Buf (Elt Ideal) ℓ) (c : Dev nD)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![t.val % 32, 0] := (by decide +kernel : ∀ t : Fin grid0.N, win0_3.index t = ![t.val % 32, 0])
theorem index4 : ∀ t : Fin cfg0.N, win0_4.index t = ![t.val / 32, 0, t.val % 32, 0] :=
  (by decide +kernel : ∀ t : Fin grid0.N, win0_4.index t = ![t.val / 32, 0, t.val % 32, 0])

variable (t : Fin cfg0.N)
theorem lt_N : t.val < 64 := Nat.lt_of_lt_of_eq t.isLt (by decide)

/-- The sequence and the position of a block's row. -/
def seqOf : Fin 2 := ⟨t.val / 32, by have := lt_N t; omega⟩
def posOf (r : Fin 512) : Fin 16384 := ⟨t.val % 32 * 512 + r.val, by omega⟩

theorem rowA (r : Fin 512) (k : Fin 512) : X0_0 m c t (ix2 r k) = argA m c (ix2 (flat (seqOf t) (posOf t r)) (⟨k.val, by omega⟩ : Fin 1280)) := by
  unfold X0_0 Pipeline.Window.fill
  rw [dif_pos (moved0_0 t _)]
  blk_simp [iblk]
  rw [V_main_arg0]
  refine congrArg (argA m c) (funext fun a => Fin.ext ?_)
  match a with
  | ⟨0, _⟩ => blk_simp [index0]; show t.val * 512 + r.val = t.val / 32 * 16384 + (t.val % 32 * 512 + r.val); omega
  | ⟨1, _⟩ => blk_simp [index0]
theorem rowG (k : Fin 512) : iblk m c 1 t (ix2 (0 : Fin 8) k) = argG m c (ix1 k) := by
  refine Eq.trans ?_ (normRows_apply (argG m c) k)
  blk_simp [iblk]
  refine (congrFun (V_norm m c) _).trans ?_
  refine congrArg (normRows (argG m c)) (funext fun a => Fin.ext ?_)
  match a with
  | ⟨0, _⟩ => blk_simp [index1]
  | ⟨1, _⟩ => blk_simp [index1]
theorem rowW (k : Fin 512) (j : Fin 4096) : iblk m c 2 t (ix2 k j) = padded (argW m c) (ix2 k j) := by
  blk_simp [iblk]
  refine (congrFun (V_weights m c) _).trans ?_
  refine congrArg (padded (argW m c)) (funext fun a => Fin.ext ?_)
  match a with
  | ⟨0, _⟩ => blk_simp [index2]
  | ⟨1, _⟩ => blk_simp [index2]
theorem rowT (r : Fin 512) (k : Fin 384) : iblk m c 3 t (ix2 r k) = table (ix2 (posOf t r) k) := by
  blk_simp [iblk]
  refine (congrFun (V_table m c) _).trans ?_
  refine congrArg table (funext fun a => Fin.ext ?_)
  match a with
  | ⟨0, _⟩ => blk_simp [index3]; rfl
  | ⟨1, _⟩ => blk_simp [index3]

/-- A column of the block's product in the arguments. -/
theorem col_eq (r : Fin 512) (h : Fin 16) (d : Fin 192) :
    colAt (X0_0 m c t) (iblk m c 1 t) (iblk m c 2 t) r ⟨256 * h.val + d.val, by omega⟩
      = dotAt (argA m c) (argG m c) (argW m c) (flat (seqOf t) (posOf t r)) ⟨192 * h.val + d.val, by omega⟩ := by
  unfold colAt dotAt normAt
  refine Finset.sum_congr rfl fun k _ => ?_
  have e0 : (fun k : Fin 512 => (show EReal from X0_0 m c t (ix2 r k))) = fun k => argA m c (ix2 (flat (seqOf t) (posOf t r)) (⟨k.val, by omega⟩ : Fin 1280)) :=
    funext fun k => rowA m c t r k
  have e1 : (fun k : Fin 512 => (show EReal from iblk m c 1 t (ix2 (0 : Fin 8) k))) = fun k => argG m c (ix1 k) := funext fun k => rowG m c t k
  have e2 := (rowW m c t k ⟨256 * h.val + d.val, by omega⟩).trans (padded_apply (argW m c) k h d)
  rw [← e0, ← e1, ← e2]

/-- An entry of the block left is the reference's. -/
theorem head_eq (h : Fin 16) (r : Fin 512) (d : Fin 256) :
    headAt (X0_0 m c t) (iblk m c 1 t) (iblk m c 2 t) (iblk m c 3 t) h r d
      = entryAt (argA m c) (argG m c) (argW m c) (seqOf t) h (posOf t r) d * scale := by
  unfold headAt entryAt
  by_cases a : d.val < 128
  · rw [dif_pos a, dif_pos a, col_eq m c t r h ⟨d.val, by omega⟩]
  · rw [dif_neg a, dif_neg a]
    have e : (fun k : Fin 384 => (show EReal from iblk m c 3 t (ix2 r k))) = fun k => table (ix2 (posOf t r) k) := funext fun k => rowT m c t r k
    refine congrArg (· * scale) ?_
    refine (congrArg (fun T => turn (fun e => colAt (X0_0 m c t) (iblk m c 1 t) (iblk m c 2 t) r ⟨256 * h.val + (128 + e.val), by omega⟩) T ⟨d.val - 128, by omega⟩) e).trans ?_
    rw [rotated_of_table table _ _ table_is]
    unfold ropeAt
    refine congrArg (fun f => rotated f (fun k => Host.cos angles (ix2 (posOf t r) k)) (fun k => Host.sin angles (ix2 (posOf t r) k)) ⟨d.val - 128, by omega⟩) ?_
    exact funext fun e => col_eq m c t r h ⟨128 + e.val, by omega⟩

/-- The array the kernel leaves is the reference's. -/
theorem final : (dats m 0 c).arrAt 4 cfg0.N = Cert.ReferenceQueryIdeal.Read.val_main_v62 (F := Ideal) (argA m c) (argG m c) (argW m c) := by
  refine (dats m 0 c).arrAt_eq_of_covers 4 _ (by decide +kernel) fun t _ y => ?_
  blk_simp
  rw [after0_4]
  unfold outsAt0
  refine (block_apply (X0_0 m c t) (iblk m c 1 t) (iblk m c 2 t) (iblk m c 3 t) c (grid0.coords t) (ms0_0 t) (hs0_0 t) (ms0_1 t) (hs0_1 t) (ms0_2 t) (hs0_2 t)
    (ms0_3 t) (hs0_3 t) (ms0_4 t) (hs0_4 t) _).trans ?_
  obtain ⟨a, h, r, d, rfl⟩ : ∃ (a : Fin 1) (h : Fin 16) (r : Fin 512) (d : Fin 256), y = ix4 a h r d := ⟨y 0, y 1, y 2, y 3, ValueIdx.eq_ix4 y⟩
  obtain rfl : a = 0 := Subsingleton.elim _ _
  refine (head_eq m c t h r d).trans ?_
  rw [← ref_apply]
  refine congrArg _ (funext fun a => Fin.ext ?_)
  match a with
  | ⟨0, _⟩ => blk_simp [index4]; rfl
  | ⟨1, _⟩ => blk_simp [index4]
  | ⟨2, _⟩ => blk_simp [index4]; rfl
  | ⟨3, _⟩ => blk_simp [index4]

end Cert.Query

end
-- ==== Proof.Query.Claims.lean ====
/-
  The claims about the query projection: the three runs leave their arguments and the counters as they were, and the kernel and the
  reference leave the same array.
-/
module

public import proofs.«01_k».proof.Defs
public import proofs.«01_k».proof.Proof.Gen.KernelQuery.Frame
public import proofs.«01_k».proof.Proof.Gen.ReferenceQueryIdeal.Run
public import proofs.«01_k».proof.Proof.Query.Value
public import Idealize.ShloMosaic.Lib.Quiescent

@[expose] public section

noncomputable section

open Idealize.ShloMosaic Idealize.SL.Sem

namespace Cert.Query

theorem frame_kernel : Cert.quiescent_KernelQuery (hKernelQuery := Cert.KernelQuery.Gen.facts) := fun m ρ _ => Cert.KernelQuery.Gen.frame m ρ
theorem frame_ideal : Cert.quiescent_KernelQueryIdeal (hKernelQueryIdeal := Cert.KernelQueryIdeal.Gen.facts) := fun m ρ _ => Cert.KernelQueryIdeal.Gen.frame m ρ
theorem frame_ref : Cert.quiescent_ReferenceQueryIdeal (hReferenceQueryIdeal := Cert.ReferenceQueryIdeal.Gen.facts) := fun m ρ _ =>
  (θ_run _ _ _).mono (fun r h => ⟨fun c => (h c).2, sem_eq_zero_of_no_sems (by decide) r.2⟩) (Cert.ReferenceQueryIdeal.Value.run (F := Ideal) m ρ)

/-- What the idealization names is what it says. -/
theorem preserves : Cert.preserves_KernelQuery_KernelQueryIdeal := IdealRules.named_const.statement Cert.KernelQueryIdeal.κ "scale" .f32 0x3D93CD3A#32 (((Real.sqrt 192)⁻¹ : ℝ) : EReal) rfl

/-- The kernel's result is the reference's. -/
theorem algebraic : Cert.algebraic_KernelQueryIdeal_ReferenceQueryIdeal (hKernelQueryIdeal := Cert.KernelQueryIdeal.Gen.facts)
    (hReferenceQueryIdeal := Cert.ReferenceQueryIdeal.Gen.facts) := fun m ρ m' ρ' _ hm =>
  ⟨fun c => Cert.ReferenceQueryIdeal.Read.val_main_v62 (F := Ideal) (argA m c) (argG m c) (argW m c),
    (θ_run _ _ _).mono (fun r h c => ⟨(h c).1.trans (final m c), (h c).2⟩) (Cert.KernelQueryIdeal.Value.run_blocks (F := Ideal) m ρ),
    (θ_run _ _ _).mono (fun r h c => ⟨(h c).1.trans (by rw [Cert.ReferenceQueryIdeal.Read.val_main_v62_eq, (hm c).1, (hm c).2.1, (hm c).2.2]),
        (h c).2⟩)
      (Cert.ReferenceQueryIdeal.Value.run (F := Ideal) m' ρ')⟩

end Cert.Query

end
-- ==== Proof.Keyvalue.Block.lean ====
/-
  The key and value projection's blocks: what the body leaves of the input blocks. `own_apply`, `value_apply` and
  `shared_apply` read what it stores of a head; `keys_apply` and `values_apply`: every entry of the two blocks left.
-/
module

public import proofs.«01_k».proof.Proof.Gen.KernelKeyvalueIdeal.Value
public import proofs.«01_k».proof.Proof.Rope
public import Idealize.ShloMosaic.Lib.MatmulPlain
public import Idealize.ShloMosaic.Lib.Pipeline.ValueKit
public import Idealize.ShloMosaic.Lib.Pipeline.ReadBack
public import Idealize.ShloMosaic.Lib.Tactic

@[expose] public section

noncomputable section

open Idealize.ShloMosaic hiding ix1 ix2 ix3 ix4
open Idealize.ShloMosaic.TcCoe Idealize.ShloMosaic.ValueIdx Cert.Common Idealize.ShloMosaic.Tactic

namespace Cert.Keyvalue

open Cert.KernelKeyvalueIdeal Cert.KernelKeyvalueIdeal.Gen

/-- The kernel's product holds the sums of products. -/
theorem mm_apply (a : FVec Ideal S512x512 .bf16) (w : Vec Ideal S512x256 .bf16) (r : Fin 512) (j : Fin 256) :
    k0_pay3 (F := Ideal) a w (ix2 r j) = ∑ k : Fin 512, (a (ix2 r k) : EReal) * (w (ix2 k j) : EReal) := by
  unfold k0_pay3
  rw [shapeCast_self]
  refine (Ideal.matmul_plain_apply (M := 512) (K := 512) (N := 256) none _ _ _ r j).trans ?_
  show Ideal.ofBits .f32 0x00000000#32 + _ = _
  rw [Ideal.ofBits_zero_f32, zero_add]

/-- The rows' norm. -/
theorem norm_apply (x : Vec Ideal S512x512 .f32) (w : Vec Ideal S1x512 .f32) (r k : Fin 512) :
    k0_pay7 (F := Ideal) x w (ix2 r k) = rmsRow (fun k => x (ix2 r k)) (fun k => w (ix2 (0 : Fin 1) k)) k := by
  rw [← rmsBlock_apply reduces_S512x512_S512 shapeCasts_S512_S512x1 broadcasts_S512x1_S512x512 broadcasts_S1x512_S512x512]
  unfold k0_pay7 rmsBlock squareCol
  rw [shapeCast_self w]
  rfl

/-- A block's place in the block of one head. -/
theorem unit_cast (v : FVec Ideal S512x128 .bf16) (r : Fin 512) (j : Fin 128) :
    shapeCast S1x1x512x128 v shapeCasts_S512x128_S1x1x512x128 (ix4 (0 : Fin 1) (0 : Fin 1) r j) = v (ix2 r j) :=
  shapeCast_apply _ _ _ _ (by
    rewrite [Shape.rowMajor_val_two, Shape.rowMajor_val_four]
    show r.val * 128 + j.val = ((0 * 1 + 0) * 512 + r.val) * 128 + j.val
    omega)

/-- The halves of a block. -/
theorem left_half (v : FVec Ideal S512x256 .f32) (r : Fin 512) (j : Fin 128) :
    extractStridedSlice S512x128 ![0, 0] v slices_S512x256_o0_0_S512x128 (ix2 r j) = v (ix2 r (⟨j.val, by omega⟩ : Fin 256)) :=
  extractStridedSlice_apply ![0, 0] v _ _ _ fun a => match a with
    | ⟨0, _⟩ => by show r.val = 0 + r.val; omega
    | ⟨1, _⟩ => by show j.val = 0 + j.val; omega
theorem right_half (v : FVec Ideal S512x256 .f32) (r : Fin 512) (j : Fin 128) :
    extractStridedSlice S512x128 ![0, 128] v slices_S512x256_o0_128_S512x128 (ix2 r j) = v (ix2 r (⟨128 + j.val, by omega⟩ : Fin 256)) :=
  extractStridedSlice_apply ![0, 128] v _ _ _ fun a => match a with
    | ⟨0, _⟩ => by show r.val = 0 + r.val; omega
    | ⟨1, _⟩ => rfl

/-- A key's own places. -/
theorem own_apply (a : FVec Ideal S512x512 .bf16) (w : Vec Ideal S512x256 .bf16) (r : Fin 512) (j : Fin 128) :
    k0_pay4 (F := Ideal) a w (ix4 (0 : Fin 1) (0 : Fin 1) r j)
      = ∑ k : Fin 512, (a (ix2 r k) : EReal) * (w (ix2 k (⟨j.val, by omega⟩ : Fin 256)) : EReal) := by
  have e : k0_pay4 (F := Ideal) a w = shapeCast S1x1x512x128 (truncf .bf16
      (extractStridedSlice S512x128 ![0, 0] (k0_pay3 (F := Ideal) a w) slices_S512x256_o0_0_S512x128) bitsLt_bf16_f32) shapeCasts_S512x128_S1x1x512x128 := rfl
  rw [e]
  refine (unit_cast _ r j).trans ?_
  rw [← mm_apply]
  exact left_half (k0_pay3 (F := Ideal) a w) r j

/-- A value's places. -/
theorem value_apply (a : FVec Ideal S512x512 .bf16) (w : Vec Ideal S512x256 .bf16) (r : Fin 512) (j : Fin 128) :
    k0_pay6 (F := Ideal) a w (ix4 (0 : Fin 1) (0 : Fin 1) r j)
      = ∑ k : Fin 512, (a (ix2 r k) : EReal) * (w (ix2 k (⟨128 + j.val, by omega⟩ : Fin 256)) : EReal) := by
  have e : k0_pay6 (F := Ideal) a w = shapeCast S1x1x512x128 (truncf .bf16
      (extractStridedSlice S512x128 ![0, 128] (k0_pay3 (F := Ideal) a w) slices_S512x256_o0_128_S512x128) bitsLt_bf16_f32) shapeCasts_S512x128_S1x1x512x128 := rfl
  rw [e]
  refine (unit_cast _ r j).trans ?_
  rw [← mm_apply]
  exact right_half (k0_pay3 (F := Ideal) a w) r j

/-- The places of a key that the heads share. -/
theorem shared_apply (t : Vec Ideal S512x128 .f32) (T : Vec Ideal S512x384 .f32) (r : Fin 512) (j : Fin 128) :
    k0_pay1 (F := Ideal) (k0_pay8 t T) (ix4 (0 : Fin 1) (0 : Fin 1) r j) = turn (fun e => t (ix2 r e)) (fun k => T (ix2 r k)) j := by
  have e : k0_pay1 (F := Ideal) (k0_pay8 t T) = shapeCast S1x1x512x128 (truncf .bf16 (ropeBlock slices_S512x384_o0_0_S512x128
      slices_S512x384_o0_128_S512x128 slices_S512x384_o0_256_S512x128 rotates_S512x128_d1 t (shapeCast S512x384 T shapeCasts_S512x384_S512x384))
      bitsLt_bf16_f32) shapeCasts_S512x128_S1x1x512x128 := rfl
  rw [e, shapeCast_self T]
  exact (unit_cast _ r j).trans (ropeBlock_apply _ _ _ _ t T r j)

section Block

variable (x0 : Vec Ideal S512x512 .f32) (x1 : Vec Ideal S512x128 .f32) (x2 : Vec Ideal S8x512 .f32) (x3 : Vec Ideal S512x4096 .bf16) (x4 : Vec Ideal S512x384 .f32)

/-- The product of a normalized row and a column of the weights' block. -/
def colAt (r : Fin 512) (j : Fin 4096) : EReal :=
  ∑ k : Fin 512, rmsRow (fun k => x0 (ix2 r k)) (fun k => x2 (ix2 (0 : Fin 8) k)) k * (x3 (ix2 k j) : EReal)

/-- An entry of the keys' block: head, row, place in the head. -/
def keyAt (h : Fin 16) (r : Fin 512) (d : Fin 256) : EReal :=
  if hd : d.val < 128 then colAt x0 x2 x3 r ⟨256 * h.val + d.val, by omega⟩
  else turn (fun e => x1 (ix2 r e)) (fun k => x4 (ix2 r k)) ⟨d.val - 128, by omega⟩

/-- The two blocks of these entries. -/
def keyBlock (y : S1x16x512x256.Idx) : EReal := keyAt x0 x1 x2 x3 x4 (y 1) (y 2) (y 3)
def valueBlock (y : S1x16x512x128.Idx) : EReal :=
  colAt x0 x2 x3 (y 2) ⟨256 * (y 1).val + (128 + (y 3).val), by have := (y 1).isLt; have := (y 3).isLt; simp at *; omega⟩

/-- The normalized rows times a column of the columns the body loads. -/
theorem col_of (h : Fin 16) (off : Nat) (ho : off = 256 * h.val) (inbW) (r : Fin 512) (e : Fin 256) :
    (∑ k : Fin 512, (k0_pay7 (F := Ideal) x0 (View.ld x2 (Rect.unit ![0, 0] ![1, 512] inb_S8x512_S1x512_0_0)) (ix2 r k) : EReal)
        * (View.ld x3 (Rect.unit (s := S512x4096) ![0, off] ![512, 256] inbW) (ix2 k e) : EReal))
      = colAt x0 x2 x3 r ⟨256 * h.val + e.val, by omega⟩ := by
  unfold colAt
  refine Finset.sum_congr rfl fun k _ => ?_
  rw [norm_apply]
  have e1 : (fun k : Fin 512 => (View.ld x2 (Rect.unit ![0, 0] ![1, 512] inb_S8x512_S1x512_0_0) (ix2 (0 : Fin 1) k) : EReal)) = fun k => x2 (ix2 (0 : Fin 8) k) :=
    funext fun k => View.ld_unit_apply_of x2 _ _ _ _ _ fun a => match a with
      | ⟨0, _⟩ => rfl
      | ⟨1, _⟩ => by show k.val = 0 + k.val; omega
  have e2 : View.ld x3 (Rect.unit (s := S512x4096) ![0, off] ![512, 256] inbW) (ix2 k e) = x3 (ix2 k (⟨256 * h.val + e.val, by omega⟩ : Fin 4096)) :=
    View.ld_unit_apply_of x3 _ _ _ _ _ fun a => match a with
      | ⟨0, _⟩ => by show k.val = 0 + k.val; omega
      | ⟨1, _⟩ => by show 256 * h.val + e.val = off + e.val; omega
  rw [e2]
  exact congrArg (fun w => rmsRow (fun k => x0 (ix2 r k)) w k * (x3 (ix2 k (⟨256 * h.val + e.val, by omega⟩ : Fin 4096)) : EReal)) e1

/-- A stored piece's place in the block: axis by axis. -/
theorem place (w : Nat) (h : Fin 16) (o : Nat) (ho : o = h.val) (q : Nat) (inb) (r : Fin 512) (j : Fin 128) (d : Fin w) (hd : d.val = q + j.val) :
    (Rect.unit (s := ⟨4, ![1, 16, 512, w]⟩) ![0, o, 0, q] ![1, 1, 512, 128] inb).emb (ix4 (0 : Fin 1) (0 : Fin 1) r j) = ix4 (0 : Fin 1) h r d :=
  funext fun a => Fin.ext (match a with
    | ⟨0, _⟩ => rfl
    | ⟨1, _⟩ => by show o + 1 * 0 = h.val; omega
    | ⟨2, _⟩ => by show 0 + 1 * r.val = r.val; omega
    | ⟨3, _⟩ => by show q + 1 * j.val = d.val; omega)

theorem key_piece (h : Fin 16) (off : Nat) (ho : off = 256 * h.val) (o : Nat) (ho' : o = h.val) (inbW) (inb) (x : S1x1x512x128.Idx) :
    k0_pay4 (F := Ideal) (k0_pay7 x0 (View.ld x2 (Rect.unit ![0, 0] ![1, 512] inb_S8x512_S1x512_0_0)))
        (View.ld x3 (Rect.unit (s := S512x4096) ![0, off] ![512, 256] inbW)) x
      = keyBlock x0 x1 x2 x3 x4 ((Rect.unit (s := S1x16x512x256) ![0, o, 0, 0] ![1, 1, 512, 128] inb).emb x) := by
  obtain ⟨a, b, r, j, rfl⟩ : ∃ (a b : Fin 1) (r : Fin 512) (j : Fin 128), x = ix4 a b r j := ⟨x 0, x 1, x 2, x 3, ValueIdx.eq_ix4 x⟩
  obtain rfl : a = 0 := Subsingleton.elim _ _
  obtain rfl : b = 0 := Subsingleton.elim _ _
  rw [own_apply, col_of x0 x2 x3 h off ho inbW r ⟨j.val, by omega⟩]
  have e := place 256 h o ho' 0 inb r j (⟨j.val, by omega⟩ : Fin 256) (by show j.val = 0 + j.val; omega)
  refine Eq.trans ?_ (congrArg (keyBlock x0 x1 x2 x3 x4) e.symm)
  show _ = keyAt x0 x1 x2 x3 x4 h r (⟨j.val, by omega⟩ : Fin 256)
  unfold keyAt
  rw [dif_pos (show j.val < 128 from j.isLt)]

theorem shared_piece (h : Fin 16) (o : Nat) (ho' : o = h.val) (inb) (x : S1x1x512x128.Idx) :
    k0_pay1 (F := Ideal) (k0_pay8 x1 x4) x
      = keyBlock x0 x1 x2 x3 x4 ((Rect.unit (s := S1x16x512x256) ![0, o, 0, 128] ![1, 1, 512, 128] inb).emb x) := by
  obtain ⟨a, b, r, j, rfl⟩ : ∃ (a b : Fin 1) (r : Fin 512) (j : Fin 128), x = ix4 a b r j := ⟨x 0, x 1, x 2, x 3, ValueIdx.eq_ix4 x⟩
  obtain rfl : a = 0 := Subsingleton.elim _ _
  obtain rfl : b = 0 := Subsingleton.elim _ _
  rw [shared_apply]
  have e := place 256 h o ho' 128 inb r j (⟨128 + j.val, by omega⟩ : Fin 256) rfl
  refine Eq.trans ?_ (congrArg (keyBlock x0 x1 x2 x3 x4) e.symm)
  show _ = keyAt x0 x1 x2 x3 x4 h r (⟨128 + j.val, by omega⟩ : Fin 256)
  unfold keyAt
  rw [dif_neg (show ¬ 128 + j.val < 128 by omega), show (⟨128 + j.val - 128, by omega⟩ : Fin 128) = j from Fin.ext (by show 128 + j.val - 128 = j.val; omega)]

theorem value_piece (h : Fin 16) (off : Nat) (ho : off = 256 * h.val) (o : Nat) (ho' : o = h.val) (inbW) (inb) (x : S1x1x512x128.Idx) :
    k0_pay6 (F := Ideal) (k0_pay7 x0 (View.ld x2 (Rect.unit ![0, 0] ![1, 512] inb_S8x512_S1x512_0_0)))
        (View.ld x3 (Rect.unit (s := S512x4096) ![0, off] ![512, 256] inbW)) x
      = valueBlock x0 x2 x3 ((Rect.unit (s := S1x16x512x128) ![0, o, 0, 0] ![1, 1, 512, 128] inb).emb x) := by
  obtain ⟨a, b, r, j, rfl⟩ : ∃ (a b : Fin 1) (r : Fin 512) (j : Fin 128), x = ix4 a b r j := ⟨x 0, x 1, x 2, x 3, ValueIdx.eq_ix4 x⟩
  obtain rfl : a = 0 := Subsingleton.elim _ _
  obtain rfl : b = 0 := Subsingleton.elim _ _
  rw [value_apply, col_of x0 x2 x3 h off ho inbW r ⟨128 + j.val, by omega⟩]
  have e := place 128 h o ho' 0 inb r j j (by omega)
  exact (congrArg (valueBlock x0 x2 x3) e.symm).trans rfl

/-- The body leaves these entries. -/
theorem keys_apply (c : Dev nD) (i : grid0.Coords) (arg1 : Memref sig .tc .vmem S512x512 .f32) (harg1 : arg1.IsWhole) (arg2 : Memref sig .tc .vmem S512x128 .f32)
    (harg2 : arg2.IsWhole) (arg3 : Memref sig .tc .vmem S8x512 .f32) (harg3 : arg3.IsWhole) (arg4 : Memref sig .tc .vmem S512x4096 .bf16) (harg4 : arg4.IsWhole)
    (arg5 : Memref sig .tc .vmem S512x384 .f32) (harg5 : arg5.IsWhole) (arg6 : Memref sig .tc .vmem S1x16x512x256 .bf16) (harg6 : arg6.IsWhole)
    (arg7 : Memref sig .tc .vmem S1x16x512x128 .bf16) (harg7 : arg7.IsWhole) (y : S1x16x512x256.Idx) :
    out0_A_5 (F := Ideal) c i arg1 harg1 arg2 harg2 arg3 harg3 arg4 harg4 arg5 harg5 arg6 harg6 arg7 harg7 x0 x1 x2 x3 x4 y = keyBlock x0 x1 x2 x3 x4 y := by
  have hc := cover0_A_5 c i arg1 harg1 arg2 harg2 arg3 harg3 arg4 harg4 arg5 harg5 arg6 harg6 arg7 harg7 x0 x1 x2 x3 x4
  unfold out0_A_5
  rw [View.read_writes_eq_canon _ _ _ hc]
  refine View.canon_apply_of_pieces (keyBlock x0 x1 x2 x3 x4) _ (View.PiecesOf.mem ?_) y (hc y)
  unfold kernelRun0_A
  dsimp only
  sl_unfold_words
  simp only [View.PiecesOf, View.readAt_eq_ld, harg1.read_unread, harg2.read_unread, harg3.read_unread, harg4.read_unread, harg5.read_unread,
    View.ld_unit_zero (S := S512x512) hz2, View.ld_unit_zero (S := S512x128) hz2, View.ld_unit_zero (S := S512x384) hz2]
  refine ⟨
    fun x => shared_piece x0 x1 x2 x3 x4 15 15 rfl _ x,
    fun x => key_piece x0 x1 x2 x3 x4 15 3840 rfl 15 rfl _ _ x,
    fun x => shared_piece x0 x1 x2 x3 x4 14 14 rfl _ x,
    fun x => key_piece x0 x1 x2 x3 x4 14 3584 rfl 14 rfl _ _ x,
    fun x => shared_piece x0 x1 x2 x3 x4 13 13 rfl _ x,
    fun x => key_piece x0 x1 x2 x3 x4 13 3328 rfl 13 rfl _ _ x,
    fun x => shared_piece x0 x1 x2 x3 x4 12 12 rfl _ x,
    fun x => key_piece x0 x1 x2 x3 x4 12 3072 rfl 12 rfl _ _ x,
    fun x => shared_piece x0 x1 x2 x3 x4 11 11 rfl _ x,
    fun x => key_piece x0 x1 x2 x3 x4 11 2816 rfl 11 rfl _ _ x,
    fun x => shared_piece x0 x1 x2 x3 x4 10 10 rfl _ x,
    fun x => key_piece x0 x1 x2 x3 x4 10 2560 rfl 10 rfl _ _ x,
    fun x => shared_piece x0 x1 x2 x3 x4 9 9 rfl _ x,
    fun x => key_piece x0 x1 x2 x3 x4 9 2304 rfl 9 rfl _ _ x,
    fun x => shared_piece x0 x1 x2 x3 x4 8 8 rfl _ x,
    fun x => key_piece x0 x1 x2 x3 x4 8 2048 rfl 8 rfl _ _ x,
    fun x => shared_piece x0 x1 x2 x3 x4 7 7 rfl _ x,
    fun x => key_piece x0 x1 x2 x3 x4 7 1792 rfl 7 rfl _ _ x,
    fun x => shared_piece x0 x1 x2 x3 x4 6 6 rfl _ x,
    fun x => key_piece x0 x1 x2 x3 x4 6 1536 rfl 6 rfl _ _ x,
    fun x => shared_piece x0 x1 x2 x3 x4 5 5 rfl _ x,
    fun x => key_piece x0 x1 x2 x3 x4 5 1280 rfl 5 rfl _ _ x,
    fun x => shared_piece x0 x1 x2 x3 x4 4 4 rfl _ x,
    fun x => key_piece x0 x1 x2 x3 x4 4 1024 rfl 4 rfl _ _ x,
    fun x => shared_piece x0 x1 x2 x3 x4 3 3 rfl _ x,
    fun x => key_piece x0 x1 x2 x3 x4 3 768 rfl 3 rfl _ _ x,
    fun x => shared_piece x0 x1 x2 x3 x4 2 2 rfl _ x,
    fun x => key_piece x0 x1 x2 x3 x4 2 512 rfl 2 rfl _ _ x,
    fun x => shared_piece x0 x1 x2 x3 x4 1 1 rfl _ x,
    fun x => key_piece x0 x1 x2 x3 x4 1 256 rfl 1 rfl _ _ x,
    fun x => shared_piece x0 x1 x2 x3 x4 0 0 rfl _ x,
    fun x => key_piece x0 x1 x2 x3 x4 0 0 rfl 0 rfl _ _ x,
    trivial⟩

theorem values_apply (c : Dev nD) (i : grid0.Coords) (arg1 : Memref sig .tc .vmem S512x512 .f32) (harg1 : arg1.IsWhole) (arg2 : Memref sig .tc .vmem S512x128 .f32)
    (harg2 : arg2.IsWhole) (arg3 : Memref sig .tc .vmem S8x512 .f32) (harg3 : arg3.IsWhole) (arg4 : Memref sig .tc .vmem S512x4096 .bf16) (harg4 : arg4.IsWhole)
    (arg5 : Memref sig .tc .vmem S512x384 .f32) (harg5 : arg5.IsWhole) (arg6 : Memref sig .tc .vmem S1x16x512x256 .bf16) (harg6 : arg6.IsWhole)
    (arg7 : Memref sig .tc .vmem S1x16x512x128 .bf16) (harg7 : arg7.IsWhole) (y : S1x16x512x128.Idx) :
    out0_A_6 (F := Ideal) c i arg1 harg1 arg2 harg2 arg3 harg3 arg4 harg4 arg5 harg5 arg6 harg6 arg7 harg7 x0 x1 x2 x3 x4 y = valueBlock x0 x2 x3 y := by
  have hc := cover0_A_6 c i arg1 harg1 arg2 harg2 arg3 harg3 arg4 harg4 arg5 harg5 arg6 harg6 arg7 harg7 x0 x1 x2 x3 x4
  unfold out0_A_6
  rw [View.read_writes_eq_canon _ _ _ hc]
  refine View.canon_apply_of_pieces (valueBlock x0 x2 x3) _ (View.PiecesOf.mem ?_) y (hc y)
  unfold kernelRun0_A
  dsimp only
  sl_unfold_words
  simp only [View.PiecesOf, View.readAt_eq_ld, harg1.read_unread, harg2.read_unread, harg3.read_unread, harg4.read_unread, harg5.read_unread,
    View.ld_unit_zero (S := S512x512) hz2, View.ld_unit_zero (S := S512x128) hz2, View.ld_unit_zero (S := S512x384) hz2]
  refine ⟨
    fun x => value_piece x0 x2 x3 15 3840 rfl 15 rfl _ _ x,
    fun x => value_piece x0 x2 x3 14 3584 rfl 14 rfl _ _ x,
    fun x => value_piece x0 x2 x3 13 3328 rfl 13 rfl _ _ x,
    fun x => value_piece x0 x2 x3 12 3072 rfl 12 rfl _ _ x,
    fun x => value_piece x0 x2 x3 11 2816 rfl 11 rfl _ _ x,
    fun x => value_piece x0 x2 x3 10 2560 rfl 10 rfl _ _ x,
    fun x => value_piece x0 x2 x3 9 2304 rfl 9 rfl _ _ x,
    fun x => value_piece x0 x2 x3 8 2048 rfl 8 rfl _ _ x,
    fun x => value_piece x0 x2 x3 7 1792 rfl 7 rfl _ _ x,
    fun x => value_piece x0 x2 x3 6 1536 rfl 6 rfl _ _ x,
    fun x => value_piece x0 x2 x3 5 1280 rfl 5 rfl _ _ x,
    fun x => value_piece x0 x2 x3 4 1024 rfl 4 rfl _ _ x,
    fun x => value_piece x0 x2 x3 3 768 rfl 3 rfl _ _ x,
    fun x => value_piece x0 x2 x3 2 512 rfl 2 rfl _ _ x,
    fun x => value_piece x0 x2 x3 1 256 rfl 1 rfl _ _ x,
    fun x => value_piece x0 x2 x3 0 0 rfl 0 rfl _ _ x,
    trivial⟩

end Block

end Cert.Keyvalue

end
-- ==== Proof.Keyvalue.Value.lean ====
/-
  The key and value projection against the reference. `ref_keys` and `ref_values` read the reference's two results at an
  entry; `row…` read the kernel's blocks in the arguments; `finalK`, `finalV`: the arrays the kernel leaves are the reference's.
-/
module

public import proofs.«01_k».proof.Proof.Keyvalue.Block
public import proofs.«01_k».proof.Proof.Query.Host
public import proofs.«01_k».proof.Proof.Gen.ReferenceKeyvalueIdeal.Read

@[expose] public section

noncomputable section

open Idealize.ShloMosaic hiding ix1 ix2 ix3 ix4
open Idealize.ShloMosaic.TcCoe Idealize.ShloMosaic.ValueIdx Cert.Common

namespace Cert.Keyvalue

open Cert.KernelKeyvalueIdeal Cert.KernelKeyvalueIdeal.Gen

section Reference

open Cert.ReferenceKeyvalueIdeal.Read

variable (A : FVec Ideal S32768x1280 .f32) (g : FVec Ideal S512 .f32) (W : FVec Ideal S512x4096 .f32)

theorem ref_cos : val_main_v16 (F := Ideal) = Host.cos Query.angles := rfl
theorem ref_sin : val_main_v17 (F := Ideal) = Host.sin Query.angles := rfl

/-- A row of the compressed keys and values, and that row normalized. -/
def rowAt (n : Fin 32768) (k : Fin 512) : EReal := A (ix2 n (⟨512 + k.val, by omega⟩ : Fin 1280))
def normAt (n : Fin 32768) (k : Fin 512) : EReal := rmsRow (rowAt A n) (fun k => g (ix1 k)) k

theorem ref_row (b : Fin 2) (i : Fin 16384) (k : Fin 512) : val_main_v19 (F := Ideal) A (ix3 b i k) = rowAt A (flat b i) k := by
  rw [val_main_v19_apply, val_main_v18_apply]
  refine congrArg A (funext fun a => Fin.ext ?_)
  match a with
  | ⟨0, _⟩ => show ((b.val * 16384 + i.val) * 512 + k.val) / 512 = b.val * 16384 + i.val; omega
  | ⟨1, _⟩ => show 512 + ((b.val * 16384 + i.val) * 512 + k.val) % 512 = 512 + k.val; omega

theorem ref_square (b : Fin 2) (i : Fin 16384) : val_main_v43 (F := Ideal) A (ix3 b i (0 : Fin 1))
    = Ideal.div (∑ k : Fin 512, rowAt A (flat b i) k * rowAt A (flat b i) k) rank := by
  have e : val_main_v41 (F := Ideal) A (ix3 b i (0 : Fin 1)) = ∑ k : Fin 512, rowAt A (flat b i) k * rowAt A (flat b i) k := by
    rw [val_main_v41_apply, val_main_v40_apply]
    refine Eq.trans (congrArg (· + _) Ideal.ofBits_zero_f32) ((zero_add _).trans (Finset.sum_congr rfl fun k _ => ?_))
    rw [← ref_row A b i k]
    exact (congrArg (val_main_v39 (F := Ideal) A) (ValueIdx.eq_ix3 _)).trans rfl
  refine Eq.trans ?_ (congrArg (fun y => Ideal.div y rank) e)
  rfl

theorem ref_norm (b : Fin 2) (i : Fin 16384) (k : Fin 512) : val_main_v51 (F := Ideal) A g (ix3 b i k) = normAt A g (flat b i) k := by
  have e47 : val_main_v47 (F := Ideal) A (ix3 b i k) = Ideal.rsqrt (val_main_v43 (F := Ideal) A (ix3 b i (0 : Fin 1)) + rmsEps) := by
    rw [val_main_v47_apply, show idx_main_v47 (ix3 b i k) = ix3 b i (0 : Fin 1) from ValueIdx.eq_ix3 _]
    rfl
  have e50 : val_main_v50 (F := Ideal) g (ix3 b i k) = g (ix1 k) := by
    rw [val_main_v50_apply, val_main_v49_apply]
    exact congrArg g (funext fun a => match a with | ⟨0, _⟩ => rfl)
  unfold normAt rmsRow
  beta_reduce
  rw [← ref_square, ← e47, ← e50, ← ref_row A b i k]
  rfl

/-- A normalized row times a column of the weights. -/
def dotAt (n : Fin 32768) (j : Fin 4096) : EReal := ∑ k : Fin 512, normAt A g n k * (W (ix2 k j) : EReal)

theorem ref_dot (b : Fin 2) (i : Fin 16384) (j : Fin 4096) : val_main_v52 (F := Ideal) A g W (ix3 b i j) = dotAt A g W (flat b i) j := by
  rw [val_main_v52_apply]
  refine Finset.sum_congr rfl fun k _ => ?_
  rw [show lidx_main_v52 (ix3 b i j) k = ix3 b i k from ValueIdx.eq_ix3 _, show ridx_main_v52 (ix3 b i j) k = ix2 k j from ValueIdx.eq_ix2 _, ref_norm]

theorem ref_head (b : Fin 2) (i : Fin 16384) (h : Fin 16) (e : Fin 256) :
    val_main_v53 (F := Ideal) A g W (ix4 b i h e) = dotAt A g W (flat b i) ⟨256 * h.val + e.val, by omega⟩ := by
  rw [val_main_v53_apply, ← ref_dot]
  refine congrArg (val_main_v52 (F := Ideal) A g W) (funext fun a => Fin.ext ?_)
  have := b.isLt; have := i.isLt; have := h.isLt; have := e.isLt
  match a with
  | ⟨0, _⟩ => show (((b.val * 16384 + i.val) * 16 + h.val) * 256 + e.val) / 67108864 = b.val; omega
  | ⟨1, _⟩ => show (((b.val * 16384 + i.val) * 16 + h.val) * 256 + e.val) / 4096 % 16384 = i.val; omega
  | ⟨2, _⟩ => show (((b.val * 16384 + i.val) * 16 + h.val) * 256 + e.val) % 4096 = 256 * h.val + e.val; omega

theorem ref_own (b : Fin 2) (i : Fin 16384) (h : Fin 16) (e : Fin 128) :
    val_main_v54 (F := Ideal) A g W (ix4 b i h e) = dotAt A g W (flat b i) ⟨256 * h.val + e.val, by omega⟩ := by
  rw [val_main_v54_apply, ← ref_head A g W b i h ⟨e.val, by omega⟩]
  exact congrArg _ (ValueIdx.eq_ix4 _)
theorem ref_value (b : Fin 2) (i : Fin 16384) (h : Fin 16) (e : Fin 128) :
    val_main_v55 (F := Ideal) A g W (ix4 b i h e) = dotAt A g W (flat b i) ⟨256 * h.val + (128 + e.val), by omega⟩ := by
  rw [val_main_v55_apply, ← ref_head A g W b i h ⟨128 + e.val, by omega⟩]
  exact congrArg _ (ValueIdx.eq_ix4 _)

/-- The 64 columns that are rotated, and their two halves in the reference. -/
def tailAt (n : Fin 32768) (e : Fin 64) : EReal := A (ix2 n (⟨1152 + e.val, by omega⟩ : Fin 1280))

theorem ref_tail (b : Fin 2) (i : Fin 16384) (e : Fin 64) : val_main_v21 (F := Ideal) A (ix3 b i e) = tailAt A (flat b i) e := by
  rw [val_main_v21_apply, val_main_v20_apply]
  refine congrArg A (funext fun a => Fin.ext ?_)
  match a with
  | ⟨0, _⟩ => show ((b.val * 16384 + i.val) * 64 + e.val) / 64 = b.val * 16384 + i.val; omega
  | ⟨1, _⟩ => show 1152 + ((b.val * 16384 + i.val) * 64 + e.val) % 64 = 1152 + e.val; omega
theorem ref_low (b : Fin 2) (i : Fin 16384) (e : Fin 32) : val_main_v22 (F := Ideal) A (ix3 b i e) = tailAt A (flat b i) ⟨e.val, by omega⟩ := by
  rw [val_main_v22_apply, ← ref_tail A b i ⟨e.val, by omega⟩]
  exact congrArg _ (ValueIdx.eq_ix3 _)
theorem ref_high (b : Fin 2) (i : Fin 16384) (e : Fin 32) : val_main_v23 (F := Ideal) A (ix3 b i e) = tailAt A (flat b i) ⟨e.val + 32, by omega⟩ := by
  rw [val_main_v23_apply, ← ref_tail A b i ⟨e.val + 32, by omega⟩]
  refine congrArg _ (funext fun a => Fin.ext ?_)
  match a with
  | ⟨0, _⟩ => rfl
  | ⟨1, _⟩ => rfl
  | ⟨2, _⟩ => show 32 + e.val = e.val + 32; omega

theorem ref_cos1 (b : Fin 2) (i : Fin 16384) (e : Fin 32) : val_main_v25 (F := Ideal) (ix3 b i e) = Host.cos Query.angles (ix2 i e) := by
  rw [val_main_v25_apply, val_main_v24_apply, ref_cos]; exact congrArg _ (ValueIdx.eq_ix2 _)
theorem ref_sin1 (b : Fin 2) (i : Fin 16384) (e : Fin 32) : val_main_v28 (F := Ideal) (ix3 b i e) = Host.sin Query.angles (ix2 i e) := by
  rw [val_main_v28_apply, val_main_v27_apply, ref_sin]; exact congrArg _ (ValueIdx.eq_ix2 _)
theorem ref_cos2 (b : Fin 2) (i : Fin 16384) (e : Fin 32) : val_main_v32 (F := Ideal) (ix3 b i e) = Host.cos Query.angles (ix2 i e) := by
  rw [val_main_v32_apply, val_main_v31_apply, ref_cos]; exact congrArg _ (ValueIdx.eq_ix2 _)
theorem ref_sin2 (b : Fin 2) (i : Fin 16384) (e : Fin 32) : val_main_v35 (F := Ideal) (ix3 b i e) = Host.sin Query.angles (ix2 i e) := by
  rw [val_main_v35_apply, val_main_v34_apply, ref_sin]; exact congrArg _ (ValueIdx.eq_ix2 _)

/-- The places the heads share. -/
def ropeAt (b : Fin 2) (i : Fin 16384) (j : Fin 128) : EReal :=
  rotated (tailAt A (flat b i)) (fun k => Host.cos Query.angles (ix2 i k)) (fun k => Host.sin Query.angles (ix2 i k)) j

theorem ref_rope (b : Fin 2) (i : Fin 16384) (j : Fin 64) : val_main_v38 (F := Ideal) A (ix3 b i j) = ropeAt A b i ⟨j.val, by omega⟩ := by
  have hj := j.isLt
  unfold val_main_v38 ropeAt rotated
  by_cases a : j.val < 32
  · refine (third_apply _ _ 0 (by simp) _ rfl 0 rfl b i j (⟨j.val, a⟩ : Fin 32) (by simp)).trans ?_
    rw [dif_pos a]
    dsimp only
    rw [← ref_low A b i ⟨j.val, a⟩, ← ref_high A b i ⟨j.val, a⟩, ← ref_cos1 b i ⟨j.val, a⟩, ← ref_sin1 b i ⟨j.val, a⟩]
    rfl
  · refine (third_apply _ _ 1 (by simp) _ rfl 32 rfl b i j (⟨j.val - 32, by omega⟩ : Fin 32) (by show 32 + (j.val - 32) = j.val; omega)).trans ?_
    have eh := ref_high A b i ⟨j.val - 32, by omega⟩
    rw [show (⟨j.val - 32 + 32, by omega⟩ : Fin 64) = ⟨j.val, hj⟩ from Fin.ext (by show j.val - 32 + 32 = j.val; omega)] at eh
    rw [dif_neg a, dif_pos hj]
    dsimp only
    rw [← eh, ← ref_low A b i ⟨j.val - 32, by omega⟩, ← ref_cos2 b i ⟨j.val - 32, by omega⟩, ← ref_sin2 b i ⟨j.val - 32, by omega⟩]
    rfl

theorem ref_shared (b : Fin 2) (i : Fin 16384) (h : Fin 16) (j : Fin 64) : val_main_v57 (F := Ideal) A (ix4 b i h j) = ropeAt A b i ⟨j.val, by omega⟩ := by
  rw [val_main_v57_apply, val_main_v56_apply, ← ref_rope]
  exact congrArg _ (ValueIdx.eq_ix3 _)

/-- An entry of the keys. -/
def entryAt (b : Fin 2) (h : Fin 16) (i : Fin 16384) (d : Fin 256) : EReal :=
  if hd : d.val < 128 then dotAt A g W (flat b i) ⟨256 * h.val + d.val, by omega⟩ else ropeAt A b i ⟨d.val - 128, by omega⟩

theorem ref_entry (b : Fin 2) (i : Fin 16384) (h : Fin 16) (d : Fin 256) :
    val_main_v59 (F := Ideal) A g W (ix4 b i h d) = entryAt A g W b h i d := by
  have hd := d.isLt
  unfold val_main_v59 entryAt
  by_cases a : d.val < 128
  · rw [dif_pos a, ← ref_own A g W b i h ⟨d.val, a⟩]
    exact last_apply _ _ 0 (by simp) _ rfl 0 rfl b i h d (⟨d.val, a⟩ : Fin 128) (by simp)
  · rw [dif_neg a]
    by_cases a' : d.val < 192
    · rw [← ref_shared A b i h ⟨d.val - 128, by omega⟩]
      exact last_apply _ _ 1 (by simp) _ rfl 128 rfl b i h d (⟨d.val - 128, by omega⟩ : Fin 64) (by show 128 + (d.val - 128) = d.val; omega)
    · refine (last_apply _ _ 2 (by simp) _ rfl 192 rfl b i h d (⟨d.val - 192, by omega⟩ : Fin 64) (by show 192 + (d.val - 192) = d.val; omega)).trans ?_
      unfold ropeAt rotated
      rw [dif_neg (show ¬ d.val - 128 < 32 by omega), dif_neg (show ¬ d.val - 128 < 64 by omega)]
      rw [val_main_v58_apply]
      exact Ideal.ofBits_zero_f32

/-- The reference's entries. -/
theorem ref_keys (b : Fin 2) (h : Fin 16) (i : Fin 16384) (d : Fin 256) : val_main_v61 (F := Ideal) A g W (ix4 b h i d) = entryAt A g W b h i d := by
  have e : val_main_v60 (F := Ideal) A g W (ix4 b h i d) = val_main_v59 (F := Ideal) A g W (ix4 b i h d) := by
    rw [val_main_v60_apply]; exact congrArg _ (ValueIdx.eq_ix4 _)
  rw [← ref_entry]
  exact e
theorem ref_values (b : Fin 2) (h : Fin 16) (i : Fin 16384) (d : Fin 128) :
    val_main_v63 (F := Ideal) A g W (ix4 b h i d) = dotAt A g W (flat b i) ⟨256 * h.val + (128 + d.val), by omega⟩ := by
  have e : val_main_v62 (F := Ideal) A g W (ix4 b h i d) = val_main_v55 (F := Ideal) A g W (ix4 b i h d) := by
    rw [val_main_v62_apply]; exact congrArg _ (ValueIdx.eq_ix4 _)
  rw [← ref_value]
  exact e

end Reference

variable (m : (ℓ : Loc nD τ sig) → Buf (Elt Ideal) ℓ) (c : Dev nD)

/-- The arguments: rows, the norm's weights, the projection's weights. -/
abbrev argA : FVec Ideal S32768x1280 .f32 := m ((c.tc : Thread nD τ).loc main_arg0)
abbrev argG : FVec Ideal S512 .f32 := m ((c.tc : Thread nD τ).loc main_arg1)
abbrev argW : FVec Ideal S512x4096 .f32 := m ((c.tc : Thread nD τ).loc main_arg2)

/-- The arrays at the launch. -/
theorem V_norm : (V m c main_v2 : FVec Ideal S8x512 .f32) = Query.normRows (argG m c) := by
  unfold Query.normRows
  unfold_abbrev_sides
  after_results
theorem V_weights : (V m c main_v3 : FVec Ideal S512x4096 .bf16) = truncf .bf16 (argW m c) bitsLt_bf16_f32 := by
  unfold_abbrev_sides
  after_results

/-- The last operation's result, each operand at its own buffer. -/
theorem side_result (hxs hy) (G : Valuation τ sig (Elt Ideal)) :
    (StableHlo.nary (τ := τ) (Val := Elt Ideal) ![main_v20, main_v20, main_v22, main_v23, main_v24, main_v25, main_v21, main_v26] main_v27
      (fun u => (concatenate S16384x384 1 [⟨S16384x32, (u 0 : (⟨S16384x32, .f32⟩ : BufTy).Contents (Elt Ideal))⟩, ⟨S16384x32, (u 1 : (⟨S16384x32, .f32⟩ : BufTy).Contents (Elt Ideal))⟩,
        ⟨S16384x64, (u 2 : (⟨S16384x64, .f32⟩ : BufTy).Contents (Elt Ideal))⟩, ⟨S16384x32, (u 3 : (⟨S16384x32, .f32⟩ : BufTy).Contents (Elt Ideal))⟩,
        ⟨S16384x96, (u 4 : (⟨S16384x96, .f32⟩ : BufTy).Contents (Elt Ideal))⟩, ⟨S16384x32, (u 5 : (⟨S16384x32, .f32⟩ : BufTy).Contents (Elt Ideal))⟩,
        ⟨S16384x32, (u 6 : (⟨S16384x32, .f32⟩ : BufTy).Contents (Elt Ideal))⟩, ⟨S16384x64, (u 7 : (⟨S16384x64, .f32⟩ : BufTy).Contents (Elt Ideal))⟩]
        concatenates_S16384x32_S16384x32_S16384x64_S16384x32_S16384x96_S16384x32_S16384x32_S16384x64_S16384x384_d1 : (⟨S16384x384, .f32⟩ : BufTy).Contents (Elt Ideal)))
      hxs hy).result G (Proc.devRef .tc main_v27)
      = Query.sideBySide (G (Proc.devRef .tc main_v20)) (G (Proc.devRef .tc main_v20)) (G (Proc.devRef .tc main_v22)) (G (Proc.devRef .tc main_v23))
        (G (Proc.devRef .tc main_v24)) (G (Proc.devRef .tc main_v25)) (G (Proc.devRef .tc main_v21)) (G (Proc.devRef .tc main_v26)) := by
  rw [StableHlo.nary_result]
  rfl

theorem V_table : (V m c main_v27 : FVec Ideal S16384x384 .f32) = Query.table := by
  unfold Query.table Query.angles
  unfold_abbrev_sides
  simp only [StableHlo.after_cons, StableHlo.after_nil]
  rw [side_result]
  after_results_simp
  rfl

theorem index0 : ∀ t : Fin cfg0.N, win0_0.index t = ![t.val, 1] := (by decide +kernel : ∀ t : Fin grid0.N, win0_0.index t = ![t.val, 1])
theorem index1 : ∀ t : Fin cfg0.N, win0_1.index t = ![t.val, 9] := (by decide +kernel : ∀ t : Fin grid0.N, win0_1.index t = ![t.val, 9])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val % 32, 0] := (by decide +kernel : ∀ t : Fin grid0.N, win0_4.index t = ![t.val % 32, 0])
theorem index5 : ∀ t : Fin cfg0.N, win0_5.index t = ![t.val / 32, 0, t.val % 32, 0] := (by decide +kernel : ∀ t : Fin grid0.N, win0_5.index t = ![t.val / 32, 0, t.val % 32, 0])
theorem index6 : ∀ t : Fin cfg0.N, win0_6.index t = ![t.val / 32, 0, t.val % 32, 0] := (by decide +kernel : ∀ t : Fin grid0.N, win0_6.index t = ![t.val / 32, 0, t.val % 32, 0])

variable (t : Fin cfg0.N)
theorem lt_N : t.val < 64 := Nat.lt_of_lt_of_eq t.isLt (by decide)

/-- The sequence and the position of a block's row. -/
def seqOf : Fin 2 := ⟨t.val / 32, by have := lt_N t; omega⟩
def posOf (r : Fin 512) : Fin 16384 := ⟨t.val % 32 * 512 + r.val, by omega⟩

theorem rowA (r : Fin 512) (k : Fin 512) : X0_0 m c t (ix2 r k) = rowAt (argA m c) (flat (seqOf t) (posOf t r)) k := by
  unfold X0_0 Pipeline.Window.fill
  rw [dif_pos (moved0_0 t _)]
  blk_simp [iblk]
  rw [V_main_arg0]
  refine congrArg (argA m c) (funext fun a => Fin.ext ?_)
  match a with
  | ⟨0, _⟩ => blk_simp [index0]; show t.val * 512 + r.val = t.val / 32 * 16384 + (t.val % 32 * 512 + r.val); omega
  | ⟨1, _⟩ => blk_simp [index0]
theorem rowR (r : Fin 512) (k : Fin 128) : iblk m c 1 t (ix2 r k) = argA m c (ix2 (flat (seqOf t) (posOf t r)) (⟨1152 + k.val, by omega⟩ : Fin 1280)) := by
  blk_simp [iblk]
  rw [V_main_arg0]
  refine congrArg (argA m c) (funext fun a => Fin.ext ?_)
  match a with
  | ⟨0, _⟩ => blk_simp [index1]; show t.val * 512 + r.val = t.val / 32 * 16384 + (t.val % 32 * 512 + r.val); omega
  | ⟨1, _⟩ => blk_simp [index1]
theorem rowG (k : Fin 512) : iblk m c 2 t (ix2 (0 : Fin 8) k) = argG m c (ix1 k) := by
  refine Eq.trans ?_ (Query.normRows_apply (argG m c) k)
  blk_simp [iblk]
  refine (congrFun (V_norm m c) _).trans ?_
  refine congrArg (Query.normRows (argG m c)) (funext fun a => Fin.ext ?_)
  match a with
  | ⟨0, _⟩ => blk_simp [index2]
  | ⟨1, _⟩ => blk_simp [index2]
theorem rowW (k : Fin 512) (j : Fin 4096) : iblk m c 3 t (ix2 k j) = argW m c (ix2 k j) := by
  blk_simp [iblk]
  refine (congrFun (V_weights m c) _).trans ?_
  refine congrArg (argW m c) (funext fun a => Fin.ext ?_)
  match a with
  | ⟨0, _⟩ => blk_simp [index3]
  | ⟨1, _⟩ => blk_simp [index3]
theorem rowT (r : Fin 512) (k : Fin 384) : iblk m c 4 t (ix2 r k) = Query.table (ix2 (posOf t r) k) := by
  blk_simp [iblk]
  refine (congrFun (V_table m c) _).trans ?_
  refine congrArg Query.table (funext fun a => Fin.ext ?_)
  match a with
  | ⟨0, _⟩ => blk_simp [index4]; rfl
  | ⟨1, _⟩ => blk_simp [index4]

/-- A column of the block's product in the arguments. -/
theorem col_eq (r : Fin 512) (j : Fin 4096) :
    colAt (X0_0 m c t) (iblk m c 2 t) (iblk m c 3 t) r j = dotAt (argA m c) (argG m c) (argW m c) (flat (seqOf t) (posOf t r)) j := by
  unfold colAt dotAt normAt
  refine Finset.sum_congr rfl fun k _ => ?_
  have e0 : (fun k : Fin 512 => (show EReal from X0_0 m c t (ix2 r k))) = rowAt (argA m c) (flat (seqOf t) (posOf t r)) := funext fun k => rowA m c t r k
  have e1 : (fun k : Fin 512 => (show EReal from iblk m c 2 t (ix2 (0 : Fin 8) k))) = fun k => argG m c (ix1 k) := funext fun k => rowG m c t k
  rw [← e0, ← e1, ← rowW m c t k j]

/-- An entry of the keys' block is the reference's. -/
theorem key_eq (h : Fin 16) (r : Fin 512) (d : Fin 256) :
    keyAt (X0_0 m c t) (iblk m c 1 t) (iblk m c 2 t) (iblk m c 3 t) (iblk m c 4 t) h r d
      = entryAt (argA m c) (argG m c) (argW m c) (seqOf t) h (posOf t r) d := by
  unfold keyAt entryAt
  by_cases a : d.val < 128
  · rw [dif_pos a, dif_pos a, col_eq m c t r]
  · rw [dif_neg a, dif_neg a]
    have e : (fun k : Fin 384 => (show EReal from iblk m c 4 t (ix2 r k))) = fun k => Query.table (ix2 (posOf t r) k) := funext fun k => rowT m c t r k
    refine (congrArg (fun T => turn (fun e => (show EReal from iblk m c 1 t (ix2 r e))) T ⟨d.val - 128, by omega⟩) e).trans ?_
    rw [rotated_of_table Query.table _ _ Query.table_is]
    unfold ropeAt
    refine congrArg (fun f => rotated f (fun k => Host.cos Query.angles (ix2 (posOf t r) k)) (fun k => Host.sin Query.angles (ix2 (posOf t r) k)) ⟨d.val - 128, by omega⟩) ?_
    exact funext fun e => rowR m c t r ⟨e.val, by omega⟩

/-- Result 0 after a point: the block's entries, then the reference's. -/
theorem out5 (y : S1x16x512x256.Idx) : (outsAt0 m c t).1 y = keyBlock (X0_0 m c t) (iblk m c 1 t) (iblk m c 2 t) (iblk m c 3 t) (iblk m c 4 t) y := by
  unfold outsAt0
  dsimp only
  generalize X0_0 m c t = z0
  generalize iblk m c 1 t = z1
  generalize iblk m c 2 t = z2
  generalize iblk m c 3 t = z3
  generalize iblk m c 4 t = z4
  exact keys_apply z0 z1 z2 z3 z4 c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) y
theorem block5 (h : Fin 16) (r : Fin 512) (d : Fin 256) : (outsAt0 m c t).1 (ix4 (0 : Fin 1) h r d)
    = Cert.ReferenceKeyvalueIdeal.Read.val_main_v61 (F := Ideal) (argA m c) (argG m c) (argW m c) (ix4 (seqOf t) h (posOf t r) d) :=
  (out5 m c t _).trans ((key_eq m c t h r d).trans (ref_keys (argA m c) (argG m c) (argW m c) (seqOf t) h (posOf t r) d).symm)

/-- The array the kernel leaves is the reference's. -/
theorem finalK : (dats m 0 c).arrAt 5 cfg0.N = Cert.ReferenceKeyvalueIdeal.Read.val_main_v61 (F := Ideal) (argA m c) (argG m c) (argW m c) := by
  refine (dats m 0 c).arrAt_eq_of_covers 5 _ (by decide +kernel) fun t _ y => ?_
  blk_simp
  rw [after0_5]
  obtain ⟨a, h, r, d, rfl⟩ : ∃ (a : Fin 1) (h : Fin 16) (r : Fin 512) (d : Fin 256), y = ix4 a h r d := ⟨y 0, y 1, y 2, y 3, ValueIdx.eq_ix4 y⟩
  obtain rfl : a = 0 := Subsingleton.elim _ _
  refine (block5 m c t h r d).trans ?_
  generalize Cert.ReferenceKeyvalueIdeal.Read.val_main_v61 (F := Ideal) (argA m c) (argG m c) (argW m c) = R
  refine congrArg R (funext fun a => Fin.ext ?_)
  match a with
  | ⟨0, _⟩ => blk_simp [index5]; rfl
  | ⟨1, _⟩ => blk_simp [index5]
  | ⟨2, _⟩ => blk_simp [index5]; rfl
  | ⟨3, _⟩ => blk_simp [index5]

/-- Result 1 after a point: the block's entries, then the reference's. -/
theorem out6 (y : S1x16x512x128.Idx) : (outsAt0 m c t).2 y = valueBlock (X0_0 m c t) (iblk m c 2 t) (iblk m c 3 t) y := by
  unfold outsAt0
  dsimp only
  generalize X0_0 m c t = z0
  generalize iblk m c 1 t = z1
  generalize iblk m c 2 t = z2
  generalize iblk m c 3 t = z3
  generalize iblk m c 4 t = z4
  exact values_apply z0 z1 z2 z3 z4 c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) y
theorem block6 (h : Fin 16) (r : Fin 512) (d : Fin 128) : (outsAt0 m c t).2 (ix4 (0 : Fin 1) h r d)
    = Cert.ReferenceKeyvalueIdeal.Read.val_main_v63 (F := Ideal) (argA m c) (argG m c) (argW m c) (ix4 (seqOf t) h (posOf t r) d) :=
  (out6 m c t _).trans ((col_eq m c t r _).trans (ref_values (argA m c) (argG m c) (argW m c) (seqOf t) h (posOf t r) d).symm)

/-- The array the kernel leaves is the reference's. -/
theorem finalV : (dats m 0 c).arrAt 6 cfg0.N = Cert.ReferenceKeyvalueIdeal.Read.val_main_v63 (F := Ideal) (argA m c) (argG m c) (argW m c) := by
  refine (dats m 0 c).arrAt_eq_of_covers 6 _ (by decide +kernel) fun t _ y => ?_
  blk_simp
  rw [after0_6]
  obtain ⟨a, h, r, d, rfl⟩ : ∃ (a : Fin 1) (h : Fin 16) (r : Fin 512) (d : Fin 128), y = ix4 a h r d := ⟨y 0, y 1, y 2, y 3, ValueIdx.eq_ix4 y⟩
  obtain rfl : a = 0 := Subsingleton.elim _ _
  refine (block6 m c t h r d).trans ?_
  generalize Cert.ReferenceKeyvalueIdeal.Read.val_main_v63 (F := Ideal) (argA m c) (argG m c) (argW m c) = R
  refine congrArg R (funext fun a => Fin.ext ?_)
  match a with
  | ⟨0, _⟩ => blk_simp [index6]; rfl
  | ⟨1, _⟩ => blk_simp [index6]
  | ⟨2, _⟩ => blk_simp [index6]; rfl
  | ⟨3, _⟩ => blk_simp [index6]

end Cert.Keyvalue

end
-- ==== Proof.Keyvalue.Claims.lean ====
/-
  The claims about the key and value projection: the three runs leave their arguments and the counters as they were, and the kernel and the
  reference leave the same arrays.
-/
module

public import proofs.«01_k».proof.Defs
public import proofs.«01_k».proof.Proof.Gen.KernelKeyvalue.Frame
public import proofs.«01_k».proof.Proof.Gen.ReferenceKeyvalueIdeal.Run
public import proofs.«01_k».proof.Proof.Keyvalue.Value
public import Idealize.ShloMosaic.Lib.Quiescent

@[expose] public section

noncomputable section

open Idealize.ShloMosaic Idealize.SL.Sem

namespace Cert.Keyvalue

theorem frame_kernel : Cert.quiescent_KernelKeyvalue (hKernelKeyvalue := Cert.KernelKeyvalue.Gen.facts) := fun m ρ _ => Cert.KernelKeyvalue.Gen.frame m ρ
theorem frame_ideal : Cert.quiescent_KernelKeyvalueIdeal (hKernelKeyvalueIdeal := Cert.KernelKeyvalueIdeal.Gen.facts) := fun m ρ _ => Cert.KernelKeyvalueIdeal.Gen.frame m ρ
theorem frame_ref : Cert.quiescent_ReferenceKeyvalueIdeal (hReferenceKeyvalueIdeal := Cert.ReferenceKeyvalueIdeal.Gen.facts) := fun m ρ _ =>
  (θ_run _ _ _).mono (fun r h => ⟨fun c => (h c).2.2, sem_eq_zero_of_no_sems (by decide) r.2⟩) (Cert.ReferenceKeyvalueIdeal.Value.run (F := Ideal) m ρ)

/-- What the idealization names is what it says. -/
theorem preserves : Cert.preserves_KernelKeyvalue_KernelKeyvalueIdeal := trivial

/-- The kernel's result is the reference's. -/
theorem algebraic : Cert.algebraic_KernelKeyvalueIdeal_ReferenceKeyvalueIdeal (hKernelKeyvalueIdeal := Cert.KernelKeyvalueIdeal.Gen.facts)
    (hReferenceKeyvalueIdeal := Cert.ReferenceKeyvalueIdeal.Gen.facts) := fun m ρ m' ρ' _ hm =>
  ⟨fun c => Cert.ReferenceKeyvalueIdeal.Read.val_main_v61 (F := Ideal) (argA m c) (argG m c) (argW m c), fun c => Cert.ReferenceKeyvalueIdeal.Read.val_main_v63 (F := Ideal) (argA m c) (argG m c) (argW m c),
    (θ_run _ _ _).mono (fun r h c => ⟨(h c).1.trans (finalK m c), (h c).2.1.trans (finalV m c), (h c).2.2⟩) (Cert.KernelKeyvalueIdeal.Value.run_blocks (F := Ideal) m ρ),
    (θ_run _ _ _).mono (fun r h c => ⟨(h c).1.trans (by rw [Cert.ReferenceKeyvalueIdeal.Read.val_main_v61_eq, (hm c).1, (hm c).2.1, (hm c).2.2]),
        (h c).2.1.trans (by rw [Cert.ReferenceKeyvalueIdeal.Read.val_main_v63_eq, (hm c).1, (hm c).2.1, (hm c).2.2]),
        (h c).2.2⟩)
      (Cert.ReferenceKeyvalueIdeal.Value.run (F := Ideal) m' ρ')⟩

end Cert.Keyvalue

end
-- ==== Proof.Conv.Block.lean ====
/-
  The block of the short convolution: each row of the block with the two rows before it and the two after it, taken from
  the neighbouring blocks at the block's ends. `block_apply`: every entry of the block the body leaves.
-/
module

public import proofs.«01_k».proof.Proof.Gen.KernelConvIdeal.Value
public import proofs.«01_k».proof.Proof.Common
public import Idealize.ShloMosaic.Lib.Pipeline.ValueKit
public import Idealize.ShloMosaic.Lib.Tactic
public import Idealize.ShloMosaic.Lib.KernelVsHost

@[expose] public section

noncomputable section

open Idealize.ShloMosaic hiding ix1 ix2 ix3 ix4
open Idealize.ShloMosaic.TcCoe Idealize.ShloMosaic.ValueIdx Idealize.ShloMosaic.Tactic Cert.Common

namespace Cert.Conv

open Cert.KernelConvIdeal Cert.KernelConvIdeal.Gen

/-- Two counts below 512 are the same word only if they are the same. -/
theorem word_eq (a b : Nat) (ha : a < 512) (hb : b < 512) : IntOp.cmpi .eq (BitVec.ofNat 32 a) (BitVec.ofNat 32 b) = if a = b then 1#1 else 0#1 := by
  by_cases h : a = b
  · subst h; rw [if_pos rfl]; simp [IntOp.cmpi]
  · rw [if_neg h]
    have : BitVec.ofNat 32 a ≠ BitVec.ofNat 32 b := fun e => h (by
      have := congrArg BitVec.toNat e
      rw [BitVec.toNat_ofNat, BitVec.toNat_ofNat] at this
      omega)
    show BitVec.ofBool (BitVec.ofNat 32 a == BitVec.ofNat 32 b) = 0#1
    rw [beq_eq_false_iff_ne.mpr this]
    rfl

/-- A choice by row: one row from elsewhere, the others as they are. -/
theorem select_row (k : Nat) (hk : k < 512) (a b : FVec Ideal S512x1024 .f32) (r : Fin 512) (j : Fin 1024) :
    select (cmpi .eq (iota .tc S512x1024 32 [0] iota_S512x1024_d0_w32) (broadcast S512x1024 (BitVec.ofNat 32 k))) a b (ix2 r j)
      = if r.val = k then a (ix2 r j) else b (ix2 r j) := by
  have e : cmpi .eq (iota .tc S512x1024 32 [0] iota_S512x1024_d0_w32) (broadcast S512x1024 (BitVec.ofNat 32 k)) (ix2 r j)
      = if r.val = k then 1#1 else 0#1 := by
    refine Eq.trans ?_ (word_eq r.val k r.isLt hk)
    show IntOp.cmpi .eq (BitVec.ofNat 32 (0 * 512 + r.val)) (BitVec.ofNat 32 k) = _
    rw [Nat.zero_mul, Nat.zero_add]
  rw [select_apply, e]
  by_cases h : r.val = k
  · rw [if_pos h, if_pos h]; rfl
  · rw [if_neg h, if_neg h]; rfl

/-- The rows turned around by `s`. -/
theorem turn_apply (s : Nat) (hs : s < 512) (x : FVec Ideal S512x1024 .f32) (r : Fin 512) (j : Fin 1024) :
    dynamicRotate 0 (BitVec.ofNat 32 s) none x rotates_S512x1024_d0 (ix2 r j) = x (ix2 (⟨(r.val + 512 - s) % 512, Nat.mod_lt _ (by decide)⟩ : Fin 512) j) :=
  dynamicRotate_apply (s := S512x1024) 0 (BitVec.ofNat 32 s) x rotates_S512x1024_d0 (ix2 r j) (ix2 (⟨(r.val + 512 - s) % 512, Nat.mod_lt _ (by decide)⟩ : Fin 512) j) fun b => match b with
    | ⟨0, _⟩ => by
      show (r.val + 512 - s) % 512 = (r.val + 512 - (BitVec.ofNat 32 s).toNat % 512) % 512
      rw [BitVec.toNat_ofNat, Nat.mod_eq_of_lt (show s < 2 ^ 32 by omega), Nat.mod_eq_of_lt hs]
    | ⟨1, _⟩ => rfl

/-- One row laid over all. -/
theorem over_apply (v : FVec Ideal S1x1024 .f32) (r : Fin 512) (j : Fin 1024) :
    broadcastTo S512x1024 (shapeCast S1x1024 v shapeCasts_S1x1024_S1x1024) broadcasts_S1x1024_S512x1024 (ix2 r j) = v (ix2 (0 : Fin 1) j) := by
  rw [shapeCast_self v]
  exact broadcastTo_apply _ _ (ix2 r j) (ix2 (0 : Fin 1) j) (fun a => match a with | ⟨0, _⟩ => rfl | ⟨1, _⟩ => rfl)

theorem first_word : ∀ b : Fin 32, Scalar.cmpi .sgt (BitVec.ofNat 32 b.val) 0#32 = if 0 < b.val then 1#1 else 0#1 := by decide
theorem last_word : ∀ b : Fin 32, Scalar.cmpi .slt (BitVec.ofNat 32 b.val) 31#32 = if b.val < 31 then 1#1 else 0#1 := by decide

section Block

variable (i : grid0.Coords) (x0 : Vec Ideal S16x1024 .bf16) (x1 : Vec Ideal S512x1024 .bf16) (x2 : Vec Ideal S16x1024 .bf16) (x3 : Vec Ideal S8x1024 .f32)

/-- The block's place within its sequence. -/
def place : Fin 32 := i 1

/-- The block's rows with two more on each side, zero beyond the sequence's ends. -/
def tap (p : Fin 516) (j : Fin 1024) : EReal :=
  if h : p.val < 2 then (if 0 < (place i).val then x0 (ix2 (⟨14 + p.val, by omega⟩ : Fin 16) j) else 0)
  else if h' : p.val < 514 then x1 (ix2 (⟨p.val - 2, by omega⟩ : Fin 512) j)
  else (if (place i).val < 31 then x2 (ix2 (⟨p.val - 514, by omega⟩ : Fin 16) j) else 0)

theorem tap_mid (p : Fin 516) (r : Fin 512) (j : Fin 1024) (h : p.val = r.val + 2) : tap i x0 x1 x2 p j = x1 (ix2 r j) := by
  unfold tap
  rw [dif_neg (by omega), dif_pos (by omega)]
  exact congrArg x1 (congrArg (ix2 · j) (Fin.ext (by show p.val - 2 = r.val; omega)))

/-- A row of the block before, at the sequence's start zero. -/
theorem before_apply (k : Nat) (hk : k < 2) (inb) (j : Fin 1024) :
    (Scalar.select (Scalar.cmpi .sgt (BitVec.ofNat 32 (i 1).val) 0#32) (extf (F := Ideal) .f32 (View.ld x0 (Rect.unit (s := S16x1024) ![14 + k, 0] ![1, 1024] inb)) bitsLt_bf16_f32)
      (broadcast S1x1024 (Scalar.ofBits (F := Ideal) .f32 0x00000000#32))) (ix2 (0 : Fin 1) j) = tap i x0 x1 x2 (⟨k, by omega⟩ : Fin 516) j := by
  unfold tap
  rw [dif_pos (show (⟨k, by omega⟩ : Fin 516).val < 2 from hk)]
  rw [show Scalar.cmpi .sgt (BitVec.ofNat 32 (i 1).val) 0#32 = _ from first_word (place i)]
  by_cases h : 0 < (place i).val
  · rw [if_pos h, if_pos h]
    exact View.ld_unit_apply_of x0 _ _ _ _ _ fun a => match a with
      | ⟨0, _⟩ => rfl
      | ⟨1, _⟩ => by show j.val = 0 + j.val; omega
  · rw [if_neg h, if_neg h]
    exact Ideal.ofBits_zero_f32

/-- A row of the block after, at the sequence's end zero. -/
theorem after_apply (k : Nat) (hk : k < 2) (inb) (j : Fin 1024) :
    (Scalar.select (Scalar.cmpi .slt (BitVec.ofNat 32 (i 1).val) 31#32) (extf (F := Ideal) .f32 (View.ld x2 (Rect.unit (s := S16x1024) ![k, 0] ![1, 1024] inb)) bitsLt_bf16_f32)
      (broadcast S1x1024 (Scalar.ofBits (F := Ideal) .f32 0x00000000#32))) (ix2 (0 : Fin 1) j) = tap i x0 x1 x2 (⟨514 + k, by omega⟩ : Fin 516) j := by
  unfold tap
  rw [dif_neg (show ¬ 514 + k < 2 by omega), dif_neg (show ¬ 514 + k < 514 by omega)]
  rw [show Scalar.cmpi .slt (BitVec.ofNat 32 (i 1).val) 31#32 = _ from last_word (place i)]
  by_cases h : (place i).val < 31
  · rw [if_pos h, if_pos h]
    exact View.ld_unit_apply_of x2 _ _ _ _ _ fun a => match a with
      | ⟨0, _⟩ => by show 514 + k - 514 = k + 0; omega
      | ⟨1, _⟩ => by show j.val = 0 + j.val; omega
  · rw [if_neg h, if_neg h]
    exact Ideal.ofBits_zero_f32

/-- The rows one before, two before, one after, two after. -/
theorem back1 (v : FVec Ideal S1x1024 .f32) (hv : ∀ j, v (ix2 (0 : Fin 1) j) = tap i x0 x1 x2 (1 : Fin 516) j) (r : Fin 512) (j : Fin 1024) :
    select (cmpi .eq (iota .tc S512x1024 32 [0] iota_S512x1024_d0_w32) (broadcast S512x1024 0#32))
      (broadcastTo S512x1024 (shapeCast S1x1024 v shapeCasts_S1x1024_S1x1024) broadcasts_S1x1024_S512x1024)
      (dynamicRotate 0 1#32 none (extf (F := Ideal) .f32 x1 bitsLt_bf16_f32) rotates_S512x1024_d0) (ix2 r j) = tap i x0 x1 x2 (⟨r.val + 1, by omega⟩ : Fin 516) j := by
  refine (select_row 0 (by decide) _ _ r j).trans ?_
  rw [over_apply, hv]
  by_cases h : r.val = 0
  · rw [if_pos h]
    exact congrArg (tap i x0 x1 x2 · j) (Fin.ext (by show 1 = r.val + 1; omega))
  · rw [if_neg h]
    refine (turn_apply 1 (by decide) _ r j).trans ?_
    exact (tap_mid i x0 x1 x2 _ _ j (by show r.val + 1 = (r.val + 512 - 1) % 512 + 2; omega)).symm

theorem back2 (v w : FVec Ideal S1x1024 .f32) (hv : ∀ j, v (ix2 (0 : Fin 1) j) = tap i x0 x1 x2 (0 : Fin 516) j)
    (hw : ∀ j, w (ix2 (0 : Fin 1) j) = tap i x0 x1 x2 (1 : Fin 516) j) (r : Fin 512) (j : Fin 1024) :
    select (cmpi .eq (iota .tc S512x1024 32 [0] iota_S512x1024_d0_w32) (broadcast S512x1024 0#32))
      (broadcastTo S512x1024 (shapeCast S1x1024 v shapeCasts_S1x1024_S1x1024) broadcasts_S1x1024_S512x1024)
      (select (cmpi .eq (iota .tc S512x1024 32 [0] iota_S512x1024_d0_w32) (broadcast S512x1024 1#32))
        (broadcastTo S512x1024 (shapeCast S1x1024 w shapeCasts_S1x1024_S1x1024) broadcasts_S1x1024_S512x1024)
        (dynamicRotate 0 2#32 none (extf (F := Ideal) .f32 x1 bitsLt_bf16_f32) rotates_S512x1024_d0)) (ix2 r j) = tap i x0 x1 x2 (⟨r.val, by omega⟩ : Fin 516) j := by
  refine (select_row 0 (by decide) _ _ r j).trans ?_
  rw [over_apply, hv]
  by_cases h : r.val = 0
  · rw [if_pos h]
    exact congrArg (tap i x0 x1 x2 · j) (Fin.ext (by show 0 = r.val; omega))
  · rw [if_neg h]
    refine (select_row 1 (by decide) _ _ r j).trans ?_
    rw [over_apply, hw]
    by_cases h' : r.val = 1
    · rw [if_pos h']
      exact congrArg (tap i x0 x1 x2 · j) (Fin.ext (by show 1 = r.val; omega))
    · rw [if_neg h']
      refine (turn_apply 2 (by decide) _ r j).trans ?_
      exact (tap_mid i x0 x1 x2 _ _ j (by show r.val = (r.val + 512 - 2) % 512 + 2; omega)).symm

theorem ahead1 (v : FVec Ideal S1x1024 .f32) (hv : ∀ j, v (ix2 (0 : Fin 1) j) = tap i x0 x1 x2 (514 : Fin 516) j) (r : Fin 512) (j : Fin 1024) :
    select (cmpi .eq (iota .tc S512x1024 32 [0] iota_S512x1024_d0_w32) (broadcast S512x1024 511#32))
      (broadcastTo S512x1024 (shapeCast S1x1024 v shapeCasts_S1x1024_S1x1024) broadcasts_S1x1024_S512x1024)
      (dynamicRotate 0 511#32 none (extf (F := Ideal) .f32 x1 bitsLt_bf16_f32) rotates_S512x1024_d0) (ix2 r j) = tap i x0 x1 x2 (⟨r.val + 3, by omega⟩ : Fin 516) j := by
  refine (select_row 511 (by decide) _ _ r j).trans ?_
  rw [over_apply, hv]
  by_cases h : r.val = 511
  · rw [if_pos h]
    exact congrArg (tap i x0 x1 x2 · j) (Fin.ext (by show 514 = r.val + 3; omega))
  · rw [if_neg h]
    refine (turn_apply 511 (by decide) _ r j).trans ?_
    exact (tap_mid i x0 x1 x2 _ _ j (by show r.val + 3 = (r.val + 512 - 511) % 512 + 2; omega)).symm

theorem ahead2 (v w : FVec Ideal S1x1024 .f32) (hv : ∀ j, v (ix2 (0 : Fin 1) j) = tap i x0 x1 x2 (514 : Fin 516) j)
    (hw : ∀ j, w (ix2 (0 : Fin 1) j) = tap i x0 x1 x2 (515 : Fin 516) j) (r : Fin 512) (j : Fin 1024) :
    select (cmpi .eq (iota .tc S512x1024 32 [0] iota_S512x1024_d0_w32) (broadcast S512x1024 510#32))
      (broadcastTo S512x1024 (shapeCast S1x1024 v shapeCasts_S1x1024_S1x1024) broadcasts_S1x1024_S512x1024)
      (select (cmpi .eq (iota .tc S512x1024 32 [0] iota_S512x1024_d0_w32) (broadcast S512x1024 511#32))
        (broadcastTo S512x1024 (shapeCast S1x1024 w shapeCasts_S1x1024_S1x1024) broadcasts_S1x1024_S512x1024)
        (dynamicRotate 0 510#32 none (extf (F := Ideal) .f32 x1 bitsLt_bf16_f32) rotates_S512x1024_d0)) (ix2 r j) = tap i x0 x1 x2 (⟨r.val + 4, by omega⟩ : Fin 516) j := by
  refine (select_row 510 (by decide) _ _ r j).trans ?_
  rw [over_apply, hv]
  by_cases h : r.val = 510
  · rw [if_pos h]
    exact congrArg (tap i x0 x1 x2 · j) (Fin.ext (by show 514 = r.val + 4; omega))
  · rw [if_neg h]
    refine (select_row 511 (by decide) _ _ r j).trans ?_
    rw [over_apply, hw]
    by_cases h' : r.val = 511
    · rw [if_pos h']
      exact congrArg (tap i x0 x1 x2 · j) (Fin.ext (by show 515 = r.val + 4; omega))
    · rw [if_neg h']
      refine (turn_apply 510 (by decide) _ r j).trans ?_
      exact (tap_mid i x0 x1 x2 _ _ j (by show r.val + 4 = (r.val + 512 - 510) % 512 + 2; omega)).symm

/-- A row of the parameters laid over the block. -/
theorem param_apply (k : Fin 8) (hs) (r : Fin 512) (j : Fin 1024) :
    broadcastTo S512x1024 (extractStridedSlice S1x1024 ![k.val, 0] (shapeCast S8x1024 x3 shapeCasts_S8x1024_S8x1024) hs) broadcasts_S1x1024_S512x1024 (ix2 r j)
      = x3 (ix2 k j) := by
  rw [shapeCast_self x3]
  refine (broadcastTo_apply _ _ (ix2 r j) (ix2 (0 : Fin 1) j) (fun a => match a with | ⟨0, _⟩ => rfl | ⟨1, _⟩ => rfl)).trans ?_
  exact extractStridedSlice_apply ![k.val, 0] x3 hs (ix2 (0 : Fin 1) j) (ix2 k j) fun a => match a with
    | ⟨0, _⟩ => rfl
    | ⟨1, _⟩ => by show j.val = 0 + j.val; omega

/-- Five rows weighted and a bias added. -/
def five (a b c d e : EReal) (w : Fin 8 → EReal) : EReal := a * w 0 + b * w 1 + c * w 2 + d * w 3 + e * w 4 + w 5
/-- An entry times its logistic function. -/
def swish (y : EReal) : EReal := y * Ideal.logistic y

/-- An entry of the block. -/
def convAt (r : Fin 512) (j : Fin 1024) : EReal :=
  swish (five (tap i x0 x1 x2 (⟨r.val, by omega⟩ : Fin 516) j) (tap i x0 x1 x2 (⟨r.val + 1, by omega⟩ : Fin 516) j) (tap i x0 x1 x2 (⟨r.val + 2, by omega⟩ : Fin 516) j)
    (tap i x0 x1 x2 (⟨r.val + 3, by omega⟩ : Fin 516) j) (tap i x0 x1 x2 (⟨r.val + 4, by omega⟩ : Fin 516) j) (fun k => x3 (ix2 k j)))

/-- The payload stored, from what it is made of. -/
theorem pay_apply (a b c d e : FVec Ideal S512x1024 .f32) (p0 p1 p2 p3 p4 p5 : FVec Ideal S512x1024 .f32) (r : Fin 512) (j : Fin 1024) (w : Fin 8 → EReal)
    (h0 : p0 (ix2 r j) = w 0) (h1 : p1 (ix2 r j) = w 1) (h2 : p2 (ix2 r j) = w 2) (h3 : p3 (ix2 r j) = w 3) (h4 : p4 (ix2 r j) = w 4) (h5 : p5 (ix2 r j) = w 5) :
    truncf (F := Ideal) .bf16 (mulf (addf (addf (addf (addf (addf (mulf a p0) (mulf b p1)) (mulf c p2)) (mulf d p3)) (mulf e p4)) p5)
      (logistic (addf (addf (addf (addf (addf (mulf a p0) (mulf b p1)) (mulf c p2)) (mulf d p3)) (mulf e p4)) p5))) bitsLt_bf16_f32 (ix2 r j)
      = swish (five (a (ix2 r j)) (b (ix2 r j)) (c (ix2 r j)) (d (ix2 r j)) (e (ix2 r j)) w) := by
  unfold swish five
  rw [← h0, ← h1, ← h2, ← h3, ← h4, ← h5]
  rfl

/-- The body leaves these entries. -/
theorem block_apply (r : Fin 512) (j : Fin 1024) : out0_4 (F := Ideal) i x0 x1 x2 x3 (ix2 r j) = convAt i x0 x1 x2 x3 r j := by
  have e1 : View.ld x1 r0_0 = x1 := View.ld_unit_zero (S := S512x1024) hz2 _ x1
  have e3 : View.ld x3 r0_5 = x3 := View.ld_unit_zero (S := S8x1024) hz2 _ x3
  have hb1 : ∀ j, k0_pay3 (F := Ideal) i (View.ld x0 r0_2) (ix2 (0 : Fin 1) j) = tap i x0 x1 x2 (1 : Fin 516) j := fun j => before_apply i x0 x1 x2 1 (by decide) _ j
  have hb0 : ∀ j, (Scalar.select (Scalar.cmpi .sgt (BitVec.ofNat 32 (i 1).val) 0#32) (extf (F := Ideal) .f32 (View.ld x0 r0_1) bitsLt_bf16_f32)
      (broadcast S1x1024 (Scalar.ofBits (F := Ideal) .f32 0x00000000#32))) (ix2 (0 : Fin 1) j) = tap i x0 x1 x2 (0 : Fin 516) j := fun j => before_apply i x0 x1 x2 0 (by decide) _ j
  have ha0 : ∀ j, k0_pay4 (F := Ideal) i (View.ld x2 r0_3) (ix2 (0 : Fin 1) j) = tap i x0 x1 x2 (514 : Fin 516) j := fun j => after_apply i x0 x1 x2 0 (by decide) _ j
  have ha1 : ∀ j, k0_pay5 (F := Ideal) i (View.ld x2 r0_4) (ix2 (0 : Fin 1) j) = tap i x0 x1 x2 (515 : Fin 516) j := fun j => after_apply i x0 x1 x2 1 (by decide) _ j
  unfold out0_4
  refine (congrFun (View.canon_unit_zero (S := S512x1024) hz2 _ _) (ix2 r j)).trans ?_
  rw [e1, e3]
  unfold convAt
  rw [← back2 i x0 x1 x2 _ _ hb0 hb1 r j, ← back1 i x0 x1 x2 _ hb1 r j, ← ahead1 i x0 x1 x2 _ ha0 r j, ← ahead2 i x0 x1 x2 _ _ ha0 ha1 r j,
    tap_mid i x0 x1 x2 (⟨r.val + 2, by omega⟩ : Fin 516) r j rfl]
  refine (pay_apply _ _ (extf (F := Ideal) .f32 x1 bitsLt_bf16_f32) _ _ _ _ _ _ _ _ r j (fun k => x3 (ix2 k j)) (param_apply x3 0 slices_S8x1024_o0_0_S1x1024 r j)
    (param_apply x3 1 slices_S8x1024_o1_0_S1x1024 r j) (param_apply x3 2 slices_S8x1024_o2_0_S1x1024 r j) (param_apply x3 3 slices_S8x1024_o3_0_S1x1024 r j)
    (param_apply x3 4 slices_S8x1024_o4_0_S1x1024 r j) (param_apply x3 5 slices_S8x1024_o5_0_S1x1024 r j))

end Block

end Cert.Conv

end
-- ==== Proof.Conv.Reference.lean ====
/-
  The short convolution's reference at an entry. `pad_apply` reads the padded sequence, `ref_weight…` the weights,
  `ref_apply` the result.
-/
module

public import proofs.«01_k».proof.Proof.Conv.Block
public import proofs.«01_k».proof.Proof.Rope
public import proofs.«01_k».proof.Proof.Gen.ReferenceConvIdeal.Read

@[expose] public section

noncomputable section

open Idealize.ShloMosaic hiding ix1 ix2 ix3 ix4
open Idealize.ShloMosaic.TcCoe Idealize.ShloMosaic.ValueIdx Cert.Common

namespace Cert.Conv

/-- Arrays of three axes joined along the second. -/
theorem second_apply {α : Type} {A B T n : Nat} (xs : List ((s : Shape) × (s.Idx → α)))
    (h : Shape.Concatenates (xs.map (·.1)) (⟨3, ![A, T, B]⟩ : Shape) 1) (k : Nat) (hk : k < xs.length) (x : (⟨3, ![A, n, B]⟩ : Shape).Idx → α)
    (hxk : xs[k] = ⟨⟨3, ![A, n, B]⟩, x⟩) (pre : Nat)
    (hpre : (((xs.take k).map (·.1)).map fun s => if h : s.rank = 3 then s.size ((1 : Fin 3).cast h.symm) else 0).sum = pre)
    (a : Fin A) (j : Fin T) (b : Fin B) (j' : Fin n) (hj : pre + j'.val = j.val) :
    concatenate (⟨3, ![A, T, B]⟩ : Shape) 1 xs h (ix3 a j b) = x (ix3 a j' b) :=
  concatenate_apply_piece (t := ⟨3, ![A, T, B]⟩) 1 xs h (ix3 a j b) k hk ⟨3, ![A, n, B]⟩ x hxk rfl pre hpre (ix3 a j' b)
    (fun d hd => match d with
      | ⟨0, _⟩ => rfl
      | ⟨1, _⟩ => absurd rfl hd
      | ⟨2, _⟩ => rfl) hj

open Cert.KernelConvIdeal Cert.KernelConvIdeal.Gen Cert.ReferenceConvIdeal.Read

variable (M : FVec Ideal S32768x14336 .bf16) (W : FVec Ideal S5x6144 .f32) (B : FVec Ideal S6144 .f32)

/-- A sequence with two rows of zeros before it and two after it. -/
def padAt (b : Fin 2) (p : Fin 16388) (ch : Fin 6144) : EReal :=
  if h : p.val < 2 then 0
  else if h' : p.val < 16386 then M (ix2 (flat b (⟨p.val - 2, by omega⟩ : Fin 16384)) (⟨4096 + ch.val, by omega⟩ : Fin 14336))
  else 0

theorem edge_apply (b : Fin 2) (i : Fin 2) (ch : Fin 6144) : val_main_v3 (F := Ideal) (ix3 b i ch) = 0 := by
  rw [val_main_v3_apply]
  exact Ideal.ofBits_zero_f32

theorem inner_apply (b : Fin 2) (i : Fin 16384) (ch : Fin 6144) :
    val_main_v2 (F := Ideal) M (ix3 b i ch) = M (ix2 (flat b i) (⟨4096 + ch.val, by omega⟩ : Fin 14336)) := by
  have hb := b.isLt; have hi := i.isLt; have hc := ch.isLt
  have e : idx_main_v2 (ix3 b i ch) = ix2 (flat b i) ch := by
    refine funext fun a => Fin.ext ?_
    match a with
    | ⟨0, _⟩ => show ((b.val * 16384 + i.val) * 6144 + ch.val) / 6144 = b.val * 16384 + i.val; omega
    | ⟨1, _⟩ => show ((b.val * 16384 + i.val) * 6144 + ch.val) % 6144 = ch.val; omega
  rw [val_main_v2_apply, e]
  exact (val_main_v0_apply (F := Ideal) M (ix2 (flat b i) ch)).trans (congrArg M (ValueIdx.eq_ix2 _))

theorem pad_apply (b : Fin 2) (p : Fin 16388) (ch : Fin 6144) : val_main_v4 (F := Ideal) M (ix3 b p ch) = padAt M b p ch := by
  unfold padAt val_main_v4
  by_cases h : p.val < 2
  · rw [dif_pos h]
    refine (second_apply _ _ 0 (by simp) _ rfl 0 rfl b p ch (⟨p.val, h⟩ : Fin 2) (Nat.zero_add _)).trans ?_
    exact edge_apply b _ ch
  · rw [dif_neg h]
    by_cases h' : p.val < 16386
    · rw [dif_pos h']
      refine (second_apply _ _ 1 (by simp) _ rfl 2 rfl b p ch (⟨p.val - 2, by omega⟩ : Fin 16384) (by show 2 + (p.val - 2) = p.val; omega)).trans ?_
      exact inner_apply M b _ ch
    · rw [dif_neg h']
      have hp := p.isLt
      refine (second_apply _ _ 2 (by simp) _ rfl 16386 rfl b p ch (⟨p.val - 16386, by omega⟩ : Fin 2) (by show 16386 + (p.val - 16386) = p.val; omega)).trans ?_
      exact edge_apply b _ ch

theorem ref_shift0 (b : Fin 2) (i : Fin 16384) (ch : Fin 6144) :
    val_main_v5 (F := Ideal) M (ix3 b i ch) = padAt M b (⟨i.val, by omega⟩ : Fin 16388) ch := by
  rw [val_main_v5_apply, ← pad_apply]
  refine congrArg (val_main_v4 (F := Ideal) M) (funext fun a => Fin.ext ?_)
  match a with
  | ⟨0, _⟩ => rfl
  | ⟨1, _⟩ => rfl
  | ⟨2, _⟩ => rfl
theorem ref_shift1 (b : Fin 2) (i : Fin 16384) (ch : Fin 6144) :
    val_main_v11 (F := Ideal) M (ix3 b i ch) = padAt M b (⟨i.val + 1, by omega⟩ : Fin 16388) ch := by
  rw [val_main_v11_apply, ← pad_apply]
  refine congrArg (val_main_v4 (F := Ideal) M) (funext fun a => Fin.ext ?_)
  match a with
  | ⟨0, _⟩ => rfl
  | ⟨1, _⟩ => exact Nat.add_comm 1 i.val
  | ⟨2, _⟩ => rfl
theorem ref_shift2 (b : Fin 2) (i : Fin 16384) (ch : Fin 6144) :
    val_main_v18 (F := Ideal) M (ix3 b i ch) = padAt M b (⟨i.val + 2, by omega⟩ : Fin 16388) ch := by
  rw [val_main_v18_apply, ← pad_apply]
  refine congrArg (val_main_v4 (F := Ideal) M) (funext fun a => Fin.ext ?_)
  match a with
  | ⟨0, _⟩ => rfl
  | ⟨1, _⟩ => exact Nat.add_comm 2 i.val
  | ⟨2, _⟩ => rfl
theorem ref_shift3 (b : Fin 2) (i : Fin 16384) (ch : Fin 6144) :
    val_main_v25 (F := Ideal) M (ix3 b i ch) = padAt M b (⟨i.val + 3, by omega⟩ : Fin 16388) ch := by
  rw [val_main_v25_apply, ← pad_apply]
  refine congrArg (val_main_v4 (F := Ideal) M) (funext fun a => Fin.ext ?_)
  match a with
  | ⟨0, _⟩ => rfl
  | ⟨1, _⟩ => exact Nat.add_comm 3 i.val
  | ⟨2, _⟩ => rfl
theorem ref_shift4 (b : Fin 2) (i : Fin 16384) (ch : Fin 6144) :
    val_main_v32 (F := Ideal) M (ix3 b i ch) = padAt M b (⟨i.val + 4, by omega⟩ : Fin 16388) ch := by
  rw [val_main_v32_apply, ← pad_apply]
  refine congrArg (val_main_v4 (F := Ideal) M) (funext fun a => Fin.ext ?_)
  match a with
  | ⟨0, _⟩ => rfl
  | ⟨1, _⟩ => exact Nat.add_comm 4 i.val
  | ⟨2, _⟩ => rfl
theorem ref_weight0 (b : Fin 2) (i : Fin 16384) (ch : Fin 6144) : val_main_v9 (F := Ideal) W (ix3 b i ch) = W (ix2 (0 : Fin 5) ch) := by
  rw [val_main_v9_apply, val_main_v8_apply, val_main_v7_apply, val_main_v6_apply]
  refine congrArg W (funext fun a => Fin.ext ?_)
  match a with
  | ⟨0, _⟩ => rfl
  | ⟨1, _⟩ => show ch.val % 6144 = ch.val; exact Nat.mod_eq_of_lt ch.isLt
theorem ref_weight1 (b : Fin 2) (i : Fin 16384) (ch : Fin 6144) : val_main_v15 (F := Ideal) W (ix3 b i ch) = W (ix2 (1 : Fin 5) ch) := by
  rw [val_main_v15_apply, val_main_v14_apply, val_main_v13_apply, val_main_v12_apply]
  refine congrArg W (funext fun a => Fin.ext ?_)
  match a with
  | ⟨0, _⟩ => rfl
  | ⟨1, _⟩ => show ch.val % 6144 = ch.val; exact Nat.mod_eq_of_lt ch.isLt
theorem ref_weight2 (b : Fin 2) (i : Fin 16384) (ch : Fin 6144) : val_main_v22 (F := Ideal) W (ix3 b i ch) = W (ix2 (2 : Fin 5) ch) := by
  rw [val_main_v22_apply, val_main_v21_apply, val_main_v20_apply, val_main_v19_apply]
  refine congrArg W (funext fun a => Fin.ext ?_)
  match a with
  | ⟨0, _⟩ => rfl
  | ⟨1, _⟩ => show ch.val % 6144 = ch.val; exact Nat.mod_eq_of_lt ch.isLt
theorem ref_weight3 (b : Fin 2) (i : Fin 16384) (ch : Fin 6144) : val_main_v29 (F := Ideal) W (ix3 b i ch) = W (ix2 (3 : Fin 5) ch) := by
  rw [val_main_v29_apply, val_main_v28_apply, val_main_v27_apply, val_main_v26_apply]
  refine congrArg W (funext fun a => Fin.ext ?_)
  match a with
  | ⟨0, _⟩ => rfl
  | ⟨1, _⟩ => show ch.val % 6144 = ch.val; exact Nat.mod_eq_of_lt ch.isLt
theorem ref_weight4 (b : Fin 2) (i : Fin 16384) (ch : Fin 6144) : val_main_v36 (F := Ideal) W (ix3 b i ch) = W (ix2 (4 : Fin 5) ch) := by
  rw [val_main_v36_apply, val_main_v35_apply, val_main_v34_apply, val_main_v33_apply]
  refine congrArg W (funext fun a => Fin.ext ?_)
  match a with
  | ⟨0, _⟩ => rfl
  | ⟨1, _⟩ => show ch.val % 6144 = ch.val; exact Nat.mod_eq_of_lt ch.isLt
theorem ref_bias (b : Fin 2) (i : Fin 16384) (ch : Fin 6144) : val_main_v40 (F := Ideal) B (ix3 b i ch) = B (ix1 ch) := by
  rw [val_main_v40_apply, val_main_v39_apply]
  exact congrArg B (ValueIdx.eq_ix1 _)

/-- The weights of a channel, its bias, zeros. -/
def weights (ch : Fin 6144) : Fin 8 → EReal :=
  ![W (ix2 (0 : Fin 5) ch), W (ix2 (1 : Fin 5) ch), W (ix2 (2 : Fin 5) ch), W (ix2 (3 : Fin 5) ch), W (ix2 (4 : Fin 5) ch), B (ix1 ch), 0, 0]

/-- The result of a sequence at a place and a channel. -/
def entryAt (b : Fin 2) (i : Fin 16384) (ch : Fin 6144) : EReal :=
  swish (five (padAt M b (⟨i.val, by omega⟩ : Fin 16388) ch) (padAt M b (⟨i.val + 1, by omega⟩ : Fin 16388) ch) (padAt M b (⟨i.val + 2, by omega⟩ : Fin 16388) ch)
    (padAt M b (⟨i.val + 3, by omega⟩ : Fin 16388) ch) (padAt M b (⟨i.val + 4, by omega⟩ : Fin 16388) ch) (weights W B ch))

theorem ref_sum (b : Fin 2) (i : Fin 16384) (ch : Fin 6144) : val_main_v41 (F := Ideal) M W B (ix3 b i ch)
    = five (padAt M b (⟨i.val, by omega⟩ : Fin 16388) ch) (padAt M b (⟨i.val + 1, by omega⟩ : Fin 16388) ch) (padAt M b (⟨i.val + 2, by omega⟩ : Fin 16388) ch)
      (padAt M b (⟨i.val + 3, by omega⟩ : Fin 16388) ch) (padAt M b (⟨i.val + 4, by omega⟩ : Fin 16388) ch) (weights W B ch) := by
  unfold five
  rw [show weights W B ch 0 = _ from (ref_weight0 W b i ch).symm, show weights W B ch 1 = _ from (ref_weight1 W b i ch).symm,
    show weights W B ch 2 = _ from (ref_weight2 W b i ch).symm, show weights W B ch 3 = _ from (ref_weight3 W b i ch).symm,
    show weights W B ch 4 = _ from (ref_weight4 W b i ch).symm, show weights W B ch 5 = _ from (ref_bias B b i ch).symm,
    ← ref_shift0, ← ref_shift1, ← ref_shift2, ← ref_shift3, ← ref_shift4]
  rfl

theorem ref_silu (b : Fin 2) (i : Fin 16384) (ch : Fin 6144) : val_main_v42 (F := Ideal) M W B (ix3 b i ch) = entryAt M W B b i ch := by
  unfold entryAt swish
  rw [← ref_sum, ← logistic_host]
  rfl

/-- The reference's entry. -/
theorem ref_apply (b : Fin 2) (i : Fin 16384) (ch : Fin 6144) : val_main_v44 (F := Ideal) M W B (ix2 (flat b i) ch) = entryAt M W B b i ch := by
  have hb := b.isLt; have hi := i.isLt; have hc := ch.isLt
  refine (val_main_v43_apply (F := Ideal) M W B (ix2 (flat b i) ch)).trans ?_
  rw [← ref_silu]
  refine congrArg (val_main_v42 (F := Ideal) M W B) (funext fun a => Fin.ext ?_)
  match a with
  | ⟨0, _⟩ => show ((b.val * 16384 + i.val) * 6144 + ch.val) / 100663296 = b.val; omega
  | ⟨1, _⟩ => show ((b.val * 16384 + i.val) * 6144 + ch.val) / 6144 % 16384 = i.val; omega
  | ⟨2, _⟩ => show ((b.val * 16384 + i.val) * 6144 + ch.val) % 6144 = ch.val; omega

end Cert.Conv

end
-- ==== Proof.Conv.Value.lean ====
/-
  The short convolution against the reference. `params_apply` reads the weights and the bias as the host lays them out,
  `blk…` the kernel's blocks in the arguments, `tap_eq` a block's row in the padded sequence; `final`: the array the
  kernel leaves is the reference's.
-/
module

public import proofs.«01_k».proof.Proof.Conv.Reference

@[expose] public section

noncomputable section

open Idealize.ShloMosaic hiding ix1 ix2 ix3 ix4
open Idealize.ShloMosaic.TcCoe Idealize.ShloMosaic.ValueIdx Cert.Common

namespace Cert.Conv

open Cert.KernelConvIdeal Cert.KernelConvIdeal.Gen

variable (m : (ℓ : Loc nD τ sig) → Buf (Elt Ideal) ℓ) (c : Dev nD)

/-- The arguments: the large projection, the weights, the bias. -/
abbrev argM : FVec Ideal S32768x14336 .bf16 := m ((c.tc : Thread nD τ).loc main_arg0)
abbrev argW : FVec Ideal S5x6144 .f32 := m ((c.tc : Thread nD τ).loc main_arg1)
abbrev argB : FVec Ideal S6144 .f32 := m ((c.tc : Thread nD τ).loc main_arg2)

/-- Six rows, one under another. -/
def sixRows (a b c d e f : FVec Ideal S1x6144 .f32) : FVec Ideal S6x6144 .f32 :=
  concatenate S6x6144 0 [⟨S1x6144, a⟩, ⟨S1x6144, b⟩, ⟨S1x6144, c⟩, ⟨S1x6144, d⟩, ⟨S1x6144, e⟩, ⟨S1x6144, f⟩] concatenates_S1x6144_S1x6144_S1x6144_S1x6144_S1x6144_S1x6144_S6x6144_d0

/-- A row of its own. -/
def asRow (x : FVec Ideal S6144 .f32) : FVec Ideal S1x6144 .f32 := broadcastInDim S1x6144 ![1] bcast_S6144_S1x6144_1 x

/-- The weights and the bias over two rows of zeros. -/
def params (W : FVec Ideal S5x6144 .f32) (B : FVec Ideal S6144 .f32) : FVec Ideal S8x6144 .f32 :=
  concatenate S8x6144 0 [⟨S6x6144, sixRows
      (asRow (shapeCast S6144 (extractStridedSlice S1x6144 ![0, 0] W slices_S5x6144_S1x6144_0_0) shapeCasts_S1x6144_S6144))
      (asRow (shapeCast S6144 (extractStridedSlice S1x6144 ![1, 0] W slices_S5x6144_S1x6144_1_0) shapeCasts_S1x6144_S6144))
      (asRow (shapeCast S6144 (extractStridedSlice S1x6144 ![2, 0] W slices_S5x6144_S1x6144_2_0) shapeCasts_S1x6144_S6144))
      (asRow (shapeCast S6144 (extractStridedSlice S1x6144 ![3, 0] W slices_S5x6144_S1x6144_3_0) shapeCasts_S1x6144_S6144))
      (asRow (shapeCast S6144 (extractStridedSlice S1x6144 ![4, 0] W slices_S5x6144_S1x6144_4_0) shapeCasts_S1x6144_S6144))
      (asRow B)⟩,
    ⟨S2x6144, broadcastInDim S2x6144 ![] bcast_S_S2x6144 (constant (F := Ideal) S_ .f32 0x00000000#32)⟩] concatenates_S6x6144_S2x6144_S8x6144_d0

/-- The six rows' result, each operand at its own buffer. -/
theorem six_result (hxs hy) (G : Valuation τ sig (Elt Ideal)) :
    (StableHlo.nary (τ := τ) (Val := Elt Ideal) ![main_v11, main_v12, main_v13, main_v14, main_v15, main_v16] main_v17
      (fun u => (concatenate S6x6144 0 [⟨S1x6144, (u 0 : (⟨S1x6144, .f32⟩ : BufTy).Contents (Elt Ideal))⟩, ⟨S1x6144, (u 1 : (⟨S1x6144, .f32⟩ : BufTy).Contents (Elt Ideal))⟩, ⟨S1x6144, (u 2 : (⟨S1x6144, .f32⟩ : BufTy).Contents (Elt Ideal))⟩, ⟨S1x6144, (u 3 : (⟨S1x6144, .f32⟩ : BufTy).Contents (Elt Ideal))⟩, ⟨S1x6144, (u 4 : (⟨S1x6144, .f32⟩ : BufTy).Contents (Elt Ideal))⟩, ⟨S1x6144, (u 5 : (⟨S1x6144, .f32⟩ : BufTy).Contents (Elt Ideal))⟩]
        concatenates_S1x6144_S1x6144_S1x6144_S1x6144_S1x6144_S1x6144_S6x6144_d0 : (⟨S6x6144, .f32⟩ : BufTy).Contents (Elt Ideal)))
      hxs hy).result G (Proc.devRef .tc main_v17)
      = sixRows (G (Proc.devRef .tc main_v11)) (G (Proc.devRef .tc main_v12)) (G (Proc.devRef .tc main_v13)) (G (Proc.devRef .tc main_v14))
        (G (Proc.devRef .tc main_v15)) (G (Proc.devRef .tc main_v16)) := by
  rw [StableHlo.nary_result]
  rfl

theorem V_params : (V m c main_v18 : FVec Ideal S8x6144 .f32) = params (argW m c) (argB m c) := by
  unfold params asRow
  unfold_abbrev_sides
  after_results
  rfl

theorem asRow_apply (x : FVec Ideal S6144 .f32) (ch : Fin 6144) : asRow x (ix2 (0 : Fin 1) ch) = x (ix1 ch) :=
  broadcastInDim_apply _ _ x _ (ix1 ch) (fun a => match a with | ⟨0, _⟩ => rfl)

theorem slice_apply (k : Fin 5) (W : FVec Ideal S5x6144 .f32) (hs) (ch : Fin 6144) :
    asRow (shapeCast S6144 (extractStridedSlice S1x6144 ![k.val, 0] W hs) shapeCasts_S1x6144_S6144) (ix2 (0 : Fin 1) ch) = W (ix2 k ch) := by
  rw [asRow_apply]
  refine (shapeCast_apply _ _ _ (ix2 (0 : Fin 1) ch) (by
    rewrite [Shape.rowMajor_val_two, Shape.rowMajor_val_one]
    show 0 * 6144 + ch.val = ch.val
    omega)).trans ?_
  exact extractStridedSlice_apply ![k.val, 0] W hs (ix2 (0 : Fin 1) ch) (ix2 k ch) fun a => match a with
    | ⟨0, _⟩ => rfl
    | ⟨1, _⟩ => by show ch.val = 0 + ch.val; omega

theorem params_apply0 (W : FVec Ideal S5x6144 .f32) (B : FVec Ideal S6144 .f32) (ch : Fin 6144) : params W B (ix2 (0 : Fin 8) ch) = W (ix2 (0 : Fin 5) ch) := by
  unfold params
  refine (stacked_apply _ _ 0 (by simp) _ rfl 0 rfl (0 : Fin 8) ch (0 : Fin 6) rfl).trans ?_
  unfold sixRows
  refine (stacked_apply _ _ 0 (by simp) _ rfl 0 rfl (0 : Fin 6) ch (0 : Fin 1) rfl).trans ?_
  exact slice_apply 0 W _ ch
theorem params_apply1 (W : FVec Ideal S5x6144 .f32) (B : FVec Ideal S6144 .f32) (ch : Fin 6144) : params W B (ix2 (1 : Fin 8) ch) = W (ix2 (1 : Fin 5) ch) := by
  unfold params
  refine (stacked_apply _ _ 0 (by simp) _ rfl 0 rfl (1 : Fin 8) ch (1 : Fin 6) rfl).trans ?_
  unfold sixRows
  refine (stacked_apply _ _ 1 (by simp) _ rfl 1 rfl (1 : Fin 6) ch (0 : Fin 1) rfl).trans ?_
  exact slice_apply 1 W _ ch
theorem params_apply2 (W : FVec Ideal S5x6144 .f32) (B : FVec Ideal S6144 .f32) (ch : Fin 6144) : params W B (ix2 (2 : Fin 8) ch) = W (ix2 (2 : Fin 5) ch) := by
  unfold params
  refine (stacked_apply _ _ 0 (by simp) _ rfl 0 rfl (2 : Fin 8) ch (2 : Fin 6) rfl).trans ?_
  unfold sixRows
  refine (stacked_apply _ _ 2 (by simp) _ rfl 2 rfl (2 : Fin 6) ch (0 : Fin 1) rfl).trans ?_
  exact slice_apply 2 W _ ch
theorem params_apply3 (W : FVec Ideal S5x6144 .f32) (B : FVec Ideal S6144 .f32) (ch : Fin 6144) : params W B (ix2 (3 : Fin 8) ch) = W (ix2 (3 : Fin 5) ch) := by
  unfold params
  refine (stacked_apply _ _ 0 (by simp) _ rfl 0 rfl (3 : Fin 8) ch (3 : Fin 6) rfl).trans ?_
  unfold sixRows
  refine (stacked_apply _ _ 3 (by simp) _ rfl 3 rfl (3 : Fin 6) ch (0 : Fin 1) rfl).trans ?_
  exact slice_apply 3 W _ ch
theorem params_apply4 (W : FVec Ideal S5x6144 .f32) (B : FVec Ideal S6144 .f32) (ch : Fin 6144) : params W B (ix2 (4 : Fin 8) ch) = W (ix2 (4 : Fin 5) ch) := by
  unfold params
  refine (stacked_apply _ _ 0 (by simp) _ rfl 0 rfl (4 : Fin 8) ch (4 : Fin 6) rfl).trans ?_
  unfold sixRows
  refine (stacked_apply _ _ 4 (by simp) _ rfl 4 rfl (4 : Fin 6) ch (0 : Fin 1) rfl).trans ?_
  exact slice_apply 4 W _ ch
theorem params_apply5 (W : FVec Ideal S5x6144 .f32) (B : FVec Ideal S6144 .f32) (ch : Fin 6144) : params W B (ix2 (5 : Fin 8) ch) = B (ix1 ch) := by
  unfold params
  refine (stacked_apply _ _ 0 (by simp) _ rfl 0 rfl (5 : Fin 8) ch (5 : Fin 6) rfl).trans ?_
  unfold sixRows
  refine (stacked_apply _ _ 5 (by simp) _ rfl 5 rfl (5 : Fin 6) ch (0 : Fin 1) rfl).trans ?_
  exact asRow_apply B ch
theorem index0 : ∀ t : Fin cfg0.N, win0_0.index t = ![t.val / 6 * 32 - 1, 4 + t.val % 6] := (by decide +kernel : ∀ t : Fin grid0.N, win0_0.index t = ![t.val / 6 * 32 - 1, 4 + t.val % 6])
theorem index1 : ∀ t : Fin cfg0.N, win0_1.index t = ![t.val / 6, 4 + t.val % 6] := (by decide +kernel : ∀ t : Fin grid0.N, win0_1.index t = ![t.val / 6, 4 + t.val % 6])
theorem index2 : ∀ t : Fin cfg0.N, win0_2.index t = ![min ((t.val / 6 + 1) * 32) 2047, 4 + t.val % 6] := (by decide +kernel : ∀ t : Fin grid0.N, win0_2.index t = ![min ((t.val / 6 + 1) * 32) 2047, 4 + t.val % 6])
theorem index3 : ∀ t : Fin cfg0.N, win0_3.index t = ![0, t.val % 6] := (by decide +kernel : ∀ t : Fin grid0.N, win0_3.index t = ![0, t.val % 6])
theorem index4 : ∀ t : Fin cfg0.N, win0_4.index t = ![t.val / 6, t.val % 6] := (by decide +kernel : ∀ t : Fin grid0.N, win0_4.index t = ![t.val / 6, t.val % 6])
theorem place_eq : ∀ t : Fin cfg0.N, (place (grid0.coords t)).val = t.val / 6 % 32 := (by decide +kernel : ∀ t : Fin grid0.N, (place (grid0.coords t)).val = t.val / 6 % 32)

variable (t : Fin cfg0.N)
theorem lt_N : t.val < 384 := Nat.lt_of_lt_of_eq t.isLt (by decide)

/-- A block's sequence. -/
def seqOf : Fin 2 := ⟨t.val / 192, by have := lt_N t; omega⟩
/-- A block's column among the channels. -/
def colOf (j : Fin 1024) : Fin 6144 := ⟨t.val % 6 * 1024 + j.val, by omega⟩
/-- A block's row in the padded sequence. -/
def padOf (p : Fin 516) : Fin 16388 := ⟨t.val / 6 % 32 * 512 + p.val, by omega⟩

theorem blk0 (r : Fin 16) (j : Fin 1024) (n : Fin 32768) (hn : n.val = (t.val / 6 * 32 - 1) * 16 + r.val) :
    iblk m c 0 t (ix2 r j) = argM m c (ix2 n (⟨4096 + (colOf t j).val, by omega⟩ : Fin 14336)) := by
  blk_simp [iblk]
  rw [V_main_arg0]
  refine congrArg (argM m c) (funext fun a => Fin.ext ?_)
  match a with
  | ⟨0, _⟩ => blk_simp [index0, hn]
  | ⟨1, _⟩ =>
    blk_simp [index0]
    show (4 + t.val % 6) * 1024 + j.val = 4096 + (t.val % 6 * 1024 + j.val)
    omega
theorem blk1 (r : Fin 512) (j : Fin 1024) (n : Fin 32768) (hn : n.val = (t.val / 6) * 512 + r.val) :
    iblk m c 1 t (ix2 r j) = argM m c (ix2 n (⟨4096 + (colOf t j).val, by omega⟩ : Fin 14336)) := by
  blk_simp [iblk]
  rw [V_main_arg0]
  refine congrArg (argM m c) (funext fun a => Fin.ext ?_)
  match a with
  | ⟨0, _⟩ => blk_simp [index1, hn]
  | ⟨1, _⟩ =>
    blk_simp [index1]
    show (4 + t.val % 6) * 1024 + j.val = 4096 + (t.val % 6 * 1024 + j.val)
    omega
theorem blk2 (r : Fin 16) (j : Fin 1024) (n : Fin 32768) (hn : n.val = (min ((t.val / 6 + 1) * 32) 2047) * 16 + r.val) :
    iblk m c 2 t (ix2 r j) = argM m c (ix2 n (⟨4096 + (colOf t j).val, by omega⟩ : Fin 14336)) := by
  blk_simp [iblk]
  rw [V_main_arg0]
  refine congrArg (argM m c) (funext fun a => Fin.ext ?_)
  match a with
  | ⟨0, _⟩ => blk_simp [index2, hn]
  | ⟨1, _⟩ =>
    blk_simp [index2]
    show (4 + t.val % 6) * 1024 + j.val = 4096 + (t.val % 6 * 1024 + j.val)
    omega
theorem blk3 (k : Fin 8) (j : Fin 1024) : iblk m c 3 t (ix2 k j) = params (argW m c) (argB m c) (ix2 k (colOf t j)) := by
  blk_simp [iblk]
  refine (congrFun (V_params m c) _).trans ?_
  refine congrArg (params (argW m c) (argB m c)) (funext fun a => Fin.ext ?_)
  match a with
  | ⟨0, _⟩ => blk_simp [index3]
  | ⟨1, _⟩ => blk_simp [index3]; rfl

/-- A block's row, with those around it, is a row of the padded sequence. -/
theorem tap_eq (p : Fin 516) (j : Fin 1024) :
    tap (grid0.coords t) (iblk m c 0 t) (iblk m c 1 t) (iblk m c 2 t) p j = padAt (argM m c) (seqOf t) (padOf t p) (colOf t j) := by
  have ht := lt_N t; have hp := p.isLt
  unfold tap padAt
  rw [place_eq]
  have hv : (padOf t p).val = t.val / 6 % 32 * 512 + p.val := rfl
  by_cases h : p.val < 2
  · rw [dif_pos h]
    by_cases h0 : 0 < t.val / 6 % 32
    · rw [if_pos h0, dif_neg (by omega), dif_pos (by omega)]
      refine (blk0 m c t _ j _ ?_)
      show t.val / 192 * 16384 + (t.val / 6 % 32 * 512 + p.val - 2) = (t.val / 6 * 32 - 1) * 16 + (14 + p.val)
      omega
    · rw [if_neg h0, dif_pos (by omega)]
  · rw [dif_neg h]
    by_cases h' : p.val < 514
    · rw [dif_pos h', dif_neg (by omega), dif_pos (by omega)]
      refine (blk1 m c t _ j _ ?_)
      show t.val / 192 * 16384 + (t.val / 6 % 32 * 512 + p.val - 2) = t.val / 6 * 512 + (p.val - 2)
      omega
    · rw [dif_neg h']
      by_cases h1 : t.val / 6 % 32 < 31
      · rw [if_pos h1, dif_neg (by omega), dif_pos (by omega)]
        refine (blk2 m c t _ j _ ?_)
        show t.val / 192 * 16384 + (t.val / 6 % 32 * 512 + p.val - 2) = (min ((t.val / 6 + 1) * 32) 2047) * 16 + (p.val - 514)
        omega
      · rw [if_neg h1, dif_neg (by omega), dif_neg (by omega)]

/-- A block's place in its sequence. -/
def placeOf (r : Fin 512) : Fin 16384 := ⟨t.val / 6 % 32 * 512 + r.val, by omega⟩

/-- An entry of the block left is the reference's. -/
theorem conv_eq (r : Fin 512) (j : Fin 1024) : convAt (grid0.coords t) (iblk m c 0 t) (iblk m c 1 t) (iblk m c 2 t) (iblk m c 3 t) r j
    = entryAt (argM m c) (argW m c) (argB m c) (seqOf t) (placeOf t r) (colOf t j) := by
  unfold convAt entryAt
  rw [tap_eq, tap_eq, tap_eq, tap_eq, tap_eq]
  unfold five
  refine congrArg swish ?_
  beta_reduce
  rw [blk3, blk3, blk3, blk3, blk3, blk3, params_apply0, params_apply1, params_apply2, params_apply3, params_apply4, params_apply5]
  rfl

/-- The array the kernel leaves is the reference's. -/
theorem final : (dats m 0 c).arrAt 4 cfg0.N = Cert.ReferenceConvIdeal.Read.val_main_v44 (F := Ideal) (argM m c) (argW m c) (argB m c) := by
  refine (dats m 0 c).arrAt_eq_of_covers 4 _ (by decide +kernel) fun t _ y => ?_
  blk_simp
  rw [after0_4]
  obtain ⟨r, j, rfl⟩ : ∃ (r : Fin 512) (j : Fin 1024), y = ix2 r j := ⟨y 0, y 1, ValueIdx.eq_ix2 y⟩
  refine (block_apply (grid0.coords t) (iblk m c 0 t) (iblk m c 1 t) (iblk m c 2 t) (iblk m c 3 t) r j).trans ?_
  refine (conv_eq m c t r j).trans ?_
  generalize hR : Cert.ReferenceConvIdeal.Read.val_main_v44 (F := Ideal) (argM m c) (argW m c) (argB m c) = R
  refine (ref_apply (argM m c) (argW m c) (argB m c) (seqOf t) (placeOf t r) (colOf t j)).symm.trans ?_
  rw [hR]
  refine congrArg R (funext fun a => Fin.ext ?_)
  have ht := lt_N t
  match a with
  | ⟨0, _⟩ =>
    blk_simp [index4]
    show t.val / 192 * 16384 + (t.val / 6 % 32 * 512 + r.val) = t.val / 6 * 512 + r.val
    omega
  | ⟨1, _⟩ => blk_simp [index4]; rfl

end Cert.Conv

end
-- ==== Proof.Conv.Claims.lean ====
/-
  The claims about the short convolution: the three runs leave their arguments and the counters as they were, and the kernel and the
  reference leave the same array.
-/
module

public import proofs.«01_k».proof.Defs
public import proofs.«01_k».proof.Proof.Gen.KernelConv.Frame
public import proofs.«01_k».proof.Proof.Gen.ReferenceConvIdeal.Run
public import proofs.«01_k».proof.Proof.Conv.Value
public import Idealize.ShloMosaic.Lib.Quiescent

@[expose] public section

noncomputable section

open Idealize.ShloMosaic Idealize.SL.Sem

namespace Cert.Conv

theorem frame_kernel : Cert.quiescent_KernelConv (hKernelConv := Cert.KernelConv.Gen.facts) := fun m ρ _ => Cert.KernelConv.Gen.frame m ρ
theorem frame_ideal : Cert.quiescent_KernelConvIdeal (hKernelConvIdeal := Cert.KernelConvIdeal.Gen.facts) := fun m ρ _ => Cert.KernelConvIdeal.Gen.frame m ρ
theorem frame_ref : Cert.quiescent_ReferenceConvIdeal (hReferenceConvIdeal := Cert.ReferenceConvIdeal.Gen.facts) := fun m ρ _ =>
  (θ_run _ _ _).mono (fun r h => ⟨fun c => (h c).2, sem_eq_zero_of_no_sems (by decide) r.2⟩) (Cert.ReferenceConvIdeal.Value.run (F := Ideal) m ρ)

/-- What the idealization names is what it says. -/
theorem preserves : Cert.preserves_KernelConv_KernelConvIdeal := trivial

/-- The kernel's result is the reference's. -/
theorem algebraic : Cert.algebraic_KernelConvIdeal_ReferenceConvIdeal (hKernelConvIdeal := Cert.KernelConvIdeal.Gen.facts)
    (hReferenceConvIdeal := Cert.ReferenceConvIdeal.Gen.facts) := fun m ρ m' ρ' _ hm =>
  ⟨fun c => Cert.ReferenceConvIdeal.Read.val_main_v44 (F := Ideal) (argM m c) (argW m c) (argB m c),
    (θ_run _ _ _).mono (fun r h c => ⟨(h c).1.trans (final m c), (h c).2⟩) (Cert.KernelConvIdeal.Value.run_blocks (F := Ideal) m ρ),
    (θ_run _ _ _).mono (fun r h c => ⟨(h c).1.trans (by rw [Cert.ReferenceConvIdeal.Read.val_main_v44_eq, (hm c).1, (hm c).2.1, (hm c).2.2]),
        (h c).2⟩)
      (Cert.ReferenceConvIdeal.Value.run (F := Ideal) m' ρ')⟩

end Cert.Conv

end
-- ==== Proof.Finish.Block.lean ====
/-
  The block of the state-space branch's last call: the gated sums of a row and their norm, group by group. `block_apply`:
  every entry of the block the body leaves.
-/
module

public import proofs.«01_k».proof.Proof.Gen.KernelFinishIdeal.Value
public import proofs.«01_k».proof.Proof.Rope
public import Idealize.ShloMosaic.Lib.Pipeline.ValueKit
public import Idealize.ShloMosaic.Lib.Pipeline.ReadBack
public import Idealize.ShloMosaic.Lib.Tactic

@[expose] public section

noncomputable section

open Idealize.ShloMosaic hiding ix1 ix2 ix3 ix4
open Idealize.ShloMosaic.TcCoe Idealize.ShloMosaic.ValueIdx Cert.Common Idealize.ShloMosaic.Tactic

namespace Cert.Finish

open Cert.KernelFinishIdeal Cert.KernelFinishIdeal.Gen

/-- The sum of the two directions and the skip term, gated. -/
def gate (yf yb xs z d : EReal) : EReal := (yf + yb + d * xs) * (z * Ideal.logistic z)

section Block

variable (x0 x1 x2 x3 : Vec Ideal S256x4096 .bf16) (x4 : Vec Ideal S8x4096 .f32)

/-- A gated entry of the block. -/
def gatedAt (r : Fin 256) (j : Fin 4096) : EReal :=
  gate (x0 (ix2 r j)) (x1 (ix2 r j)) (x2 (ix2 r j)) (x3 (ix2 r j)) (x4 (ix2 (0 : Fin 8) j))

/-- The entries of one group of channels, normalized. -/
def groupAt (r : Fin 256) (g : Fin 8) (e : Fin 512) : EReal :=
  rmsRow (fun k => gatedAt x0 x1 x2 x3 x4 r ⟨512 * g.val + k.val, by omega⟩) (fun k => x4 (ix2 (1 : Fin 8) (⟨512 * g.val + k.val, by omega⟩ : Fin 4096))) e

/-- The block of these entries. -/
def finBlock (y : S256x4096.Idx) : EReal := groupAt x0 x1 x2 x3 x4 (y 0)
  ⟨(y 1).val / 512, by have h : (y 1).val < 4096 := (y 1).isLt; omega⟩ ⟨(y 1).val % 512, Nat.mod_lt _ (by decide)⟩

/-- The gated sums as the body makes them. -/
abbrev sums : FVec Ideal S256x4096 .f32 := k0_pay3 (F := Ideal) x3 x0 x1 (View.ld x4 (Rect.unit ![0, 0] ![1, 4096] inb_S8x4096_S1x4096_0_0)) x2

theorem sums_apply (r : Fin 256) (j : Fin 4096) : sums x0 x1 x2 x3 x4 (ix2 r j) = gatedAt x0 x1 x2 x3 x4 r j := by
  have e : broadcastTo S256x4096 (View.ld x4 (Rect.unit ![0, 0] ![1, 4096] inb_S8x4096_S1x4096_0_0)) broadcasts_S1x4096_S256x4096 (ix2 r j) = x4 (ix2 (0 : Fin 8) j) :=
    (broadcastTo_apply _ _ (ix2 r j) (ix2 (0 : Fin 1) j) (fun a => match a with | ⟨0, _⟩ => rfl | ⟨1, _⟩ => rfl)).trans
      (View.ld_unit_apply_of x4 _ _ _ _ _ fun a => match a with
        | ⟨0, _⟩ => rfl
        | ⟨1, _⟩ => by show j.val = 0 + j.val; omega)
  unfold gatedAt gate
  rw [← e]
  unfold sums k0_pay3
  rw [shapeCast_self (s := S1x4096)]
  rfl

/-- A stored group of channels is a piece of the block. -/
theorem piece (g : Fin 8) (off : Nat) (ho : off = 512 * g.val) (hs) (inbW) (inb) (Q : FVec Ideal S256x512 .bf16)
    (hQ : Q = truncf .bf16 (rmsBlock reduces_S256x512_S256 shapeCasts_S256_S256x1 broadcasts_S256x1_S256x512 broadcasts_S1x512_S256x512
      (extractStridedSlice S256x512 ![0, off] (sums x0 x1 x2 x3 x4) hs)
      (shapeCast S1x512 (View.ld x4 (Rect.unit (s := S8x4096) ![1, off] ![1, 512] inbW)) shapeCasts_S1x512_S1x512)) bitsLt_bf16_f32)
    (x : S256x512.Idx) : Q x = finBlock x0 x1 x2 x3 x4 ((Rect.unit (s := S256x4096) ![0, off] ![256, 512] inb).emb x) := by
  obtain ⟨r, j, rfl⟩ : ∃ (r : Fin 256) (j : Fin 512), x = ix2 r j := ⟨x 0, x 1, ValueIdx.eq_ix2 x⟩
  rw [hQ, shapeCast_self (s := S1x512)]
  refine (rmsBlock_apply _ _ _ _ _ _ r j).trans ?_
  have e : (Rect.unit (s := S256x4096) ![0, off] ![256, 512] inb).emb (ix2 r j) = ix2 r (⟨512 * g.val + j.val, by omega⟩ : Fin 4096) :=
    funext fun a => Fin.ext (match a with
      | ⟨0, _⟩ => by show 0 + 1 * r.val = r.val; omega
      | ⟨1, _⟩ => by show off + 1 * j.val = 512 * g.val + j.val; omega)
  rw [e]
  have e0 : finBlock x0 x1 x2 x3 x4 (ix2 r (⟨512 * g.val + j.val, by omega⟩ : Fin 4096)) = groupAt x0 x1 x2 x3 x4 r g j := by
    show groupAt x0 x1 x2 x3 x4 r _ _ = _
    congr 1
    · exact Fin.ext (by show (512 * g.val + j.val) / 512 = g.val; omega)
    · exact Fin.ext (by show (512 * g.val + j.val) % 512 = j.val; omega)
  rw [e0]
  unfold groupAt
  have e1 : (fun k : Fin 512 => (extractStridedSlice S256x512 ![0, off] (sums x0 x1 x2 x3 x4) hs (ix2 r k) : EReal))
      = fun k => gatedAt x0 x1 x2 x3 x4 r ⟨512 * g.val + k.val, by omega⟩ := funext fun k =>
    (extractStridedSlice_apply ![0, off] (sums x0 x1 x2 x3 x4) hs (ix2 r k) (ix2 r (⟨512 * g.val + k.val, by omega⟩ : Fin 4096)) fun a => match a with
      | ⟨0, _⟩ => by show r.val = 0 + r.val; omega
      | ⟨1, _⟩ => by show 512 * g.val + k.val = off + k.val; omega).trans (sums_apply x0 x1 x2 x3 x4 r _)
  have e2 : (fun k : Fin 512 => (View.ld x4 (Rect.unit (s := S8x4096) ![1, off] ![1, 512] inbW) (ix2 (0 : Fin 1) k) : EReal))
      = fun k => x4 (ix2 (1 : Fin 8) (⟨512 * g.val + k.val, by omega⟩ : Fin 4096)) := funext fun k =>
    View.ld_unit_apply_of x4 _ _ _ _ _ fun a => match a with
      | ⟨0, _⟩ => rfl
      | ⟨1, _⟩ => by show 512 * g.val + k.val = off + k.val; omega
  rw [← e1, ← e2]

/-- The body leaves these entries. -/
theorem block_apply (c : Dev nD) (i : grid0.Coords) (arg1 : Memref sig .tc .vmem S256x4096 .bf16) (harg1 : arg1.IsWhole) (arg2 : Memref sig .tc .vmem S256x4096 .bf16)
    (harg2 : arg2.IsWhole) (arg3 : Memref sig .tc .vmem S256x4096 .bf16) (harg3 : arg3.IsWhole) (arg4 : Memref sig .tc .vmem S256x4096 .bf16) (harg4 : arg4.IsWhole)
    (arg5 : Memref sig .tc .vmem S8x4096 .f32) (harg5 : arg5.IsWhole) (arg6 : Memref sig .tc .vmem S256x4096 .bf16) (harg6 : arg6.IsWhole) (y : S256x4096.Idx) :
    out0_A_5 (F := Ideal) c i arg1 harg1 arg2 harg2 arg3 harg3 arg4 harg4 arg5 harg5 arg6 harg6 x0 x1 x2 x3 x4 y = finBlock x0 x1 x2 x3 x4 y := by
  have hc := cover0_A_5 c i arg1 harg1 arg2 harg2 arg3 harg3 arg4 harg4 arg5 harg5 arg6 harg6 x0 x1 x2 x3 x4
  unfold out0_A_5
  rw [View.read_writes_eq_canon _ _ _ hc]
  refine View.canon_apply_of_pieces (finBlock x0 x1 x2 x3 x4) _ (View.PiecesOf.mem ?_) y (hc y)
  unfold kernelRun0_A
  dsimp only
  sl_unfold_words
  simp only [View.PiecesOf, View.readAt_eq_ld, harg1.read_unread, harg2.read_unread, harg3.read_unread, harg4.read_unread, harg5.read_unread,
    View.ld_unit_zero (S := S256x4096) hz2]
  refine ⟨
    fun x => piece x0 x1 x2 x3 x4 7 3584 rfl slices_S256x4096_o0_3584_S256x512 inb_S8x4096_S1x512_1_3584 _ _ rfl x,
    fun x => piece x0 x1 x2 x3 x4 6 3072 rfl slices_S256x4096_o0_3072_S256x512 inb_S8x4096_S1x512_1_3072 _ _ rfl x,
    fun x => piece x0 x1 x2 x3 x4 5 2560 rfl slices_S256x4096_o0_2560_S256x512 inb_S8x4096_S1x512_1_2560 _ _ rfl x,
    fun x => piece x0 x1 x2 x3 x4 4 2048 rfl slices_S256x4096_o0_2048_S256x512 inb_S8x4096_S1x512_1_2048 _ _ rfl x,
    fun x => piece x0 x1 x2 x3 x4 3 1536 rfl slices_S256x4096_o0_1536_S256x512 inb_S8x4096_S1x512_1_1536 _ _ rfl x,
    fun x => piece x0 x1 x2 x3 x4 2 1024 rfl slices_S256x4096_o0_1024_S256x512 inb_S8x4096_S1x512_1_1024 _ _ rfl x,
    fun x => piece x0 x1 x2 x3 x4 1 512 rfl slices_S256x4096_o0_512_S256x512 inb_S8x4096_S1x512_1_512 _ _ rfl x,
    fun x => piece x0 x1 x2 x3 x4 0 0 rfl slices_S256x4096_o0_0_S256x512 inb_S8x4096_S1x512_1_0 _ _ rfl x,
    trivial⟩

end Block

end Cert.Finish

end
-- ==== Proof.Finish.Value.lean ====
/-
  The state-space branch's last call against the reference. `ref_apply` reads the reference's result at an entry;
  `skip…`, `norm…`, `row…` read the kernel's blocks in the arguments; `final`: the array the kernel leaves is the
  reference's.
-/
module

public import proofs.«01_k».proof.Proof.Finish.Block
public import proofs.«01_k».proof.Proof.Gen.ReferenceFinishIdeal.Read

@[expose] public section

noncomputable section

open Idealize.ShloMosaic hiding ix1 ix2 ix3 ix4
open Idealize.ShloMosaic.TcCoe Idealize.ShloMosaic.ValueIdx Cert.Common

namespace Cert.Finish

open Cert.KernelFinishIdeal Cert.KernelFinishIdeal.Gen

section Reference

open Cert.ReferenceFinishIdeal.Read

variable (yf yb : FVec Ideal S32768x4096 .bf16) (A : FVec Ideal S32768x6144 .bf16) (M : FVec Ideal S32768x14336 .bf16) (d : FVec Ideal S64 .f32)
  (w : FVec Ideal S4096 .f32)

/-- A gated sum of a row. -/
def sumAt (n : Fin 32768) (j : Fin 4096) : EReal :=
  gate (yf (ix2 n j)) (yb (ix2 n j)) (A (ix2 n (⟨j.val, by omega⟩ : Fin 6144))) (M (ix2 n (⟨j.val, by omega⟩ : Fin 14336)))
    (d (ix1 (⟨j.val / 64, by omega⟩ : Fin 64)))

theorem ref_back (n : Fin 32768) (j : Fin 4096) : idx_main_v2 (idx_main_v13 (ix2 n j)) = ix2 n j := by
  have hn := n.isLt; have hj := j.isLt
  refine funext fun a => Fin.ext ?_
  match a with
  | ⟨0, _⟩ =>
    show ((((n.val * 4096 + j.val) / 4096 * 8 + (n.val * 4096 + j.val) / 512 % 8) * 8 + (n.val * 4096 + j.val) / 64 % 8) * 64 + (n.val * 4096 + j.val) % 64) / 4096 = n.val
    omega
  | ⟨1, _⟩ =>
    show ((((n.val * 4096 + j.val) / 4096 * 8 + (n.val * 4096 + j.val) / 512 % 8) * 8 + (n.val * 4096 + j.val) / 64 % 8) * 64 + (n.val * 4096 + j.val) % 64) % 4096 = j.val
    omega

theorem ref_skip (n : Fin 32768) (j : Fin 4096) : val_main_v5 (F := Ideal) d (idx_main_v13 (ix2 n j)) = d (ix1 (⟨j.val / 64, by omega⟩ : Fin 64)) := by
  have hn := n.isLt; have hj := j.isLt
  rw [val_main_v5_apply, val_main_v4_apply, val_main_v3_apply]
  refine congrArg d (funext fun a => Fin.ext ?_)
  match a with
  | ⟨0, _⟩ => show ((n.val * 4096 + j.val) / 512 % 8 * 8 + (n.val * 4096 + j.val) / 64 % 8) * 1 + 0 = j.val / 64; omega

theorem ref_xs (n : Fin 32768) (j : Fin 4096) : val_main_v2 (F := Ideal) A (idx_main_v13 (ix2 n j)) = A (ix2 n (⟨j.val, by omega⟩ : Fin 6144)) := by
  rw [val_main_v2_apply, ref_back]
  refine (val_main_v0_apply (F := Ideal) A (ix2 n j)).trans (congrArg A (ValueIdx.eq_ix2 _))
theorem ref_yf (n : Fin 32768) (j : Fin 4096) : val_main_v8 (F := Ideal) yf (idx_main_v13 (ix2 n j)) = yf (ix2 n j) := by
  rw [val_main_v8_apply]
  exact congrArg yf (ref_back n j)
theorem ref_yb (n : Fin 32768) (j : Fin 4096) : val_main_v11 (F := Ideal) yb (idx_main_v13 (ix2 n j)) = yb (ix2 n j) := by
  rw [val_main_v11_apply]
  exact congrArg yb (ref_back n j)

theorem ref_z (n : Fin 32768) (j : Fin 4096) : val_main_v16 (F := Ideal) M (ix2 n j)
    = M (ix2 n (⟨j.val, by omega⟩ : Fin 14336)) * Ideal.logistic (M (ix2 n (⟨j.val, by omega⟩ : Fin 14336))) := by
  have e : val_main_v15 (F := Ideal) M (ix2 n j) = M (ix2 n (⟨j.val, by omega⟩ : Fin 14336)) :=
    (val_main_v14_apply (F := Ideal) M (ix2 n j)).trans (congrArg M (ValueIdx.eq_ix2 _))
  rw [← e, ← logistic_host]
  rfl

theorem ref_sum (n : Fin 32768) (j : Fin 4096) : val_main_v17 (F := Ideal) yf yb A M d (ix2 n j) = sumAt yf yb A M d n j := by
  have e : val_main_v13 (F := Ideal) yf yb A d (ix2 n j)
      = d (ix1 (⟨j.val / 64, by omega⟩ : Fin 64)) * A (ix2 n (⟨j.val, by omega⟩ : Fin 6144)) + yf (ix2 n j) + yb (ix2 n j) := by
    rw [val_main_v13_apply, ← ref_skip d n j, ← ref_xs A n j, ← ref_yf yf n j, ← ref_yb yb n j]
    rfl
  unfold sumAt gate
  rw [← ref_z, add_comm (yf (ix2 n j) + yb (ix2 n j) : EReal), ← add_assoc, ← e]
  rfl

theorem ref_group (n : Fin 32768) (g : Fin 8) (k : Fin 512) :
    val_main_v18 (F := Ideal) yf yb A M d (ix3 n g k) = sumAt yf yb A M d n ⟨512 * g.val + k.val, by omega⟩ := by
  have hn := n.isLt; have hg := g.isLt; have hk := k.isLt
  rw [val_main_v18_apply, ← ref_sum]
  refine congrArg (val_main_v17 (F := Ideal) yf yb A M d) (funext fun a => Fin.ext ?_)
  match a with
  | ⟨0, _⟩ => show ((n.val * 8 + g.val) * 512 + k.val) / 4096 = n.val; omega
  | ⟨1, _⟩ => show ((n.val * 8 + g.val) * 512 + k.val) % 4096 = 512 * g.val + k.val; omega

theorem ref_square (n : Fin 32768) (g : Fin 8) : val_main_v24 (F := Ideal) yf yb A M d (ix3 n g (0 : Fin 1))
    = Ideal.div (∑ k : Fin 512, sumAt yf yb A M d n ⟨512 * g.val + k.val, by omega⟩ * sumAt yf yb A M d n ⟨512 * g.val + k.val, by omega⟩) rank := by
  have e : val_main_v22 (F := Ideal) yf yb A M d (ix3 n g (0 : Fin 1))
      = ∑ k : Fin 512, sumAt yf yb A M d n ⟨512 * g.val + k.val, by omega⟩ * sumAt yf yb A M d n ⟨512 * g.val + k.val, by omega⟩ := by
    rw [val_main_v22_apply, val_main_v21_apply]
    refine Eq.trans (congrArg (· + _) Ideal.ofBits_zero_f32) ((zero_add _).trans (Finset.sum_congr rfl fun k _ => ?_))
    rw [← ref_group yf yb A M d n g k]
    exact (congrArg (val_main_v20 (F := Ideal) yf yb A M d) (ValueIdx.eq_ix3 _)).trans rfl
  refine Eq.trans ?_ (congrArg (fun y => Ideal.div y rank) e)
  rfl

/-- A normalized entry of a row. -/
def entryAt (n : Fin 32768) (g : Fin 8) (e : Fin 512) : EReal :=
  rmsRow (fun k => sumAt yf yb A M d n ⟨512 * g.val + k.val, by omega⟩) (fun k => w (ix1 (⟨512 * g.val + k.val, by omega⟩ : Fin 4096))) e

theorem ref_norm (n : Fin 32768) (g : Fin 8) (k : Fin 512) : val_main_v32 (F := Ideal) yf yb A M d w (ix3 n g k) = entryAt yf yb A M d w n g k := by
  have e28 : val_main_v28 (F := Ideal) yf yb A M d (ix3 n g k) = Ideal.rsqrt (val_main_v24 (F := Ideal) yf yb A M d (ix3 n g (0 : Fin 1)) + rmsEps) := by
    rw [val_main_v28_apply, show idx_main_v28 (ix3 n g k) = ix3 n g (0 : Fin 1) from ValueIdx.eq_ix3 _]
    rfl
  have e31 : val_main_v31 (F := Ideal) w (ix3 n g k) = w (ix1 (⟨512 * g.val + k.val, by omega⟩ : Fin 4096)) := by
    rw [val_main_v31_apply, val_main_v30_apply, val_main_v19_apply]
    refine congrArg w (funext fun a => Fin.ext ?_)
    match a with
    | ⟨0, _⟩ => show g.val * 512 + k.val = 512 * g.val + k.val; omega
  unfold entryAt rmsRow
  beta_reduce
  rw [← ref_square, ← e28, ← e31, ← ref_group yf yb A M d n g k]
  rfl

/-- The reference's entry. -/
theorem ref_apply (n : Fin 32768) (j : Fin 4096) : val_main_v34 (F := Ideal) yf yb A M d w (ix2 n j)
    = entryAt yf yb A M d w n ⟨j.val / 512, by omega⟩ ⟨j.val % 512, Nat.mod_lt _ (by decide)⟩ := by
  have hn := n.isLt; have hj := j.isLt
  refine (val_main_v33_apply (F := Ideal) yf yb A M d w (ix2 n j)).trans ?_
  rw [← ref_norm]
  refine congrArg (val_main_v32 (F := Ideal) yf yb A M d w) (funext fun a => Fin.ext ?_)
  match a with
  | ⟨0, _⟩ => show (n.val * 4096 + j.val) / 4096 = n.val; omega
  | ⟨1, _⟩ => show (n.val * 4096 + j.val) / 512 % 8 = j.val / 512; omega
  | ⟨2, _⟩ => show (n.val * 4096 + j.val) % 512 = j.val % 512; omega

end Reference

variable (m : (ℓ : Loc nD τ sig) → Buf (Elt Ideal) ℓ) (c : Dev nD)

/-- The arguments: the two directions' sums, the activated projections, the large projection, the skip factors, the norm's weights. -/
abbrev argF : FVec Ideal S32768x4096 .bf16 := m ((c.tc : Thread nD τ).loc main_arg0)
abbrev argB : FVec Ideal S32768x4096 .bf16 := m ((c.tc : Thread nD τ).loc main_arg1)
abbrev argA : FVec Ideal S32768x6144 .bf16 := m ((c.tc : Thread nD τ).loc main_arg2)
abbrev argM : FVec Ideal S32768x14336 .bf16 := m ((c.tc : Thread nD τ).loc main_arg3)
abbrev argD : FVec Ideal S64 .f32 := m ((c.tc : Thread nD τ).loc main_arg4)
abbrev argW : FVec Ideal S4096 .f32 := m ((c.tc : Thread nD τ).loc main_arg5)

/-- The skip factors, one a channel, and the norm's weights, over six rows of zeros. -/
def params (d : FVec Ideal S64 .f32) (w : FVec Ideal S4096 .f32) : FVec Ideal S8x4096 .f32 :=
  concatenate S8x4096 0 [⟨S2x4096, concatenate S2x4096 0 [⟨S1x4096, broadcastInDim S1x4096 ![1] bcast_S4096_S1x4096_1
      (shapeCast S4096 (broadcastInDim S64x64 ![0] bcast_S64_S64x64_0 d) shapeCasts_S64x64_S4096)⟩,
      ⟨S1x4096, broadcastInDim S1x4096 ![1] bcast_S4096_S1x4096_1 w⟩] concatenates_S1x4096_S1x4096_S2x4096_d0⟩,
    ⟨S6x4096, broadcastInDim S6x4096 ![] bcast_S_S6x4096 (constant (F := Ideal) S_ .f32 0x00000000#32)⟩] concatenates_S2x4096_S6x4096_S8x4096_d0

theorem skip_apply (d : FVec Ideal S64 .f32) (w : FVec Ideal S4096 .f32) (j : Fin 4096) :
    params d w (ix2 (0 : Fin 8) j) = d (ix1 (⟨j.val / 64, by omega⟩ : Fin 64)) := by
  unfold params
  refine (stacked_apply _ _ 0 (by simp) _ rfl 0 rfl (0 : Fin 8) j (0 : Fin 2) rfl).trans ?_
  refine (stacked_apply _ _ 0 (by simp) _ rfl 0 rfl (0 : Fin 2) j (0 : Fin 1) rfl).trans ?_
  refine (broadcastInDim_apply _ _ _ _ (ix1 j) (fun a => match a with | ⟨0, _⟩ => rfl)).trans ?_
  refine (shapeCast_apply _ _ _ (ix2 (⟨j.val / 64, by omega⟩ : Fin 64) (⟨j.val % 64, Nat.mod_lt _ (by decide)⟩ : Fin 64)) (by
    rewrite [Shape.rowMajor_val_two, Shape.rowMajor_val_one]
    show j.val / 64 * 64 + j.val % 64 = j.val
    omega)).trans ?_
  exact broadcastInDim_apply _ _ d _ _ (fun a => match a with | ⟨0, _⟩ => rfl)

theorem norm_apply (d : FVec Ideal S64 .f32) (w : FVec Ideal S4096 .f32) (j : Fin 4096) : params d w (ix2 (1 : Fin 8) j) = w (ix1 j) := by
  unfold params
  refine (stacked_apply _ _ 0 (by simp) _ rfl 0 rfl (1 : Fin 8) j (1 : Fin 2) rfl).trans ?_
  refine (stacked_apply _ _ 1 (by simp) _ rfl 1 rfl (1 : Fin 2) j (0 : Fin 1) rfl).trans ?_
  exact broadcastInDim_apply _ _ w _ (ix1 j) (fun a => match a with | ⟨0, _⟩ => rfl)

theorem V_params : (V m c main_v6 : FVec Ideal S8x4096 .f32) = params (argD m c) (argW m c) := by
  unfold params
  unfold_abbrev_sides
  after_results
  rfl

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])

variable (t : Fin cfg0.N)
theorem lt_N : t.val < 128 := Nat.lt_of_lt_of_eq t.isLt (by decide)

/-- A block's row among all rows. -/
def rowOf (r : Fin 256) : Fin 32768 := ⟨t.val * 256 + r.val, by have := lt_N t; omega⟩

theorem rowF (r : Fin 256) (j : Fin 4096) : iblk m c 0 t (ix2 r j) = argF m c (ix2 (rowOf t r) j) := by
  blk_simp [iblk]
  rw [V_main_arg0]
  refine congrArg (argF m c) (funext fun a => Fin.ext ?_)
  match a with
  | ⟨0, _⟩ => blk_simp [index0]; rfl
  | ⟨1, _⟩ => blk_simp [index0]
theorem rowB (r : Fin 256) (j : Fin 4096) : iblk m c 1 t (ix2 r j) = argB m c (ix2 (rowOf t r) j) := by
  blk_simp [iblk]
  rw [V_main_arg1]
  refine congrArg (argB m c) (funext fun a => Fin.ext ?_)
  match a with
  | ⟨0, _⟩ => blk_simp [index1]; rfl
  | ⟨1, _⟩ => blk_simp [index1]
theorem rowA (r : Fin 256) (j : Fin 4096) : X0_2 m c t (ix2 r j) = argA m c (ix2 (rowOf t r) (⟨j.val, by omega⟩ : Fin 6144)) := by
  unfold X0_2 Pipeline.Window.fill
  rw [dif_pos (moved0_2 t _)]
  blk_simp [iblk]
  rw [V_main_arg2]
  refine congrArg (argA m c) (funext fun a => Fin.ext ?_)
  match a with
  | ⟨0, _⟩ => blk_simp [index2]; rfl
  | ⟨1, _⟩ => blk_simp [index2]
theorem rowM (r : Fin 256) (j : Fin 4096) : X0_3 m c t (ix2 r j) = argM m c (ix2 (rowOf t r) (⟨j.val, by omega⟩ : Fin 14336)) := by
  unfold X0_3 Pipeline.Window.fill
  rw [dif_pos (moved0_3 t _)]
  blk_simp [iblk]
  rw [V_main_arg3]
  refine congrArg (argM m c) (funext fun a => Fin.ext ?_)
  match a with
  | ⟨0, _⟩ => blk_simp [index3]; rfl
  | ⟨1, _⟩ => blk_simp [index3]
theorem rowP (r : Fin 8) (j : Fin 4096) : iblk m c 4 t (ix2 r j) = params (argD m c) (argW m c) (ix2 r j) := by
  blk_simp [iblk]
  refine (congrFun (V_params m c) _).trans ?_
  refine congrArg (params (argD m c) (argW m c)) (funext fun a => Fin.ext ?_)
  match a with
  | ⟨0, _⟩ => blk_simp [index4]
  | ⟨1, _⟩ => blk_simp [index4]

theorem gated_eq (r : Fin 256) (j : Fin 4096) : gatedAt (iblk m c 0 t) (iblk m c 1 t) (X0_2 m c t) (X0_3 m c t) (iblk m c 4 t) r j
    = sumAt (argF m c) (argB m c) (argA m c) (argM m c) (argD m c) (rowOf t r) j := by
  have e := (rowP m c t 0 j).trans (skip_apply (argD m c) (argW m c) j)
  unfold gatedAt sumAt
  rw [← rowF, ← rowB, ← rowA, ← rowM, ← e]

/-- An entry of the block left is the reference's. -/
theorem group_eq (r : Fin 256) (g : Fin 8) (e : Fin 512) : groupAt (iblk m c 0 t) (iblk m c 1 t) (X0_2 m c t) (X0_3 m c t) (iblk m c 4 t) r g e
    = entryAt (argF m c) (argB m c) (argA m c) (argM m c) (argD m c) (argW m c) (rowOf t r) g e := by
  unfold groupAt entryAt
  have e1 : (fun k : Fin 512 => gatedAt (iblk m c 0 t) (iblk m c 1 t) (X0_2 m c t) (X0_3 m c t) (iblk m c 4 t) r ⟨512 * g.val + k.val, by omega⟩)
      = fun k => sumAt (argF m c) (argB m c) (argA m c) (argM m c) (argD m c) (rowOf t r) ⟨512 * g.val + k.val, by omega⟩ :=
    funext fun k => gated_eq m c t r _
  have e2 : (fun k : Fin 512 => (show EReal from iblk m c 4 t (ix2 (1 : Fin 8) (⟨512 * g.val + k.val, by omega⟩ : Fin 4096))))
      = fun k => argW m c (ix1 (⟨512 * g.val + k.val, by omega⟩ : Fin 4096)) :=
    funext fun k => (rowP m c t 1 _).trans (norm_apply (argD m c) (argW m c) _)
  rw [← e1, ← e2]

/-- The array the kernel leaves is the reference's. -/
theorem final : (dats m 0 c).arrAt 5 cfg0.N
    = Cert.ReferenceFinishIdeal.Read.val_main_v34 (F := Ideal) (argF m c) (argB m c) (argA m c) (argM m c) (argD m c) (argW m c) := by
  refine (dats m 0 c).arrAt_eq_of_covers 5 _ (by decide +kernel) fun t _ y => ?_
  blk_simp
  rw [after0_5]
  unfold outsAt0
  refine (block_apply (iblk m c 0 t) (iblk m c 1 t) (X0_2 m c t) (X0_3 m c t) (iblk m c 4 t) c (grid0.coords t) (ms0_0 t) (hs0_0 t) (ms0_1 t) (hs0_1 t)
    (ms0_2 t) (hs0_2 t) (ms0_3 t) (hs0_3 t) (ms0_4 t) (hs0_4 t) (ms0_5 t) (hs0_5 t) _).trans ?_
  obtain ⟨r, j, rfl⟩ : ∃ (r : Fin 256) (j : Fin 4096), y = ix2 r j := ⟨y 0, y 1, ValueIdx.eq_ix2 y⟩
  unfold finBlock
  refine (group_eq m c t r _ _).trans ?_
  generalize hR : Cert.ReferenceFinishIdeal.Read.val_main_v34 (F := Ideal) (argF m c) (argB m c) (argA m c) (argM m c) (argD m c) (argW m c) = R
  refine (ref_apply (argF m c) (argB m c) (argA m c) (argM m c) (argD m c) (argW m c) (rowOf t r) j).symm.trans ?_
  rw [hR]
  refine congrArg R (funext fun a => Fin.ext ?_)
  match a with
  | ⟨0, _⟩ => blk_simp [index5]; rfl
  | ⟨1, _⟩ => blk_simp [index5]

end Cert.Finish

end
-- ==== Proof.Finish.Claims.lean ====
/-
  The claims about the state-space branch's last call: the three runs leave their arguments and the counters as they were, and the kernel and the
  reference leave the same array.
-/
module

public import proofs.«01_k».proof.Defs
public import proofs.«01_k».proof.Proof.Gen.KernelFinish.Frame
public import proofs.«01_k».proof.Proof.Gen.ReferenceFinishIdeal.Run
public import proofs.«01_k».proof.Proof.Finish.Value
public import Idealize.ShloMosaic.Lib.Quiescent

@[expose] public section

noncomputable section

open Idealize.ShloMosaic Idealize.SL.Sem

namespace Cert.Finish

theorem frame_kernel : Cert.quiescent_KernelFinish (hKernelFinish := Cert.KernelFinish.Gen.facts) := fun m ρ _ => Cert.KernelFinish.Gen.frame m ρ
theorem frame_ideal : Cert.quiescent_KernelFinishIdeal (hKernelFinishIdeal := Cert.KernelFinishIdeal.Gen.facts) := fun m ρ _ => Cert.KernelFinishIdeal.Gen.frame m ρ
theorem frame_ref : Cert.quiescent_ReferenceFinishIdeal (hReferenceFinishIdeal := Cert.ReferenceFinishIdeal.Gen.facts) := fun m ρ _ =>
  (θ_run _ _ _).mono (fun r h => ⟨fun c => (h c).2, sem_eq_zero_of_no_sems (by decide) r.2⟩) (Cert.ReferenceFinishIdeal.Value.run (F := Ideal) m ρ)

/-- What the idealization names is what it says. -/
theorem preserves : Cert.preserves_KernelFinish_KernelFinishIdeal := trivial

/-- The kernel's result is the reference's. -/
theorem algebraic : Cert.algebraic_KernelFinishIdeal_ReferenceFinishIdeal (hKernelFinishIdeal := Cert.KernelFinishIdeal.Gen.facts)
    (hReferenceFinishIdeal := Cert.ReferenceFinishIdeal.Gen.facts) := fun m ρ m' ρ' _ hm =>
  ⟨fun c => Cert.ReferenceFinishIdeal.Read.val_main_v34 (F := Ideal) (argF m c) (argB m c) (argA m c) (argM m c) (argD m c) (argW m c),
    (θ_run _ _ _).mono (fun r h c => ⟨(h c).1.trans (final m c), (h c).2⟩) (Cert.KernelFinishIdeal.Value.run_blocks (F := Ideal) m ρ),
    (θ_run _ _ _).mono (fun r h c => ⟨(h c).1.trans (by rw [Cert.ReferenceFinishIdeal.Read.val_main_v34_eq, (hm c).1, (hm c).2.1, (hm c).2.2.1, (hm c).2.2.2.1, (hm c).2.2.2.2.1, (hm c).2.2.2.2.2]),
        (h c).2⟩)
      (Cert.ReferenceFinishIdeal.Value.run (F := Ideal) m' ρ')⟩

end Cert.Finish

end
-- ==== Proof.lean ====
/-
  The proof of `Cert.Claim`: the claims of the calls, each from its own module.
-/
module

public import proofs.«01_k».proof.Defs
public import proofs.«01_k».proof.Proof.FlashClaims
public import proofs.«01_k».proof.Proof.Down.Claims
public import proofs.«01_k».proof.Proof.Up.Claims
public import proofs.«01_k».proof.Proof.Main.Claims
public import proofs.«01_k».proof.Proof.Small.Claims
public import proofs.«01_k».proof.Proof.Merge.Claims
public import proofs.«01_k».proof.Proof.Out.Claims
public import proofs.«01_k».proof.Proof.Query.Claims
public import proofs.«01_k».proof.Proof.Keyvalue.Claims
public import proofs.«01_k».proof.Proof.Conv.Claims
public import proofs.«01_k».proof.Proof.Finish.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
  Cert.KernelDown.Gen.facts, Cert.KernelDownIdeal.Gen.facts, Cert.ReferenceDownIdeal.Gen.facts,
  Cert.KernelUp.Gen.facts, Cert.KernelUpIdeal.Gen.facts, Cert.ReferenceUpIdeal.Gen.facts,
  Cert.KernelMain.Gen.facts, Cert.KernelMainIdeal.Gen.facts, Cert.ReferenceMainIdeal.Gen.facts,
  Cert.KernelSmall.Gen.facts, Cert.KernelSmallIdeal.Gen.facts, Cert.ReferenceSmallIdeal.Gen.facts,
  Cert.KernelMerge.Gen.facts, Cert.KernelMergeIdeal.Gen.facts, Cert.ReferenceMergeIdeal.Gen.facts,
  Cert.KernelOut.Gen.facts, Cert.KernelOutIdeal.Gen.facts, Cert.ReferenceOutIdeal.Gen.facts,
  Cert.KernelQuery.Gen.facts, Cert.KernelQueryIdeal.Gen.facts, Cert.ReferenceQueryIdeal.Gen.facts,
  Cert.KernelKeyvalue.Gen.facts, Cert.KernelKeyvalueIdeal.Gen.facts, Cert.ReferenceKeyvalueIdeal.Gen.facts,
  Cert.KernelConv.Gen.facts, Cert.KernelConvIdeal.Gen.facts, Cert.ReferenceConvIdeal.Gen.facts,
  Cert.KernelFinish.Gen.facts, Cert.KernelFinishIdeal.Gen.facts, Cert.ReferenceFinishIdeal.Gen.facts,
  Cert.Attn.preFacts,
  Cert.Attn.frame_kernel, Cert.Attn.frame_ideal, Cert.Attn.frame_ideal_pre, Cert.Attn.frame_ref, Cert.Attn.frame_ref_pre,
  Cert.Down.frame_kernel, Cert.Down.frame_ideal, Cert.Down.frame_ref,
  Cert.Up.frame_kernel, Cert.Up.frame_ideal, Cert.Up.frame_ref,
  Cert.Main.frame_kernel, Cert.Main.frame_ideal, Cert.Main.frame_ref,
  Cert.Small.frame_kernel, Cert.Small.frame_ideal, Cert.Small.frame_ref,
  Cert.Merge.frame_kernel, Cert.Merge.frame_ideal, Cert.Merge.frame_ref,
  Cert.Out.frame_kernel, Cert.Out.frame_ideal, Cert.Out.frame_ref,
  Cert.Query.frame_kernel, Cert.Query.frame_ideal, Cert.Query.frame_ref,
  Cert.Keyvalue.frame_kernel, Cert.Keyvalue.frame_ideal, Cert.Keyvalue.frame_ref,
  Cert.Conv.frame_kernel, Cert.Conv.frame_ideal, Cert.Conv.frame_ref,
  Cert.Finish.frame_kernel, Cert.Finish.frame_ideal, Cert.Finish.frame_ref,
  trivial, Cert.Attn.algebraic,
  Cert.Down.preserves, Cert.Down.algebraic,
  Cert.Up.preserves, Cert.Up.algebraic,
  Cert.Main.preserves, Cert.Main.algebraic,
  Cert.Small.preserves, Cert.Small.algebraic,
  Cert.Merge.preserves, Cert.Merge.algebraic,
  Cert.Out.preserves, Cert.Out.algebraic,
  Cert.Query.preserves, Cert.Query.algebraic,
  Cert.Keyvalue.preserves, Cert.Keyvalue.algebraic,
  Cert.Conv.preserves, Cert.Conv.algebraic,
  Cert.Finish.preserves, Cert.Finish.algebraic⟩

end Cert.Proof

end
